-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3)
      ∧ r.2.mem ((c.tc : Thread Cert.Kernel23.nD Cert.Kernel23.τ).loc Cert.Kernel23.main_arg4) = m ((c.tc : Thread Cert.Kernel23.nD Cert.Kernel23.τ).loc Cert.Kernel23.main_arg4)
      ∧ r.2.mem ((c.tc : Thread Cert.Kernel23.nD Cert.Kernel23.τ).loc Cert.Kernel23.main_arg5) = m ((c.tc : Thread Cert.Kernel23.nD Cert.Kernel23.τ).loc Cert.Kernel23.main_arg5)
      ∧ r.2.mem ((c.tc : Thread Cert.Kernel23.nD Cert.Kernel23.τ).loc Cert.Kernel23.main_arg6) = m ((c.tc : Thread Cert.Kernel23.nD Cert.Kernel23.τ).loc Cert.Kernel23.main_arg6)
      ∧ r.2.mem ((c.tc : Thread Cert.Kernel23.nD Cert.Kernel23.τ).loc Cert.Kernel23.main_arg7) = m ((c.tc : Thread Cert.Kernel23.nD Cert.Kernel23.τ).loc Cert.Kernel23.main_arg7)
      ∧ r.2.mem ((c.tc : Thread Cert.Kernel23.nD Cert.Kernel23.τ).loc Cert.Kernel23.main_arg8) = m ((c.tc : Thread Cert.Kernel23.nD Cert.Kernel23.τ).loc Cert.Kernel23.main_arg8)
      ∧ r.2.mem ((c.tc : Thread Cert.Kernel23.nD Cert.Kernel23.τ).loc Cert.Kernel23.main_arg9) = m ((c.tc : Thread Cert.Kernel23.nD Cert.Kernel23.τ).loc Cert.Kernel23.main_arg9)
      ∧ r.2.mem ((c.tc : Thread Cert.Kernel23.nD Cert.Kernel23.τ).loc Cert.Kernel23.main_arg10) = m ((c.tc : Thread Cert.Kernel23.nD Cert.Kernel23.τ).loc Cert.Kernel23.main_arg10)
      ∧ r.2.mem ((c.tc : Thread Cert.Kernel23.nD Cert.Kernel23.τ).loc Cert.Kernel23.main_arg11) = m ((c.tc : Thread Cert.Kernel23.nD Cert.Kernel23.τ).loc Cert.Kernel23.main_arg11)
      ∧ r.2.mem ((c.tc : Thread Cert.Kernel23.nD Cert.Kernel23.τ).loc Cert.Kernel23.main_arg12) = m ((c.tc : Thread Cert.Kernel23.nD Cert.Kernel23.τ).loc Cert.Kernel23.main_arg12)
      ∧ r.2.mem ((c.tc : Thread Cert.Kernel23.nD Cert.Kernel23.τ).loc Cert.Kernel23.main_arg13) = m ((c.tc : Thread Cert.Kernel23.nD Cert.Kernel23.τ).loc Cert.Kernel23.main_arg13)
      ∧ r.2.mem ((c.tc : Thread Cert.Kernel23.nD Cert.Kernel23.τ).loc Cert.Kernel23.main_arg14) = m ((c.tc : Thread Cert.Kernel23.nD Cert.Kernel23.τ).loc Cert.Kernel23.main_arg14)
      ∧ r.2.mem ((c.tc : Thread Cert.Kernel23.nD Cert.Kernel23.τ).loc Cert.Kernel23.main_arg15) = m ((c.tc : Thread Cert.Kernel23.nD Cert.Kernel23.τ).loc Cert.Kernel23.main_arg15)
      ∧ r.2.mem ((c.tc : Thread Cert.Kernel23.nD Cert.Kernel23.τ).loc Cert.Kernel23.main_arg16) = m ((c.tc : Thread Cert.Kernel23.nD Cert.Kernel23.τ).loc Cert.Kernel23.main_arg16)
      ∧ r.2.mem ((c.tc : Thread Cert.Kernel23.nD Cert.Kernel23.τ).loc Cert.Kernel23.main_arg17) = m ((c.tc : Thread Cert.Kernel23.nD Cert.Kernel23.τ).loc Cert.Kernel23.main_arg17)
      ∧ r.2.mem ((c.tc : Thread Cert.Kernel23.nD Cert.Kernel23.τ).loc Cert.Kernel23.main_arg18) = m ((c.tc : Thread Cert.Kernel23.nD Cert.Kernel23.τ).loc Cert.Kernel23.main_arg18)
      ∧ r.2.mem ((c.tc : Thread Cert.Kernel23.nD Cert.Kernel23.τ).loc Cert.Kernel23.main_arg19) = m ((c.tc : Thread Cert.Kernel23.nD Cert.Kernel23.τ).loc Cert.Kernel23.main_arg19))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
      ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4)
      ∧ r.2.mem ((c.tc : Thread Cert.Kernel23Ideal.nD Cert.Kernel23Ideal.τ).loc Cert.Kernel23Ideal.main_arg5) = m ((c.tc : Thread Cert.Kernel23Ideal.nD Cert.Kernel23Ideal.τ).loc Cert.Kernel23Ideal.main_arg5)
      ∧ r.2.mem ((c.tc : Thread Cert.Kernel23Ideal.nD Cert.Kernel23Ideal.τ).loc Cert.Kernel23Ideal.main_arg6) = m ((c.tc : Thread Cert.Kernel23Ideal.nD Cert.Kernel23Ideal.τ).loc Cert.Kernel23Ideal.main_arg6)
      ∧ r.2.mem ((c.tc : Thread Cert.Kernel23Ideal.nD Cert.Kernel23Ideal.τ).loc Cert.Kernel23Ideal.main_arg7) = m ((c.tc : Thread Cert.Kernel23Ideal.nD Cert.Kernel23Ideal.τ).loc Cert.Kernel23Ideal.main_arg7)
      ∧ r.2.mem ((c.tc : Thread Cert.Kernel23Ideal.nD Cert.Kernel23Ideal.τ).loc Cert.Kernel23Ideal.main_arg8) = m ((c.tc : Thread Cert.Kernel23Ideal.nD Cert.Kernel23Ideal.τ).loc Cert.Kernel23Ideal.main_arg8)
      ∧ r.2.mem ((c.tc : Thread Cert.Kernel23Ideal.nD Cert.Kernel23Ideal.τ).loc Cert.Kernel23Ideal.main_arg9) = m ((c.tc : Thread Cert.Kernel23Ideal.nD Cert.Kernel23Ideal.τ).loc Cert.Kernel23Ideal.main_arg9)
      ∧ r.2.mem ((c.tc : Thread Cert.Kernel23Ideal.nD Cert.Kernel23Ideal.τ).loc Cert.Kernel23Ideal.main_arg10) = m ((c.tc : Thread Cert.Kernel23Ideal.nD Cert.Kernel23Ideal.τ).loc Cert.Kernel23Ideal.main_arg10)
      ∧ r.2.mem ((c.tc : Thread Cert.Kernel23Ideal.nD Cert.Kernel23Ideal.τ).loc Cert.Kernel23Ideal.main_arg11) = m ((c.tc : Thread Cert.Kernel23Ideal.nD Cert.Kernel23Ideal.τ).loc Cert.Kernel23Ideal.main_arg11)
      ∧ r.2.mem ((c.tc : Thread Cert.Kernel23Ideal.nD Cert.Kernel23Ideal.τ).loc Cert.Kernel23Ideal.main_arg12) = m ((c.tc : Thread Cert.Kernel23Ideal.nD Cert.Kernel23Ideal.τ).loc Cert.Kernel23Ideal.main_arg12)
      ∧ r.2.mem ((c.tc : Thread Cert.Kernel23Ideal.nD Cert.Kernel23Ideal.τ).loc Cert.Kernel23Ideal.main_arg13) = m ((c.tc : Thread Cert.Kernel23Ideal.nD Cert.Kernel23Ideal.τ).loc Cert.Kernel23Ideal.main_arg13)
      ∧ r.2.mem ((c.tc : Thread Cert.Kernel23Ideal.nD Cert.Kernel23Ideal.τ).loc Cert.Kernel23Ideal.main_arg14) = m ((c.tc : Thread Cert.Kernel23Ideal.nD Cert.Kernel23Ideal.τ).loc Cert.Kernel23Ideal.main_arg14)
      ∧ r.2.mem ((c.tc : Thread Cert.Kernel23Ideal.nD Cert.Kernel23Ideal.τ).loc Cert.Kernel23Ideal.main_arg15) = m ((c.tc : Thread Cert.Kernel23Ideal.nD Cert.Kernel23Ideal.τ).loc Cert.Kernel23Ideal.main_arg15)
      ∧ r.2.mem ((c.tc : Thread Cert.Kernel23Ideal.nD Cert.Kernel23Ideal.τ).loc Cert.Kernel23Ideal.main_arg16) = m ((c.tc : Thread Cert.Kernel23Ideal.nD Cert.Kernel23Ideal.τ).loc Cert.Kernel23Ideal.main_arg16)
      ∧ r.2.mem ((c.tc : Thread Cert.Kernel23Ideal.nD Cert.Kernel23Ideal.τ).loc Cert.Kernel23Ideal.main_arg17) = m ((c.tc : Thread Cert.Kernel23Ideal.nD Cert.Kernel23Ideal.τ).loc Cert.Kernel23Ideal.main_arg17)
      ∧ r.2.mem ((c.tc : Thread Cert.Kernel23Ideal.nD Cert.Kernel23Ideal.τ).loc Cert.Kernel23Ideal.main_arg18) = m ((c.tc : Thread Cert.Kernel23Ideal.nD Cert.Kernel23Ideal.τ).loc Cert.Kernel23Ideal.main_arg18)
      ∧ r.2.mem ((c.tc : Thread Cert.Kernel23Ideal.nD Cert.Kernel23Ideal.τ).loc Cert.Kernel23Ideal.main_arg19) = m ((c.tc : Thread Cert.Kernel23Ideal.nD Cert.Kernel23Ideal.τ).loc Cert.Kernel23Ideal.main_arg19))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3)
      ∧ r.2.mem ((c.tc : Thread Cert.Reference23Ideal.nD Cert.Reference23Ideal.τ).loc Cert.Reference23Ideal.main_arg4) = m ((c.tc : Thread Cert.Reference23Ideal.nD Cert.Reference23Ideal.τ).loc Cert.Reference23Ideal.main_arg4)
      ∧ r.2.mem ((c.tc : Thread Cert.Reference23Ideal.nD Cert.Reference23Ideal.τ).loc Cert.Reference23Ideal.main_arg5) = m ((c.tc : Thread Cert.Reference23Ideal.nD Cert.Reference23Ideal.τ).loc Cert.Reference23Ideal.main_arg5)
      ∧ r.2.mem ((c.tc : Thread Cert.Reference23Ideal.nD Cert.Reference23Ideal.τ).loc Cert.Reference23Ideal.main_arg6) = m ((c.tc : Thread Cert.Reference23Ideal.nD Cert.Reference23Ideal.τ).loc Cert.Reference23Ideal.main_arg6)
      ∧ r.2.mem ((c.tc : Thread Cert.Reference23Ideal.nD Cert.Reference23Ideal.τ).loc Cert.Reference23Ideal.main_arg7) = m ((c.tc : Thread Cert.Reference23Ideal.nD Cert.Reference23Ideal.τ).loc Cert.Reference23Ideal.main_arg7)
      ∧ r.2.mem ((c.tc : Thread Cert.Reference23Ideal.nD Cert.Reference23Ideal.τ).loc Cert.Reference23Ideal.main_arg8) = m ((c.tc : Thread Cert.Reference23Ideal.nD Cert.Reference23Ideal.τ).loc Cert.Reference23Ideal.main_arg8)
      ∧ r.2.mem ((c.tc : Thread Cert.Reference23Ideal.nD Cert.Reference23Ideal.τ).loc Cert.Reference23Ideal.main_arg9) = m ((c.tc : Thread Cert.Reference23Ideal.nD Cert.Reference23Ideal.τ).loc Cert.Reference23Ideal.main_arg9)
      ∧ r.2.mem ((c.tc : Thread Cert.Reference23Ideal.nD Cert.Reference23Ideal.τ).loc Cert.Reference23Ideal.main_arg10) = m ((c.tc : Thread Cert.Reference23Ideal.nD Cert.Reference23Ideal.τ).loc Cert.Reference23Ideal.main_arg10)
      ∧ r.2.mem ((c.tc : Thread Cert.Reference23Ideal.nD Cert.Reference23Ideal.τ).loc Cert.Reference23Ideal.main_arg11) = m ((c.tc : Thread Cert.Reference23Ideal.nD Cert.Reference23Ideal.τ).loc Cert.Reference23Ideal.main_arg11)
      ∧ r.2.mem ((c.tc : Thread Cert.Reference23Ideal.nD Cert.Reference23Ideal.τ).loc Cert.Reference23Ideal.main_arg12) = m ((c.tc : Thread Cert.Reference23Ideal.nD Cert.Reference23Ideal.τ).loc Cert.Reference23Ideal.main_arg12)
      ∧ r.2.mem ((c.tc : Thread Cert.Reference23Ideal.nD Cert.Reference23Ideal.τ).loc Cert.Reference23Ideal.main_arg13) = m ((c.tc : Thread Cert.Reference23Ideal.nD Cert.Reference23Ideal.τ).loc Cert.Reference23Ideal.main_arg13)
      ∧ r.2.mem ((c.tc : Thread Cert.Reference23Ideal.nD Cert.Reference23Ideal.τ).loc Cert.Reference23Ideal.main_arg14) = m ((c.tc : Thread Cert.Reference23Ideal.nD Cert.Reference23Ideal.τ).loc Cert.Reference23Ideal.main_arg14)
      ∧ r.2.mem ((c.tc : Thread Cert.Reference23Ideal.nD Cert.Reference23Ideal.τ).loc Cert.Reference23Ideal.main_arg15) = m ((c.tc : Thread Cert.Reference23Ideal.nD Cert.Reference23Ideal.τ).loc Cert.Reference23Ideal.main_arg15)
      ∧ r.2.mem ((c.tc : Thread Cert.Reference23Ideal.nD Cert.Reference23Ideal.τ).loc Cert.Reference23Ideal.main_arg16) = m ((c.tc : Thread Cert.Reference23Ideal.nD Cert.Reference23Ideal.τ).loc Cert.Reference23Ideal.main_arg16)
      ∧ r.2.mem ((c.tc : Thread Cert.Reference23Ideal.nD Cert.Reference23Ideal.τ).loc Cert.Reference23Ideal.main_arg17) = m ((c.tc : Thread Cert.Reference23Ideal.nD Cert.Reference23Ideal.τ).loc Cert.Reference23Ideal.main_arg17)
      ∧ r.2.mem ((c.tc : Thread Cert.Reference23Ideal.nD Cert.Reference23Ideal.τ).loc Cert.Reference23Ideal.main_arg18) = m ((c.tc : Thread Cert.Reference23Ideal.nD Cert.Reference23Ideal.τ).loc Cert.Reference23Ideal.main_arg18)
      ∧ r.2.mem ((c.tc : Thread Cert.Reference23Ideal.nD Cert.Reference23Ideal.τ).loc Cert.Reference23Ideal.main_arg19) = m ((c.tc : Thread Cert.Reference23Ideal.nD Cert.Reference23Ideal.τ).loc Cert.Reference23Ideal.main_arg19))
      ∧ r.2.sem = fun _ => 0)

def preserves_Kernel_KernelIdeal : Prop :=
  IdealRules.named_const.Statement Cert.KernelIdeal.κ "c" .f32 0x3D372713#32 ((8943 / 200000 : ℝ) : EReal)
  ∧ IdealRules.named_const.Statement Cert.KernelIdeal.κ "three_c" .f32 0x3E095D4F#32 ((26829 / 200000 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v117) = v0 c
          ∧ r.2.mem ((c.tc : Thread Cert.ReferenceIdeal.nD Cert.ReferenceIdeal.τ).loc Cert.ReferenceIdeal.main_v120) = v1 c
          ∧ r.2.mem ((c.tc : Thread Cert.ReferenceIdeal.nD Cert.ReferenceIdeal.τ).loc Cert.ReferenceIdeal.main_v121) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v9) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v10) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v10) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v11) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v7) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v6) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v7) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v7) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v6) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v7) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v6) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v7) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v6) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v1) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v4) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v2) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v2) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v3) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v2) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v2) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)) (v3 : (c : Dev Cert.Kernel22Ideal.nD) → Buf (Elt Ideal) ((c.tc : Thread Cert.Kernel22Ideal.nD Cert.Kernel22Ideal.τ).loc Cert.Kernel22Ideal.main_v0_3)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_v0_3) = v3 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v1) = v0 c
          ∧ r.2.mem ((c.tc : Thread Cert.Reference22Ideal.nD Cert.Reference22Ideal.τ).loc Cert.Reference22Ideal.main_v25) = v1 c
          ∧ r.2.mem ((c.tc : Thread Cert.Reference22Ideal.nD Cert.Reference22Ideal.τ).loc Cert.Reference22Ideal.main_v6) = v2 c
          ∧ r.2.mem ((c.tc : Thread Cert.Reference22Ideal.nD Cert.Reference22Ideal.τ).loc Cert.Reference22Ideal.main_v12) = v3 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)
      ∧ m' ((c.tc : Thread Cert.Reference23Ideal.nD Cert.Reference23Ideal.τ).loc Cert.Reference23Ideal.main_arg4) = m ((c.tc : Thread Cert.Kernel23Ideal.nD Cert.Kernel23Ideal.τ).loc Cert.Kernel23Ideal.main_arg4)
      ∧ m' ((c.tc : Thread Cert.Reference23Ideal.nD Cert.Reference23Ideal.τ).loc Cert.Reference23Ideal.main_arg5) = m ((c.tc : Thread Cert.Kernel23Ideal.nD Cert.Kernel23Ideal.τ).loc Cert.Kernel23Ideal.main_arg5)
      ∧ m' ((c.tc : Thread Cert.Reference23Ideal.nD Cert.Reference23Ideal.τ).loc Cert.Reference23Ideal.main_arg6) = m ((c.tc : Thread Cert.Kernel23Ideal.nD Cert.Kernel23Ideal.τ).loc Cert.Kernel23Ideal.main_arg6)
      ∧ m' ((c.tc : Thread Cert.Reference23Ideal.nD Cert.Reference23Ideal.τ).loc Cert.Reference23Ideal.main_arg7) = m ((c.tc : Thread Cert.Kernel23Ideal.nD Cert.Kernel23Ideal.τ).loc Cert.Kernel23Ideal.main_arg7)
      ∧ m' ((c.tc : Thread Cert.Reference23Ideal.nD Cert.Reference23Ideal.τ).loc Cert.Reference23Ideal.main_arg8) = m ((c.tc : Thread Cert.Kernel23Ideal.nD Cert.Kernel23Ideal.τ).loc Cert.Kernel23Ideal.main_arg8)
      ∧ m' ((c.tc : Thread Cert.Reference23Ideal.nD Cert.Reference23Ideal.τ).loc Cert.Reference23Ideal.main_arg9) = m ((c.tc : Thread Cert.Kernel23Ideal.nD Cert.Kernel23Ideal.τ).loc Cert.Kernel23Ideal.main_arg9)
      ∧ m' ((c.tc : Thread Cert.Reference23Ideal.nD Cert.Reference23Ideal.τ).loc Cert.Reference23Ideal.main_arg10) = m ((c.tc : Thread Cert.Kernel23Ideal.nD Cert.Kernel23Ideal.τ).loc Cert.Kernel23Ideal.main_arg10)
      ∧ m' ((c.tc : Thread Cert.Reference23Ideal.nD Cert.Reference23Ideal.τ).loc Cert.Reference23Ideal.main_arg11) = m ((c.tc : Thread Cert.Kernel23Ideal.nD Cert.Kernel23Ideal.τ).loc Cert.Kernel23Ideal.main_arg11)
      ∧ m' ((c.tc : Thread Cert.Reference23Ideal.nD Cert.Reference23Ideal.τ).loc Cert.Reference23Ideal.main_arg12) = m ((c.tc : Thread Cert.Kernel23Ideal.nD Cert.Kernel23Ideal.τ).loc Cert.Kernel23Ideal.main_arg12)
      ∧ m' ((c.tc : Thread Cert.Reference23Ideal.nD Cert.Reference23Ideal.τ).loc Cert.Reference23Ideal.main_arg13) = m ((c.tc : Thread Cert.Kernel23Ideal.nD Cert.Kernel23Ideal.τ).loc Cert.Kernel23Ideal.main_arg13)
      ∧ m' ((c.tc : Thread Cert.Reference23Ideal.nD Cert.Reference23Ideal.τ).loc Cert.Reference23Ideal.main_arg14) = m ((c.tc : Thread Cert.Kernel23Ideal.nD Cert.Kernel23Ideal.τ).loc Cert.Kernel23Ideal.main_arg14)
      ∧ m' ((c.tc : Thread Cert.Reference23Ideal.nD Cert.Reference23Ideal.τ).loc Cert.Reference23Ideal.main_arg15) = m ((c.tc : Thread Cert.Kernel23Ideal.nD Cert.Kernel23Ideal.τ).loc Cert.Kernel23Ideal.main_arg15)
      ∧ m' ((c.tc : Thread Cert.Reference23Ideal.nD Cert.Reference23Ideal.τ).loc Cert.Reference23Ideal.main_arg16) = m ((c.tc : Thread Cert.Kernel23Ideal.nD Cert.Kernel23Ideal.τ).loc Cert.Kernel23Ideal.main_arg16)
      ∧ m' ((c.tc : Thread Cert.Reference23Ideal.nD Cert.Reference23Ideal.τ).loc Cert.Reference23Ideal.main_arg17) = m ((c.tc : Thread Cert.Kernel23Ideal.nD Cert.Kernel23Ideal.τ).loc Cert.Kernel23Ideal.main_arg17)
      ∧ m' ((c.tc : Thread Cert.Reference23Ideal.nD Cert.Reference23Ideal.τ).loc Cert.Reference23Ideal.main_arg18) = m ((c.tc : Thread Cert.Kernel23Ideal.nD Cert.Kernel23Ideal.τ).loc Cert.Kernel23Ideal.main_arg18)
      ∧ m' ((c.tc : Thread Cert.Reference23Ideal.nD Cert.Reference23Ideal.τ).loc Cert.Reference23Ideal.main_arg19) = m ((c.tc : Thread Cert.Kernel23Ideal.nD Cert.Kernel23Ideal.τ).loc Cert.Kernel23Ideal.main_arg19)) →
    ∃ (v0 : (c : Dev Cert.Kernel23Ideal.nD) → Buf (Elt Ideal) ((c.tc : Thread Cert.Kernel23Ideal.nD Cert.Kernel23Ideal.τ).loc Cert.Kernel23Ideal.main_v25_0)) (v1 : (c : Dev Cert.Kernel23Ideal.nD) → Buf (Elt Ideal) ((c.tc : Thread Cert.Kernel23Ideal.nD Cert.Kernel23Ideal.τ).loc Cert.Kernel23Ideal.main_v25_1)) (v2 : (c : Dev Cert.Kernel23Ideal.nD) → Buf (Elt Ideal) ((c.tc : Thread Cert.Kernel23Ideal.nD Cert.Kernel23Ideal.τ).loc Cert.Kernel23Ideal.main_v25_2)) (v3 : (c : Dev Cert.Kernel23Ideal.nD) → Buf (Elt Ideal) ((c.tc : Thread Cert.Kernel23Ideal.nD Cert.Kernel23Ideal.τ).loc Cert.Kernel23Ideal.main_v25_3)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v25_0) = v0 c
          ∧ r.2.mem ((c.tc : Thread Cert.Kernel23Ideal.nD Cert.Kernel23Ideal.τ).loc Cert.Kernel23Ideal.main_v25_1) = v1 c
          ∧ r.2.mem ((c.tc : Thread Cert.Kernel23Ideal.nD Cert.Kernel23Ideal.τ).loc Cert.Kernel23Ideal.main_v25_2) = v2 c
          ∧ r.2.mem ((c.tc : Thread Cert.Kernel23Ideal.nD Cert.Kernel23Ideal.τ).loc Cert.Kernel23Ideal.main_v25_3) = v3 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
          ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4)
          ∧ r.2.mem ((c.tc : Thread Cert.Kernel23Ideal.nD Cert.Kernel23Ideal.τ).loc Cert.Kernel23Ideal.main_arg5) = m ((c.tc : Thread Cert.Kernel23Ideal.nD Cert.Kernel23Ideal.τ).loc Cert.Kernel23Ideal.main_arg5)
          ∧ r.2.mem ((c.tc : Thread Cert.Kernel23Ideal.nD Cert.Kernel23Ideal.τ).loc Cert.Kernel23Ideal.main_arg6) = m ((c.tc : Thread Cert.Kernel23Ideal.nD Cert.Kernel23Ideal.τ).loc Cert.Kernel23Ideal.main_arg6)
          ∧ r.2.mem ((c.tc : Thread Cert.Kernel23Ideal.nD Cert.Kernel23Ideal.τ).loc Cert.Kernel23Ideal.main_arg7) = m ((c.tc : Thread Cert.Kernel23Ideal.nD Cert.Kernel23Ideal.τ).loc Cert.Kernel23Ideal.main_arg7)
          ∧ r.2.mem ((c.tc : Thread Cert.Kernel23Ideal.nD Cert.Kernel23Ideal.τ).loc Cert.Kernel23Ideal.main_arg8) = m ((c.tc : Thread Cert.Kernel23Ideal.nD Cert.Kernel23Ideal.τ).loc Cert.Kernel23Ideal.main_arg8)
          ∧ r.2.mem ((c.tc : Thread Cert.Kernel23Ideal.nD Cert.Kernel23Ideal.τ).loc Cert.Kernel23Ideal.main_arg9) = m ((c.tc : Thread Cert.Kernel23Ideal.nD Cert.Kernel23Ideal.τ).loc Cert.Kernel23Ideal.main_arg9)
          ∧ r.2.mem ((c.tc : Thread Cert.Kernel23Ideal.nD Cert.Kernel23Ideal.τ).loc Cert.Kernel23Ideal.main_arg10) = m ((c.tc : Thread Cert.Kernel23Ideal.nD Cert.Kernel23Ideal.τ).loc Cert.Kernel23Ideal.main_arg10)
          ∧ r.2.mem ((c.tc : Thread Cert.Kernel23Ideal.nD Cert.Kernel23Ideal.τ).loc Cert.Kernel23Ideal.main_arg11) = m ((c.tc : Thread Cert.Kernel23Ideal.nD Cert.Kernel23Ideal.τ).loc Cert.Kernel23Ideal.main_arg11)
          ∧ r.2.mem ((c.tc : Thread Cert.Kernel23Ideal.nD Cert.Kernel23Ideal.τ).loc Cert.Kernel23Ideal.main_arg12) = m ((c.tc : Thread Cert.Kernel23Ideal.nD Cert.Kernel23Ideal.τ).loc Cert.Kernel23Ideal.main_arg12)
          ∧ r.2.mem ((c.tc : Thread Cert.Kernel23Ideal.nD Cert.Kernel23Ideal.τ).loc Cert.Kernel23Ideal.main_arg13) = m ((c.tc : Thread Cert.Kernel23Ideal.nD Cert.Kernel23Ideal.τ).loc Cert.Kernel23Ideal.main_arg13)
          ∧ r.2.mem ((c.tc : Thread Cert.Kernel23Ideal.nD Cert.Kernel23Ideal.τ).loc Cert.Kernel23Ideal.main_arg14) = m ((c.tc : Thread Cert.Kernel23Ideal.nD Cert.Kernel23Ideal.τ).loc Cert.Kernel23Ideal.main_arg14)
          ∧ r.2.mem ((c.tc : Thread Cert.Kernel23Ideal.nD Cert.Kernel23Ideal.τ).loc Cert.Kernel23Ideal.main_arg15) = m ((c.tc : Thread Cert.Kernel23Ideal.nD Cert.Kernel23Ideal.τ).loc Cert.Kernel23Ideal.main_arg15)
          ∧ r.2.mem ((c.tc : Thread Cert.Kernel23Ideal.nD Cert.Kernel23Ideal.τ).loc Cert.Kernel23Ideal.main_arg16) = m ((c.tc : Thread Cert.Kernel23Ideal.nD Cert.Kernel23Ideal.τ).loc Cert.Kernel23Ideal.main_arg16)
          ∧ r.2.mem ((c.tc : Thread Cert.Kernel23Ideal.nD Cert.Kernel23Ideal.τ).loc Cert.Kernel23Ideal.main_arg17) = m ((c.tc : Thread Cert.Kernel23Ideal.nD Cert.Kernel23Ideal.τ).loc Cert.Kernel23Ideal.main_arg17)
          ∧ r.2.mem ((c.tc : Thread Cert.Kernel23Ideal.nD Cert.Kernel23Ideal.τ).loc Cert.Kernel23Ideal.main_arg18) = m ((c.tc : Thread Cert.Kernel23Ideal.nD Cert.Kernel23Ideal.τ).loc Cert.Kernel23Ideal.main_arg18)
          ∧ r.2.mem ((c.tc : Thread Cert.Kernel23Ideal.nD Cert.Kernel23Ideal.τ).loc Cert.Kernel23Ideal.main_arg19) = m ((c.tc : Thread Cert.Kernel23Ideal.nD Cert.Kernel23Ideal.τ).loc Cert.Kernel23Ideal.main_arg19))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v125) = v0 c
          ∧ r.2.mem ((c.tc : Thread Cert.Reference23Ideal.nD Cert.Reference23Ideal.τ).loc Cert.Reference23Ideal.main_v131) = v1 c
          ∧ r.2.mem ((c.tc : Thread Cert.Reference23Ideal.nD Cert.Reference23Ideal.τ).loc Cert.Reference23Ideal.main_v137) = v2 c
          ∧ r.2.mem ((c.tc : Thread Cert.Reference23Ideal.nD Cert.Reference23Ideal.τ).loc Cert.Reference23Ideal.main_v143) = v3 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3)
          ∧ r.2.mem ((c.tc : Thread Cert.Reference23Ideal.nD Cert.Reference23Ideal.τ).loc Cert.Reference23Ideal.main_arg4) = m' ((c.tc : Thread Cert.Reference23Ideal.nD Cert.Reference23Ideal.τ).loc Cert.Reference23Ideal.main_arg4)
          ∧ r.2.mem ((c.tc : Thread Cert.Reference23Ideal.nD Cert.Reference23Ideal.τ).loc Cert.Reference23Ideal.main_arg5) = m' ((c.tc : Thread Cert.Reference23Ideal.nD Cert.Reference23Ideal.τ).loc Cert.Reference23Ideal.main_arg5)
          ∧ r.2.mem ((c.tc : Thread Cert.Reference23Ideal.nD Cert.Reference23Ideal.τ).loc Cert.Reference23Ideal.main_arg6) = m' ((c.tc : Thread Cert.Reference23Ideal.nD Cert.Reference23Ideal.τ).loc Cert.Reference23Ideal.main_arg6)
          ∧ r.2.mem ((c.tc : Thread Cert.Reference23Ideal.nD Cert.Reference23Ideal.τ).loc Cert.Reference23Ideal.main_arg7) = m' ((c.tc : Thread Cert.Reference23Ideal.nD Cert.Reference23Ideal.τ).loc Cert.Reference23Ideal.main_arg7)
          ∧ r.2.mem ((c.tc : Thread Cert.Reference23Ideal.nD Cert.Reference23Ideal.τ).loc Cert.Reference23Ideal.main_arg8) = m' ((c.tc : Thread Cert.Reference23Ideal.nD Cert.Reference23Ideal.τ).loc Cert.Reference23Ideal.main_arg8)
          ∧ r.2.mem ((c.tc : Thread Cert.Reference23Ideal.nD Cert.Reference23Ideal.τ).loc Cert.Reference23Ideal.main_arg9) = m' ((c.tc : Thread Cert.Reference23Ideal.nD Cert.Reference23Ideal.τ).loc Cert.Reference23Ideal.main_arg9)
          ∧ r.2.mem ((c.tc : Thread Cert.Reference23Ideal.nD Cert.Reference23Ideal.τ).loc Cert.Reference23Ideal.main_arg10) = m' ((c.tc : Thread Cert.Reference23Ideal.nD Cert.Reference23Ideal.τ).loc Cert.Reference23Ideal.main_arg10)
          ∧ r.2.mem ((c.tc : Thread Cert.Reference23Ideal.nD Cert.Reference23Ideal.τ).loc Cert.Reference23Ideal.main_arg11) = m' ((c.tc : Thread Cert.Reference23Ideal.nD Cert.Reference23Ideal.τ).loc Cert.Reference23Ideal.main_arg11)
          ∧ r.2.mem ((c.tc : Thread Cert.Reference23Ideal.nD Cert.Reference23Ideal.τ).loc Cert.Reference23Ideal.main_arg12) = m' ((c.tc : Thread Cert.Reference23Ideal.nD Cert.Reference23Ideal.τ).loc Cert.Reference23Ideal.main_arg12)
          ∧ r.2.mem ((c.tc : Thread Cert.Reference23Ideal.nD Cert.Reference23Ideal.τ).loc Cert.Reference23Ideal.main_arg13) = m' ((c.tc : Thread Cert.Reference23Ideal.nD Cert.Reference23Ideal.τ).loc Cert.Reference23Ideal.main_arg13)
          ∧ r.2.mem ((c.tc : Thread Cert.Reference23Ideal.nD Cert.Reference23Ideal.τ).loc Cert.Reference23Ideal.main_arg14) = m' ((c.tc : Thread Cert.Reference23Ideal.nD Cert.Reference23Ideal.τ).loc Cert.Reference23Ideal.main_arg14)
          ∧ r.2.mem ((c.tc : Thread Cert.Reference23Ideal.nD Cert.Reference23Ideal.τ).loc Cert.Reference23Ideal.main_arg15) = m' ((c.tc : Thread Cert.Reference23Ideal.nD Cert.Reference23Ideal.τ).loc Cert.Reference23Ideal.main_arg15)
          ∧ r.2.mem ((c.tc : Thread Cert.Reference23Ideal.nD Cert.Reference23Ideal.τ).loc Cert.Reference23Ideal.main_arg16) = m' ((c.tc : Thread Cert.Reference23Ideal.nD Cert.Reference23Ideal.τ).loc Cert.Reference23Ideal.main_arg16)
          ∧ r.2.mem ((c.tc : Thread Cert.Reference23Ideal.nD Cert.Reference23Ideal.τ).loc Cert.Reference23Ideal.main_arg17) = m' ((c.tc : Thread Cert.Reference23Ideal.nD Cert.Reference23Ideal.τ).loc Cert.Reference23Ideal.main_arg17)
          ∧ r.2.mem ((c.tc : Thread Cert.Reference23Ideal.nD Cert.Reference23Ideal.τ).loc Cert.Reference23Ideal.main_arg18) = m' ((c.tc : Thread Cert.Reference23Ideal.nD Cert.Reference23Ideal.τ).loc Cert.Reference23Ideal.main_arg18)
          ∧ r.2.mem ((c.tc : Thread Cert.Reference23Ideal.nD Cert.Reference23Ideal.τ).loc Cert.Reference23Ideal.main_arg19) = m' ((c.tc : Thread Cert.Reference23Ideal.nD Cert.Reference23Ideal.τ).loc Cert.Reference23Ideal.main_arg19))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
-- ==== Pre_finite.lean ====
abbrev S4x2048x704 : Shape := ⟨3, ![4, 2048, 704]⟩
abbrev S8x2048x704 : Shape := ⟨3, ![8, 2048, 704]⟩
abbrev S8x3x704 : Shape := ⟨3, ![8, 3, 704]⟩
abbrev S5632 : Shape := ⟨1, ![5632]⟩
abbrev S_ : Shape := ⟨0, ![]⟩

class Facts : Prop where
  bitsLt_bf16_f32 : FTy.bits .bf16 < FTy.bits .f32
  bcast_S_S4x2048x704 : S_.BroadcastsInDim S4x2048x704 (![] : Fin 0 → Fin S4x2048x704.rank)
  bcast_S_S8x2048x704 : S_.BroadcastsInDim S8x2048x704 (![] : Fin 0 → Fin S8x2048x704.rank)
  bcast_S_S8x3x704 : S_.BroadcastsInDim S8x3x704 (![] : Fin 0 → Fin S8x3x704.rank)
  bcast_S_S5632 : S_.BroadcastsInDim S5632 (![] : Fin 0 → Fin S5632.rank)

variable [Facts]

def fn {F : FTy → Type} [FloatOps F] (main_arg0 : FVec F S4x2048x704 .bf16) (main_arg1 : FVec F S8x2048x704 .f32) (main_arg2 : FVec F S8x3x704 .f32) (main_arg3 : FVec F S5632 .f32) : IVec S4x2048x704 1 × IVec S8x2048x704 1 × IVec S8x3x704 1 × IVec S5632 1 :=
  let main_v0 : FVec F S4x2048x704 .f32 := (extf .f32 · bitsLt_bf16_f32) main_arg0
  let main_v1 : FVec F S4x2048x704 .f32 := Host.absf main_v0
  let main_cst : FVec F S_ .f32 := constant S_ .f32 0x7F800000#32
  let main_v2 : FVec F S4x2048x704 .f32 := broadcastInDim S4x2048x704 ![] bcast_S_S4x2048x704 main_cst
  let main_v3 : IVec S4x2048x704 1 := cmpf .olt main_v1 main_v2
  let main_v4 : FVec F S8x2048x704 .f32 := Host.absf main_arg1
  let main_cst_0 : FVec F S_ .f32 := constant S_ .f32 0x7F800000#32
  let main_v5 : FVec F S8x2048x704 .f32 := broadcastInDim S8x2048x704 ![] bcast_S_S8x2048x704 main_cst_0
  let main_v6 : IVec S8x2048x704 1 := cmpf .olt main_v4 main_v5
  let main_v7 : FVec F S8x3x704 .f32 := Host.absf main_arg2
  let main_cst_1 : FVec F S_ .f32 := constant S_ .f32 0x7F800000#32
  let main_v8 : FVec F S8x3x704 .f32 := broadcastInDim S8x3x704 ![] bcast_S_S8x3x704 main_cst_1
  let main_v9 : IVec S8x3x704 1 := cmpf .olt main_v7 main_v8
  let main_v10 : FVec F S5632 .f32 := Host.absf main_arg3
  let main_cst_2 : FVec F S_ .f32 := constant S_ .f32 0x7F800000#32
  let main_v11 : FVec F S5632 .f32 := broadcastInDim S5632 ![] bcast_S_S5632 main_cst_2
  let main_v12 : IVec S5632 1 := cmpf .olt main_v10 main_v11
  (main_v3, main_v6, main_v9, main_v12)
-- ==== Kernel.lean ====
abbrev S4x2048x704 : Shape := ⟨3, ![4, 2048, 704]⟩
abbrev S8x2048x704 : Shape := ⟨3, ![8, 2048, 704]⟩
abbrev S8x3x704 : Shape := ⟨3, ![8, 3, 704]⟩
abbrev S5632 : Shape := ⟨1, ![5632]⟩
abbrev S8x1x704 : Shape := ⟨3, ![8, 1, 704]⟩
abbrev S2x4x2048x704 : Shape := ⟨4, ![2, 4, 2048, 704]⟩
abbrev S2x4x3x704 : Shape := ⟨4, ![2, 4, 3, 704]⟩
abbrev S2x4x1x704 : Shape := ⟨4, ![2, 4, 1, 704]⟩
abbrev S1x256x704 : Shape := ⟨3, ![1, 256, 704]⟩
abbrev S2x1x256x704 : Shape := ⟨4, ![2, 1, 256, 704]⟩
abbrev S2x1x8x704 : Shape := ⟨4, ![2, 1, 8, 704]⟩
abbrev S2x1x3x704 : Shape := ⟨4, ![2, 1, 3, 704]⟩
abbrev S2x1x1x704 : Shape := ⟨4, ![2, 1, 1, 704]⟩
abbrev S2x8x704 : Shape := ⟨3, ![2, 8, 704]⟩
abbrev S1x1x256x704 : Shape := ⟨4, ![1, 1, 256, 704]⟩
abbrev S256x704 : Shape := ⟨2, ![256, 704]⟩
abbrev S1x1x8x704 : Shape := ⟨4, ![1, 1, 8, 704]⟩
abbrev S8x704 : Shape := ⟨2, ![8, 704]⟩
abbrev S1x704 : Shape := ⟨2, ![1, 704]⟩
abbrev S1x1x3x704 : Shape := ⟨4, ![1, 1, 3, 704]⟩
abbrev S3x704 : Shape := ⟨2, ![3, 704]⟩
abbrev S1x1x1x704 : Shape := ⟨4, ![1, 1, 1, 704]⟩
abbrev S1x1x704 : Shape := ⟨3, ![1, 1, 704]⟩
abbrev S704 : Shape := ⟨1, ![704]⟩
abbrev S1x8x704 : Shape := ⟨3, ![1, 8, 704]⟩

abbrev nBuf : Space → Nat
  | .hbm => 12
  | .vmem => 17
  | .smem => 0
  | _ => 0

abbrev bufTy : (tb : Table) → Fin (tcTables nBuf tb) → BufTy
  | .hbm, ⟨0, _⟩ => ⟨S4x2048x704, .bf16⟩
  | .hbm, ⟨1, _⟩ => ⟨S8x2048x704, .f32⟩
  | .hbm, ⟨2, _⟩ => ⟨S8x3x704, .f32⟩
  | .hbm, ⟨3, _⟩ => ⟨S5632, .f32⟩
  | .hbm, ⟨4, _⟩ => ⟨S8x1x704, .f32⟩
  | .hbm, ⟨5, _⟩ => ⟨S2x4x2048x704, .f32⟩
  | .hbm, ⟨6, _⟩ => ⟨S2x4x2048x704, .f32⟩
  | .hbm, ⟨7, _⟩ => ⟨S2x4x3x704, .f32⟩
  | .hbm, ⟨8, _⟩ => ⟨S2x4x1x704, .f32⟩
  | .hbm, ⟨9, _⟩ => ⟨S2x4x2048x704, .bf16⟩
  | .hbm, ⟨10, _⟩ => ⟨S2x4x3x704, .f32⟩
  | .hbm, ⟨11, _⟩ => ⟨S2x4x1x704, .f32⟩
  | .local _ .vmem, ⟨0, _⟩ => ⟨S1x256x704, .bf16⟩
  | .local _ .vmem, ⟨1, _⟩ => ⟨S1x256x704, .bf16⟩
  | .local _ .vmem, ⟨2, _⟩ => ⟨S2x1x256x704, .f32⟩
  | .local _ .vmem, ⟨3, _⟩ => ⟨S2x1x256x704, .f32⟩
  | .local _ .vmem, ⟨4, _⟩ => ⟨S2x1x8x704, .f32⟩
  | .local _ .vmem, ⟨5, _⟩ => ⟨S2x1x8x704, .f32⟩
  | .local _ .vmem, ⟨6, _⟩ => ⟨S2x1x3x704, .f32⟩
  | .local _ .vmem, ⟨7, _⟩ => ⟨S2x1x3x704, .f32⟩
  | .local _ .vmem, ⟨8, _⟩ => ⟨S2x1x1x704, .f32⟩
  | .local _ .vmem, ⟨9, _⟩ => ⟨S2x1x1x704, .f32⟩
  | .local _ .vmem, ⟨10, _⟩ => ⟨S2x1x256x704, .bf16⟩
  | .local _ .vmem, ⟨11, _⟩ => ⟨S2x1x256x704, .bf16⟩
  | .local _ .vmem, ⟨12, _⟩ => ⟨S2x1x3x704, .f32⟩
  | .local _ .vmem, ⟨13, _⟩ => ⟨S2x1x3x704, .f32⟩
  | .local _ .vmem, ⟨14, _⟩ => ⟨S2x1x1x704, .f32⟩
  | .local _ .vmem, ⟨15, _⟩ => ⟨S2x1x1x704, .f32⟩
  | .local _ .vmem, ⟨16, _⟩ => ⟨S2x8x704, .f32⟩
  | _, _ => ⟨S4x2048x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c0_i32_153 : BitVec 32 := 0#32
  let v239 : BitVec 1 := Scalar.cmpi .eq arg1 c0_i32_153
  let v240 : BitVec 32 := Scalar.extui v239
  let c0_i32_154 : BitVec 32 := 0#32
  let v241 : BitVec 1 := Scalar.cmpi .ne v240 c0_i32_154
  v241

def k0_cond3 (i : grid0.Coords) : BitVec 1 :=
  let arg1 : BitVec 32 := BitVec.ofNat 32 (i 1).val
  let c0_i32_155 : BitVec 32 := 0#32
  let v242 : BitVec 1 := Scalar.cmpi .sgt arg1 c0_i32_155
  let v243 : BitVec 32 := Scalar.extui v242
  let c0_i32_156 : BitVec 32 := 0#32
  let v244 : BitVec 1 := Scalar.cmpi .ne v243 c0_i32_156
  v244

def k0_cond4 (i : grid0.Coords) : BitVec 1 :=
  let arg1 : BitVec 32 := BitVec.ofNat 32 (i 1).val
  let c0_i32_191 : BitVec 32 := 0#32
  let v297 : BitVec 1 := Scalar.cmpi .eq arg1 c0_i32_191
  let v298 : BitVec 32 := Scalar.extui v297
  let c0_i32_192 : BitVec 32 := 0#32
  let v299 : BitVec 1 := Scalar.cmpi .ne v298 c0_i32_192
  v299

def k0_cond5 (i : grid0.Coords) : BitVec 1 :=
  let arg1 : BitVec 32 := BitVec.ofNat 32 (i 1).val
  let c0_i32_193 : BitVec 32 := 0#32
  let v300 : BitVec 1 := Scalar.cmpi .sgt arg1 c0_i32_193
  let v301 : BitVec 32 := Scalar.extui v300
  let c0_i32_194 : BitVec 32 := 0#32
  let v302 : BitVec 1 := Scalar.cmpi .ne v301 c0_i32_194
  v302

def cc0_transform_0 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![arg0.toNat, v0.toNat, c0_i32.toNat]

def cc0_transform_1 (i : grid0.Coords) : Fin 4 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  let c0_i32_1 : BitVec 32 := 0#32
  ![c0_i32.toNat, arg0.toNat, v0.toNat, c0_i32_0.toNat]

def cc0_transform_2 (i : grid0.Coords) : Fin 4 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c32_i32 : BitVec 32 := 32#32
  let v1 : BitVec 32 := Scalar.muli v0 c32_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  let c0_i32_2 : BitVec 32 := 0#32
  ![c0_i32_0.toNat, arg0.toNat, v3.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  let c0_i32_1 : BitVec 32 := 0#32
  ![c0_i32.toNat, arg0.toNat, v0.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S1x256x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x1x256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x1x8x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x1x3x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2x1x1x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2x1x256x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2x1x3x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2x1x1x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== KernelIdeal.lean ====
variable {F : FTy → Type} [FloatOps F] [Named F]
def κ : String → Option EReal := fun
  | "c" => some ((8943 / 200000 : ℝ) : EReal)
  | "three_c" => some ((26829 / 200000 : ℝ) : EReal)
  | _ => none
-- ==== ReferenceIdeal.lean ====
abbrev S4x2048x704 : Shape := ⟨3, ![4, 2048, 704]⟩
abbrev S8x2048x704 : Shape := ⟨3, ![8, 2048, 704]⟩
abbrev S8x3x704 : Shape := ⟨3, ![8, 3, 704]⟩
abbrev S5632 : Shape := ⟨1, ![5632]⟩
abbrev S2048x8x704 : Shape := ⟨3, ![2048, 8, 704]⟩
abbrev S2048x5632 : Shape := ⟨2, ![2048, 5632]⟩
abbrev S3x8x704 : Shape := ⟨3, ![3, 8, 704]⟩
abbrev S3x5632 : Shape := ⟨2, ![3, 5632]⟩
abbrev S_ : Shape := ⟨0, ![]⟩
abbrev S2x5632 : Shape := ⟨2, ![2, 5632]⟩
abbrev S2050x5632 : Shape := ⟨2, ![2050, 5632]⟩
abbrev S1x5632 : Shape := ⟨2, ![1, 5632]⟩
abbrev S2048x2816 : Shape := ⟨2, ![2048, 2816]⟩
abbrev S2048x4x704 : Shape := ⟨3, ![2048, 4, 704]⟩
abbrev S2x4x2048x704 : Shape := ⟨4, ![2, 4, 2048, 704]⟩
abbrev S2x4x3x704 : Shape := ⟨4, ![2, 4, 3, 704]⟩
abbrev S2x4x1x704 : Shape := ⟨4, ![2, 4, 1, 704]⟩

abbrev nBuf : Space → Nat
  | .hbm => 155
  | .vmem => 0
  | .smem => 0
  | _ => 0

abbrev hbmTy0_0 (i : Nat) : BufTy := match i % 128 with
  | 0 => ⟨S4x2048x704, .bf16⟩
  | 1 => ⟨S8x2048x704, .f32⟩
  | 2 => ⟨S8x3x704, .f32⟩
  | 3 => ⟨S5632, .f32⟩
  | 4 => ⟨S2048x8x704, .f32⟩
  | 5 => ⟨S2048x5632, .f32⟩
  | 6 => ⟨S3x8x704, .f32⟩
  | 7 => ⟨S3x5632, .f32⟩
  | 8 => ⟨S_, .f32⟩
  | 9 => ⟨S2x5632, .f32⟩
  | 10 => ⟨S2050x5632, .f32⟩
  | 11 => ⟨S_, .f32⟩
  | 12 => ⟨S2x5632, .f32⟩
  | 13 => ⟨S2048x5632, .f32⟩
  | 14 => ⟨S1x5632, .f32⟩
  | 15 => ⟨S5632, .f32⟩
  | 16 => ⟨S1x5632, .f32⟩
  | 17 => ⟨S2048x5632, .f32⟩
  | 18 => ⟨S2048x5632, .f32⟩
  | 19 => ⟨S_, .f32⟩
  | 20 => ⟨S2048x5632, .f32⟩
  | 21 => ⟨S2048x5632, .f32⟩
  | 22 => ⟨S2048x5632, .f32⟩
  | 23 => ⟨S1x5632, .f32⟩
  | 24 => ⟨S5632, .f32⟩
  | 25 => ⟨S1x5632, .f32⟩
  | 26 => ⟨S2048x5632, .f32⟩
  | 27 => ⟨S2048x5632, .f32⟩
  | 28 => ⟨S2048x5632, .f32⟩
  | 29 => ⟨S2048x5632, .f32⟩
  | 30 => ⟨S1x5632, .f32⟩
  | 31 => ⟨S5632, .f32⟩
  | 32 => ⟨S1x5632, .f32⟩
  | 33 => ⟨S2048x5632, .f32⟩
  | 34 => ⟨S2048x5632, .f32⟩
  | 35 => ⟨S2048x5632, .f32⟩
  | 36 => ⟨S1x5632, .f32⟩
  | 37 => ⟨S2048x5632, .f32⟩
  | 38 => ⟨S2048x5632, .f32⟩
  | 39 => ⟨S2048x2816, .f32⟩
  | 40 => ⟨S2048x2816, .f32⟩
  | 41 => ⟨S2048x2816, .f32⟩
  | 42 => ⟨S2048x2816, .f32⟩
  | 43 => ⟨S2048x2816, .f32⟩
  | 44 => ⟨S_, .f32⟩
  | 45 => ⟨S2048x2816, .f32⟩
  | 46 => ⟨S2048x2816, .f32⟩
  | 47 => ⟨S_, .f32⟩
  | 48 => ⟨S2048x2816, .f32⟩
  | 49 => ⟨S2048x2816, .f32⟩
  | 50 => ⟨S_, .f32⟩
  | 51 => ⟨S2048x2816, .f32⟩
  | 52 => ⟨S2048x2816, .f32⟩
  | 53 => ⟨S2048x2816, .f32⟩
  | 54 => ⟨S_, .f32⟩
  | 55 => ⟨S2048x2816, .f32⟩
  | 56 => ⟨S2048x2816, .f32⟩
  | 57 => ⟨S_, .f32⟩
  | 58 => ⟨S2048x2816, .f32⟩
  | 59 => ⟨S2048x2816, .f32⟩
  | 60 => ⟨S2048x2816, .f32⟩
  | 61 => ⟨S_, .f32⟩
  | 62 => ⟨S2048x2816, .f32⟩
  | 63 => ⟨S2048x2816, .f32⟩
  | 64 => ⟨S_, .f32⟩
  | 65 => ⟨S2048x2816, .f32⟩
  | 66 => ⟨S2048x2816, .f32⟩
  | 67 => ⟨S2048x2816, .f32⟩
  | 68 => ⟨S_, .f32⟩
  | 69 => ⟨S2048x2816, .f32⟩
  | 70 => ⟨S2048x2816, .f32⟩
  | 71 => ⟨S2048x2816, .f32⟩
  | 72 => ⟨S2048x2816, .f32⟩
  | 73 => ⟨S2048x4x704, .bf16⟩
  | 74 => ⟨S2048x2816, .bf16⟩
  | 75 => ⟨S2048x2816, .f32⟩
  | 76 => ⟨S2048x2816, .f32⟩
  | 77 => ⟨S2048x2816, .f32⟩
  | 78 => ⟨S2048x2816, .f32⟩
  | 79 => ⟨S2048x2816, .f32⟩
  | 80 => ⟨S2048x2816, .f32⟩
  | 81 => ⟨S_, .f32⟩
  | 82 => ⟨S2048x2816, .f32⟩
  | 83 => ⟨S2048x2816, .f32⟩
  | 84 => ⟨S_, .f32⟩
  | 85 => ⟨S2048x2816, .f32⟩
  | 86 => ⟨S2048x2816, .f32⟩
  | 87 => ⟨S2048x2816, .f32⟩
  | 88 => ⟨S_, .f32⟩
  | 89 => ⟨S2048x2816, .f32⟩
  | 90 => ⟨S2048x2816, .f32⟩
  | 91 => ⟨S_, .f32⟩
  | 92 => ⟨S2048x2816, .f32⟩
  | 93 => ⟨S2048x2816, .f32⟩
  | 94 => ⟨S2048x2816, .f32⟩
  | 95 => ⟨S2048x2816, .f32⟩
  | 96 => ⟨S2048x5632, .f32⟩
  | 97 => ⟨S_, .f32⟩
  | 98 => ⟨S5632, .f32⟩
  | 99 => ⟨S1x5632, .f32⟩
  | 100 => ⟨S_, .f32⟩
  | 101 => ⟨S5632, .f32⟩
  | 102 => ⟨S2048x5632, .f32⟩
  | 103 => ⟨S_, .f32⟩
  | 104 => ⟨S5632, .f32⟩
  | 105 => ⟨S1x5632, .f32⟩
  | 106 => ⟨S2048x5632, .f32⟩
  | 107 => ⟨S2048x5632, .f32⟩
  | 108 => ⟨S_, .f32⟩
  | 109 => ⟨S5632, .f32⟩
  | 110 => ⟨S1x5632, .f32⟩
  | 111 => ⟨S_, .f32⟩
  | 112 => ⟨S3x5632, .f32⟩
  | 113 => ⟨S_, .f32⟩
  | 114 => ⟨S2050x5632, .f32⟩
  | 115 => ⟨S2048x5632, .f32⟩
  | 116 => ⟨S_, .f32⟩
  | 117 => ⟨S5632, .f32⟩
  | 118 => ⟨S1x5632, .f32⟩
  | 119 => ⟨S2048x5632, .f32⟩
  | 120 => ⟨S2048x5632, .f32⟩
  | 121 => ⟨S_, .f32⟩
  | 122 => ⟨S5632, .f32⟩
  | 123 => ⟨S1x5632, .f32⟩
  | 124 => ⟨S_, .f32⟩
  | 125 => ⟨S3x5632, .f32⟩
  | 126 => ⟨S3x5632, .f32⟩
  | 127 => ⟨S_, .f32⟩
  | _ => ⟨S4x2048x704, .bf16⟩

abbrev hbmTy0_1 (i : Nat) : BufTy := match i % 128 with
  | 0 => ⟨S2050x5632, .f32⟩
  | 1 => ⟨S2050x5632, .f32⟩
  | 2 => ⟨S2048x5632, .f32⟩
  | 3 => ⟨S_, .f32⟩
  | 4 => ⟨S5632, .f32⟩
  | 5 => ⟨S1x5632, .f32⟩
  | 6 => ⟨S2048x5632, .f32⟩
  | 7 => ⟨S2048x5632, .f32⟩
  | 8 => ⟨S_, .f32⟩
  | 9 => ⟨S5632, .f32⟩
  | 10 => ⟨S1x5632, .f32⟩
  | 11 => ⟨S_, .f32⟩
  | 12 => ⟨S3x5632, .f32⟩
  | 13 => ⟨S3x5632, .f32⟩
  | 14 => ⟨S_, .f32⟩
  | 15 => ⟨S2050x5632, .f32⟩
  | 16 => ⟨S2050x5632, .f32⟩
  | 17 => ⟨S2x5632, .f32⟩
  | 18 => ⟨S2048x5632, .f32⟩
  | 19 => ⟨S2048x8x704, .f32⟩
  | 20 => ⟨S8x2048x704, .f32⟩
  | 21 => ⟨S2x4x2048x704, .f32⟩
  | 22 => ⟨S2x4x2048x704, .bf16⟩
  | 23 => ⟨S3x8x704, .f32⟩
  | 24 => ⟨S8x3x704, .f32⟩
  | 25 => ⟨S2x4x3x704, .f32⟩
  | 26 => ⟨S2x4x1x704, .f32⟩
  | _ => ⟨S4x2048x704, .bf16⟩

abbrev hbmTy (i : Nat) : BufTy := match i / 128 with
  | 0 => hbmTy0_0 i
  | 1 => hbmTy0_1 i
  | _ => ⟨S4x2048x704, .bf16⟩

abbrev bufTy : (tb : Table) → Fin (tcTables nBuf tb) → BufTy
  | .hbm, ⟨i, _⟩ => hbmTy i
  | _, _ => ⟨S4x2048x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_cst_2 : Ref sig .tc := ⟨.hbm, 44, rfl⟩
abbrev main_v37 : Ref sig .tc := ⟨.hbm, 45, rfl⟩
abbrev main_v38 : Ref sig .tc := ⟨.hbm, 46, rfl⟩
abbrev main_cst_3 : Ref sig .tc := ⟨.hbm, 47, rfl⟩
abbrev main_v39 : Ref sig .tc := ⟨.hbm, 48, rfl⟩
abbrev main_v40 : Ref sig .tc := ⟨.hbm, 49, rfl⟩
abbrev main_cst_4 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_cst_5 : Ref sig .tc := ⟨.hbm, 54, rfl⟩
abbrev main_v44 : Ref sig .tc := ⟨.hbm, 55, rfl⟩
abbrev main_v45 : Ref sig .tc := ⟨.hbm, 56, rfl⟩
abbrev main_cst_6 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_cst_7 : Ref sig .tc := ⟨.hbm, 61, rfl⟩
abbrev main_v49 : Ref sig .tc := ⟨.hbm, 62, rfl⟩
abbrev main_v50 : Ref sig .tc := ⟨.hbm, 63, rfl⟩
abbrev main_cst_8 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_9 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_cst_10 : Ref sig .tc := ⟨.hbm, 81, rfl⟩
abbrev main_v66 : Ref sig .tc := ⟨.hbm, 82, rfl⟩
abbrev main_v67 : Ref sig .tc := ⟨.hbm, 83, rfl⟩
abbrev main_cst_11 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_cst_12 : Ref sig .tc := ⟨.hbm, 88, rfl⟩
abbrev main_v71 : Ref sig .tc := ⟨.hbm, 89, rfl⟩
abbrev main_v72 : Ref sig .tc := ⟨.hbm, 90, rfl⟩
abbrev main_cst_13 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_cst_14 : Ref sig .tc := ⟨.hbm, 97, rfl⟩
abbrev main_v78 : Ref sig .tc := ⟨.hbm, 98, rfl⟩
abbrev main_v79 : Ref sig .tc := ⟨.hbm, 99, rfl⟩
abbrev main_cst_15 : Ref sig .tc := ⟨.hbm, 100, rfl⟩
abbrev main_v80 : Ref sig .tc := ⟨.hbm, 101, rfl⟩
abbrev main_v81 : Ref sig .tc := ⟨.hbm, 102, rfl⟩
abbrev main_cst_16 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_cst_17 : Ref sig .tc := ⟨.hbm, 108, rfl⟩
abbrev main_v86 : Ref sig .tc := ⟨.hbm, 109, rfl⟩
abbrev main_v87 : Ref sig .tc := ⟨.hbm, 110, rfl⟩
abbrev main_cst_18 : Ref sig .tc := ⟨.hbm, 111, rfl⟩
abbrev main_v88 : Ref sig .tc := ⟨.hbm, 112, rfl⟩
abbrev main_cst_19 : Ref sig .tc := ⟨.hbm, 113, rfl⟩
abbrev main_v89 : Ref sig .tc := ⟨.hbm, 114, rfl⟩
abbrev main_v90 : Ref sig .tc := ⟨.hbm, 115, rfl⟩
abbrev main_cst_20 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_cst_21 : Ref sig .tc := ⟨.hbm, 121, rfl⟩
abbrev main_v95 : Ref sig .tc := ⟨.hbm, 122, rfl⟩
abbrev main_v96 : Ref sig .tc := ⟨.hbm, 123, rfl⟩
abbrev main_cst_22 : Ref sig .tc := ⟨.hbm, 124, rfl⟩
abbrev main_v97 : Ref sig .tc := ⟨.hbm, 125, rfl⟩
abbrev main_v98 : Ref sig .tc := ⟨.hbm, 126, rfl⟩
abbrev main_cst_23 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_cst_24 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_cst_25 : Ref sig .tc := ⟨.hbm, 136, rfl⟩
abbrev main_v106 : Ref sig .tc := ⟨.hbm, 137, rfl⟩
abbrev main_v107 : Ref sig .tc := ⟨.hbm, 138, rfl⟩
abbrev main_cst_26 : Ref sig .tc := ⟨.hbm, 139, rfl⟩
abbrev main_v108 : Ref sig .tc := ⟨.hbm, 140, rfl⟩
abbrev main_v109 : Ref sig .tc := ⟨.hbm, 141, rfl⟩
abbrev main_cst_27 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩

abbrev nD : Nat := 1
abbrev τ : Topo := Topo.v7x

variable {F : FTy → Type} [FloatOps F]
-- ==== Kernel2.lean ====
abbrev S2048x1024 : Shape := ⟨2, ![2048, 1024]⟩
abbrev S2816x1024 : Shape := ⟨2, ![2816, 1024]⟩
abbrev S4x704x1024 : Shape := ⟨3, ![4, 704, 1024]⟩
abbrev S4x2048x704 : Shape := ⟨3, ![4, 2048, 704]⟩
abbrev S1x704x1024 : Shape := ⟨3, ![1, 704, 1024]⟩
abbrev S1x2048x704 : Shape := ⟨3, ![1, 2048, 704]⟩
abbrev S704x1024 : Shape := ⟨2, ![704, 1024]⟩
abbrev S2048x704 : Shape := ⟨2, ![2048, 704]⟩

abbrev nBuf : Space → Nat
  | .hbm => 4
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2816x1024, .bf16⟩
  | .hbm, ⟨2, _⟩ => ⟨S4x704x1024, .bf16⟩
  | .hbm, ⟨3, _⟩ => ⟨S4x2048x704, .bf16⟩
  | .local _ .vmem, ⟨0, _⟩ => ⟨S2048x1024, .bf16⟩
  | .local _ .vmem, ⟨1, _⟩ => ⟨S1x704x1024, .bf16⟩
  | .local _ .vmem, ⟨2, _⟩ => ⟨S1x704x1024, .bf16⟩
  | .local _ .vmem, ⟨3, _⟩ => ⟨S1x2048x704, .bf16⟩
  | .local _ .vmem, ⟨4, _⟩ => ⟨S1x2048x704, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨4, ![4, 1, 1, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, true, false]

abbrev stage0_1 : Fin 2 → Memref sig .tc .vmem S1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false, false]

abbrev stage0_2 : Fin 2 → Memref sig .tc .vmem S1x2048x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== Reference2Ideal.lean ====
abbrev S2048x1024 : Shape := ⟨2, ![2048, 1024]⟩
abbrev S2816x1024 : Shape := ⟨2, ![2816, 1024]⟩
abbrev S_ : Shape := ⟨0, ![]⟩
abbrev S2048x2816 : Shape := ⟨2, ![2048, 2816]⟩
abbrev S1024x2816 : Shape := ⟨2, ![1024, 2816]⟩
abbrev S2048x4x704 : Shape := ⟨3, ![2048, 4, 704]⟩
abbrev S4x2048x704 : Shape := ⟨3, ![4, 2048, 704]⟩

abbrev nBuf : Space → Nat
  | .hbm => 13
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2816x1024, .bf16⟩
  | .hbm, ⟨2, _⟩ => ⟨S_, .f32⟩
  | .hbm, ⟨3, _⟩ => ⟨S2048x2816, .f32⟩
  | .hbm, ⟨4, _⟩ => ⟨S2816x1024, .f32⟩
  | .hbm, ⟨5, _⟩ => ⟨S2048x1024, .f32⟩
  | .hbm, ⟨6, _⟩ => ⟨S2048x1024, .f32⟩
  | .hbm, ⟨7, _⟩ => ⟨S1024x2816, .f32⟩
  | .hbm, ⟨8, _⟩ => ⟨S2816x1024, .f32⟩
  | .hbm, ⟨9, _⟩ => ⟨S2048x2816, .f32⟩
  | .hbm, ⟨10, _⟩ => ⟨S2048x4x704, .f32⟩
  | .hbm, ⟨11, _⟩ => ⟨S4x2048x704, .f32⟩
  | .hbm, ⟨12, _⟩ => ⟨S4x2048x704, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel3.lean ====
abbrev S4x2048x704 : Shape := ⟨3, ![4, 2048, 704]⟩
abbrev S2048x1024 : Shape := ⟨2, ![2048, 1024]⟩
abbrev S4x704x1024 : Shape := ⟨3, ![4, 704, 1024]⟩
abbrev S1x2048x704 : Shape := ⟨3, ![1, 2048, 704]⟩
abbrev S1x704x1024 : Shape := ⟨3, ![1, 704, 1024]⟩
abbrev S2048x704 : Shape := ⟨2, ![2048, 704]⟩
abbrev S704x1024 : Shape := ⟨2, ![704, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4x2048x704, .bf16⟩
  | .hbm, ⟨1, _⟩ => ⟨S2048x1024, .bf16⟩
  | .hbm, ⟨2, _⟩ => ⟨S4x704x1024, .bf16⟩
  | .local _ .vmem, ⟨0, _⟩ => ⟨S1x2048x704, .bf16⟩
  | .local _ .vmem, ⟨1, _⟩ => ⟨S1x2048x704, .bf16⟩
  | .local _ .vmem, ⟨2, _⟩ => ⟨S2048x1024, .bf16⟩
  | .local _ .vmem, ⟨3, _⟩ => ⟨S1x704x1024, .bf16⟩
  | .local _ .vmem, ⟨4, _⟩ => ⟨S1x704x1024, .bf16⟩
  | _, _ => ⟨S4x2048x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨4, ![4, 1, 1, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, c0_i32.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

abbrev stage0_0 : Fin 2 → Memref sig .tc .vmem S1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false, false]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== Reference3Ideal.lean ====
abbrev S4x2048x704 : Shape := ⟨3, ![4, 2048, 704]⟩
abbrev S2048x1024 : Shape := ⟨2, ![2048, 1024]⟩
abbrev S_ : Shape := ⟨0, ![]⟩
abbrev S2816x1024 : Shape := ⟨2, ![2816, 1024]⟩
abbrev S2048x4x704 : Shape := ⟨3, ![2048, 4, 704]⟩
abbrev S2048x2816 : Shape := ⟨2, ![2048, 2816]⟩
abbrev S1024x2816 : Shape := ⟨2, ![1024, 2816]⟩
abbrev S4x704x1024 : Shape := ⟨3, ![4, 704, 1024]⟩

abbrev nBuf : Space → Nat
  | .hbm => 14
  | .vmem => 0
  | .smem => 0
  | _ => 0

abbrev bufTy : (tb : Table) → Fin (tcTables nBuf tb) → BufTy
  | .hbm, ⟨0, _⟩ => ⟨S4x2048x704, .bf16⟩
  | .hbm, ⟨1, _⟩ => ⟨S2048x1024, .bf16⟩
  | .hbm, ⟨2, _⟩ => ⟨S_, .f32⟩
  | .hbm, ⟨3, _⟩ => ⟨S2816x1024, .f32⟩
  | .hbm, ⟨4, _⟩ => ⟨S2048x4x704, .bf16⟩
  | .hbm, ⟨5, _⟩ => ⟨S2048x2816, .bf16⟩
  | .hbm, ⟨6, _⟩ => ⟨S2048x2816, .f32⟩
  | .hbm, ⟨7, _⟩ => ⟨S2048x1024, .f32⟩
  | .hbm, ⟨8, _⟩ => ⟨S2048x1024, .f32⟩
  | .hbm, ⟨9, _⟩ => ⟨S1024x2816, .f32⟩
  | .hbm, ⟨10, _⟩ => ⟨S2816x1024, .f32⟩
  | .hbm, ⟨11, _⟩ => ⟨S2048x2816, .f32⟩
  | .hbm, ⟨12, _⟩ => ⟨S4x704x1024, .f32⟩
  | .hbm, ⟨13, _⟩ => ⟨S4x704x1024, .bf16⟩
  | _, _ => ⟨S4x2048x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel4.lean ====
abbrev S8x2048x704 : Shape := ⟨3, ![8, 2048, 704]⟩
abbrev S8x1024x704 : Shape := ⟨3, ![8, 1024, 704]⟩
abbrev S2048x1024 : Shape := ⟨2, ![2048, 1024]⟩
abbrev S1x1024x704 : Shape := ⟨3, ![1, 1024, 704]⟩
abbrev S1024x1024 : Shape := ⟨2, ![1024, 1024]⟩
abbrev S1024x704 : Shape := ⟨2, ![1024, 704]⟩

abbrev nBuf : Space → Nat
  | .hbm => 3
  | .vmem => 7
  | .smem => 0
  | _ => 0

abbrev bufTy : (tb : Table) → Fin (tcTables nBuf tb) → BufTy
  | .hbm, ⟨0, _⟩ => ⟨S8x2048x704, .bf16⟩
  | .hbm, ⟨1, _⟩ => ⟨S8x1024x704, .bf16⟩
  | .hbm, ⟨2, _⟩ => ⟨S2048x1024, .f32⟩
  | .local _ .vmem, ⟨0, _⟩ => ⟨S1x1024x704, .bf16⟩
  | .local _ .vmem, ⟨1, _⟩ => ⟨S1x1024x704, .bf16⟩
  | .local _ .vmem, ⟨2, _⟩ => ⟨S1x1024x704, .bf16⟩
  | .local _ .vmem, ⟨3, _⟩ => ⟨S1x1024x704, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8x2048x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 1, 2, 8], ![false, false, false, false]⟩

def k0_cond3 (i : grid0.Coords) : BitVec 1 :=
  let arg3 : BitVec 32 := BitVec.ofNat 32 (i 3).val
  let c7_i32 : BitVec 32 := 7#32
  let v11 : BitVec 1 := Scalar.cmpi .eq arg3 c7_i32
  let v12 : BitVec 32 := Scalar.extui v11
  let c0_i32_8 : BitVec 32 := 0#32
  let v13 : BitVec 1 := Scalar.cmpi .ne v12 c0_i32_8
  v13

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg3.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg3.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg1.toNat]

abbrev stage0_0 : Fin 2 → Memref sig .tc .vmem S1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true, true]

abbrev stage0_1 : Fin 2 → Memref sig .tc .vmem S1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== Reference4Ideal.lean ====
abbrev S8x2048x704 : Shape := ⟨3, ![8, 2048, 704]⟩
abbrev S8x1024x704 : Shape := ⟨3, ![8, 1024, 704]⟩
abbrev S_ : Shape := ⟨0, ![]⟩
abbrev S2048x1024 : Shape := ⟨2, ![2048, 1024]⟩
abbrev S1024x8x704 : Shape := ⟨3, ![1024, 8, 704]⟩
abbrev S1024x5632 : Shape := ⟨2, ![1024, 5632]⟩
abbrev S2048x5632 : Shape := ⟨2, ![2048, 5632]⟩
abbrev S2048x8x704 : Shape := ⟨3, ![2048, 8, 704]⟩
abbrev S5632x1024 : Shape := ⟨2, ![5632, 1024]⟩

abbrev nBuf : Space → Nat
  | .hbm => 14
  | .vmem => 0
  | .smem => 0
  | _ => 0

abbrev bufTy : (tb : Table) → Fin (tcTables nBuf tb) → BufTy
  | .hbm, ⟨0, _⟩ => ⟨S8x2048x704, .bf16⟩
  | .hbm, ⟨1, _⟩ => ⟨S8x1024x704, .bf16⟩
  | .hbm, ⟨2, _⟩ => ⟨S_, .f32⟩
  | .hbm, ⟨3, _⟩ => ⟨S2048x1024, .f32⟩
  | .hbm, ⟨4, _⟩ => ⟨S1024x8x704, .bf16⟩
  | .hbm, ⟨5, _⟩ => ⟨S1024x5632, .bf16⟩
  | .hbm, ⟨6, _⟩ => ⟨S1024x5632, .f32⟩
  | .hbm, ⟨7, _⟩ => ⟨S2048x5632, .f32⟩
  | .hbm, ⟨8, _⟩ => ⟨S2048x8x704, .bf16⟩
  | .hbm, ⟨9, _⟩ => ⟨S2048x5632, .bf16⟩
  | .hbm, ⟨10, _⟩ => ⟨S2048x5632, .f32⟩
  | .hbm, ⟨11, _⟩ => ⟨S5632x1024, .f32⟩
  | .hbm, ⟨12, _⟩ => ⟨S1024x5632, .f32⟩
  | .hbm, ⟨13, _⟩ => ⟨S2048x1024, .f32⟩
  | _, _ => ⟨S8x2048x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel5.lean ====
abbrev S2048x1024 : Shape := ⟨2, ![2048, 1024]⟩
abbrev S8x2048x704 : Shape := ⟨3, ![8, 2048, 704]⟩
abbrev S8x1024x704 : Shape := ⟨3, ![8, 1024, 704]⟩
abbrev S1x2048x704 : Shape := ⟨3, ![1, 2048, 704]⟩
abbrev S1x1024x704 : Shape := ⟨3, ![1, 1024, 704]⟩
abbrev S2048x704 : Shape := ⟨2, ![2048, 704]⟩
abbrev S1024x704 : Shape := ⟨2, ![1024, 704]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S8x2048x704, .bf16⟩
  | .hbm, ⟨2, _⟩ => ⟨S8x1024x704, .bf16⟩
  | .local _ .vmem, ⟨0, _⟩ => ⟨S2048x1024, .bf16⟩
  | .local _ .vmem, ⟨1, _⟩ => ⟨S1x2048x704, .bf16⟩
  | .local _ .vmem, ⟨2, _⟩ => ⟨S1x2048x704, .bf16⟩
  | .local _ .vmem, ⟨3, _⟩ => ⟨S1x1024x704, .bf16⟩
  | .local _ .vmem, ⟨4, _⟩ => ⟨S1x1024x704, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨4, ![8, 1, 1, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, true, false]

abbrev stage0_1 : Fin 2 → Memref sig .tc .vmem S1x2048x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false, false]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== Reference5Ideal.lean ====
abbrev S2048x1024 : Shape := ⟨2, ![2048, 1024]⟩
abbrev S8x2048x704 : Shape := ⟨3, ![8, 2048, 704]⟩
abbrev S_ : Shape := ⟨0, ![]⟩
abbrev S1024x5632 : Shape := ⟨2, ![1024, 5632]⟩
abbrev S2048x5632 : Shape := ⟨2, ![2048, 5632]⟩
abbrev S2048x8x704 : Shape := ⟨3, ![2048, 8, 704]⟩
abbrev S5632x1024 : Shape := ⟨2, ![5632, 1024]⟩
abbrev S1024x8x704 : Shape := ⟨3, ![1024, 8, 704]⟩
abbrev S8x1024x704 : Shape := ⟨3, ![8, 1024, 704]⟩

abbrev nBuf : Space → Nat
  | .hbm => 15
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S8x2048x704, .bf16⟩
  | .hbm, ⟨2, _⟩ => ⟨S_, .f32⟩
  | .hbm, ⟨3, _⟩ => ⟨S1024x5632, .f32⟩
  | .hbm, ⟨4, _⟩ => ⟨S2048x1024, .f32⟩
  | .hbm, ⟨5, _⟩ => ⟨S2048x5632, .f32⟩
  | .hbm, ⟨6, _⟩ => ⟨S2048x8x704, .bf16⟩
  | .hbm, ⟨7, _⟩ => ⟨S2048x5632, .bf16⟩
  | .hbm, ⟨8, _⟩ => ⟨S2048x5632, .f32⟩
  | .hbm, ⟨9, _⟩ => ⟨S5632x1024, .f32⟩
  | .hbm, ⟨10, _⟩ => ⟨S1024x5632, .f32⟩
  | .hbm, ⟨11, _⟩ => ⟨S2048x1024, .f32⟩
  | .hbm, ⟨12, _⟩ => ⟨S1024x8x704, .f32⟩
  | .hbm, ⟨13, _⟩ => ⟨S8x1024x704, .f32⟩
  | .hbm, ⟨14, _⟩ => ⟨S8x1024x704, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== Kernel6.lean ====
abbrev S2048x2304 : Shape := ⟨2, ![2048, 2304]⟩
abbrev S1024x2304 : Shape := ⟨2, ![1024, 2304]⟩
abbrev S2048x1024 : Shape := ⟨2, ![2048, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x2304, .bf16⟩
  | .hbm, ⟨1, _⟩ => ⟨S1024x2304, .bf16⟩
  | .hbm, ⟨2, _⟩ => ⟨S2048x1024, .f32⟩
  | .local _ .vmem, ⟨0, _⟩ => ⟨S1024x2304, .bf16⟩
  | .local _ .vmem, ⟨1, _⟩ => ⟨S1024x2304, .bf16⟩
  | .local _ .vmem, ⟨2, _⟩ => ⟨S1024x2304, .bf16⟩
  | .local _ .vmem, ⟨3, _⟩ => ⟨S1024x1024, .f32⟩
  | .local _ .vmem, ⟨4, _⟩ => ⟨S1024x1024, .f32⟩
  | _, _ => ⟨S2048x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨4, ![1, 1, 2, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg1.toNat]

abbrev stage0_0 : Fin 2 → Memref sig .tc .vmem S1024x2304 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true, false]

abbrev stage0_1 : Fin 1 → Memref sig .tc .vmem S1024x2304 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== Reference6Ideal.lean ====
abbrev S2048x2304 : Shape := ⟨2, ![2048, 2304]⟩
abbrev S1024x2304 : Shape := ⟨2, ![1024, 2304]⟩
abbrev S_ : Shape := ⟨0, ![]⟩
abbrev S2048x1024 : Shape := ⟨2, ![2048, 1024]⟩
abbrev S2304x1024 : Shape := ⟨2, ![2304, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2048x2304, .bf16⟩
  | .hbm, ⟨1, _⟩ => ⟨S1024x2304, .bf16⟩
  | .hbm, ⟨2, _⟩ => ⟨S_, .f32⟩
  | .hbm, ⟨3, _⟩ => ⟨S2048x1024, .f32⟩
  | .hbm, ⟨4, _⟩ => ⟨S1024x2304, .f32⟩
  | .hbm, ⟨5, _⟩ => ⟨S2048x2304, .f32⟩
  | .hbm, ⟨6, _⟩ => ⟨S2048x2304, .f32⟩
  | .hbm, ⟨7, _⟩ => ⟨S2304x1024, .f32⟩
  | .hbm, ⟨8, _⟩ => ⟨S1024x2304, .f32⟩
  | .hbm, ⟨9, _⟩ => ⟨S2048x1024, .f32⟩
  | _, _ => ⟨S2048x2304, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel7.lean ====
abbrev S2048x1024 : Shape := ⟨2, ![2048, 1024]⟩
abbrev S2048x2304 : Shape := ⟨2, ![2048, 2304]⟩
abbrev S1024x2304 : Shape := ⟨2, ![1024, 2304]⟩
abbrev S2048x512 : Shape := ⟨2, ![2048, 512]⟩
abbrev S2048x768 : Shape := ⟨2, ![2048, 768]⟩
abbrev S512x768 : Shape := ⟨2, ![512, 768]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S2048x2304, .bf16⟩
  | .hbm, ⟨2, _⟩ => ⟨S1024x2304, .bf16⟩
  | .local _ .vmem, ⟨0, _⟩ => ⟨S2048x512, .bf16⟩
  | .local _ .vmem, ⟨1, _⟩ => ⟨S2048x512, .bf16⟩
  | .local _ .vmem, ⟨2, _⟩ => ⟨S2048x768, .bf16⟩
  | .local _ .vmem, ⟨3, _⟩ => ⟨S2048x768, .bf16⟩
  | .local _ .vmem, ⟨4, _⟩ => ⟨S512x768, .bf16⟩
  | .local _ .vmem, ⟨5, _⟩ => ⟨S512x768, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 3, 2, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true, false]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false, false]

abbrev stage0_2 : Fin 2 → Memref sig .tc .vmem S512x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== Reference7Ideal.lean ====
abbrev S2048x1024 : Shape := ⟨2, ![2048, 1024]⟩
abbrev S2048x2304 : Shape := ⟨2, ![2048, 2304]⟩
abbrev S_ : Shape := ⟨0, ![]⟩
abbrev S1024x2304 : Shape := ⟨2, ![1024, 2304]⟩
abbrev S2304x1024 : Shape := ⟨2, ![2304, 1024]⟩

abbrev nBuf : Space → Nat
  | .hbm => 11
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x2304, .bf16⟩
  | .hbm, ⟨2, _⟩ => ⟨S_, .f32⟩
  | .hbm, ⟨3, _⟩ => ⟨S1024x2304, .f32⟩
  | .hbm, ⟨4, _⟩ => ⟨S2048x1024, .f32⟩
  | .hbm, ⟨5, _⟩ => ⟨S2048x2304, .f32⟩
  | .hbm, ⟨6, _⟩ => ⟨S2048x2304, .f32⟩
  | .hbm, ⟨7, _⟩ => ⟨S2304x1024, .f32⟩
  | .hbm, ⟨8, _⟩ => ⟨S1024x2304, .f32⟩
  | .hbm, ⟨9, _⟩ => ⟨S2048x1024, .f32⟩
  | .hbm, ⟨10, _⟩ => ⟨S1024x2304, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel8.lean ====
abbrev S2048x1024 : Shape := ⟨2, ![2048, 1024]⟩
abbrev S768x1024 : Shape := ⟨2, ![768, 1024]⟩
abbrev S2048x768 : Shape := ⟨2, ![2048, 768]⟩
abbrev S1024x1024 : Shape := ⟨2, ![1024, 1024]⟩
abbrev S1024x768 : Shape := ⟨2, ![1024, 768]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S768x1024, .bf16⟩
  | .hbm, ⟨2, _⟩ => ⟨S2048x768, .f32⟩
  | .local _ .vmem, ⟨0, _⟩ => ⟨S1024x1024, .bf16⟩
  | .local _ .vmem, ⟨1, _⟩ => ⟨S1024x1024, .bf16⟩
  | .local _ .vmem, ⟨2, _⟩ => ⟨S768x1024, .bf16⟩
  | .local _ .vmem, ⟨3, _⟩ => ⟨S1024x768, .f32⟩
  | .local _ .vmem, ⟨4, _⟩ => ⟨S1024x768, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨4, ![1, 1, 2, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true, false]

abbrev stage0_1 : Fin 1 → Memref sig .tc .vmem S768x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false, false]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== Reference8Ideal.lean ====
abbrev S2048x1024 : Shape := ⟨2, ![2048, 1024]⟩
abbrev S768x1024 : Shape := ⟨2, ![768, 1024]⟩
abbrev S_ : Shape := ⟨0, ![]⟩
abbrev S2048x768 : Shape := ⟨2, ![2048, 768]⟩
abbrev S1024x768 : Shape := ⟨2, ![1024, 768]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S768x1024, .bf16⟩
  | .hbm, ⟨2, _⟩ => ⟨S_, .f32⟩
  | .hbm, ⟨3, _⟩ => ⟨S2048x768, .f32⟩
  | .hbm, ⟨4, _⟩ => ⟨S768x1024, .f32⟩
  | .hbm, ⟨5, _⟩ => ⟨S2048x1024, .f32⟩
  | .hbm, ⟨6, _⟩ => ⟨S2048x1024, .f32⟩
  | .hbm, ⟨7, _⟩ => ⟨S1024x768, .f32⟩
  | .hbm, ⟨8, _⟩ => ⟨S768x1024, .f32⟩
  | .hbm, ⟨9, _⟩ => ⟨S2048x768, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel9.lean ====
abbrev S2048x768 : Shape := ⟨2, ![2048, 768]⟩
abbrev S2048x1024 : Shape := ⟨2, ![2048, 1024]⟩
abbrev S768x1024 : Shape := ⟨2, ![768, 1024]⟩
abbrev S2048x512 : Shape := ⟨2, ![2048, 512]⟩
abbrev S768x512 : Shape := ⟨2, ![768, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x768, .bf16⟩
  | .hbm, ⟨1, _⟩ => ⟨S2048x1024, .bf16⟩
  | .hbm, ⟨2, _⟩ => ⟨S768x1024, .bf16⟩
  | .local _ .vmem, ⟨0, _⟩ => ⟨S2048x768, .bf16⟩
  | .local _ .vmem, ⟨1, _⟩ => ⟨S2048x512, .bf16⟩
  | .local _ .vmem, ⟨2, _⟩ => ⟨S2048x512, .bf16⟩
  | .local _ .vmem, ⟨3, _⟩ => ⟨S768x512, .bf16⟩
  | .local _ .vmem, ⟨4, _⟩ => ⟨S768x512, .bf16⟩
  | _, _ => ⟨S2048x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨4, ![1, 2, 1, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg1.toNat]

abbrev stage0_0 : Fin 1 → Memref sig .tc .vmem S2048x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false, false]

abbrev stage0_2 : Fin 2 → Memref sig .tc .vmem S768x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== Reference9Ideal.lean ====
abbrev S2048x768 : Shape := ⟨2, ![2048, 768]⟩
abbrev S2048x1024 : Shape := ⟨2, ![2048, 1024]⟩
abbrev S_ : Shape := ⟨0, ![]⟩
abbrev S768x1024 : Shape := ⟨2, ![768, 1024]⟩
abbrev S1024x768 : Shape := ⟨2, ![1024, 768]⟩

abbrev nBuf : Space → Nat
  | .hbm => 11
  | .vmem => 0
  | .smem => 0
  | _ => 0

abbrev bufTy : (tb : Table) → Fin (tcTables nBuf tb) → BufTy
  | .hbm, ⟨0, _⟩ => ⟨S2048x768, .bf16⟩
  | .hbm, ⟨1, _⟩ => ⟨S2048x1024, .bf16⟩
  | .hbm, ⟨2, _⟩ => ⟨S_, .f32⟩
  | .hbm, ⟨3, _⟩ => ⟨S768x1024, .f32⟩
  | .hbm, ⟨4, _⟩ => ⟨S2048x768, .f32⟩
  | .hbm, ⟨5, _⟩ => ⟨S2048x1024, .f32⟩
  | .hbm, ⟨6, _⟩ => ⟨S2048x1024, .f32⟩
  | .hbm, ⟨7, _⟩ => ⟨S1024x768, .f32⟩
  | .hbm, ⟨8, _⟩ => ⟨S768x1024, .f32⟩
  | .hbm, ⟨9, _⟩ => ⟨S2048x768, .f32⟩
  | .hbm, ⟨10, _⟩ => ⟨S768x1024, .bf16⟩
  | _, _ => ⟨S2048x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel10.lean ====
abbrev S2048x1024 : Shape := ⟨2, ![2048, 1024]⟩
abbrev S1024x1024 : Shape := ⟨2, ![1024, 1024]⟩
abbrev S512x1024 : Shape := ⟨2, ![512, 1024]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .bf16⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x512, .bf16⟩
  | .local _ .vmem, ⟨5, _⟩ => ⟨S1024x512, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 2, 2, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== Reference10Ideal.lean ====
abbrev S2048x1024 : Shape := ⟨2, ![2048, 1024]⟩
abbrev S1024x1024 : Shape := ⟨2, ![1024, 1024]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S_, .f32⟩
  | .hbm, ⟨3, _⟩ => ⟨S2048x1024, .f32⟩
  | .hbm, ⟨4, _⟩ => ⟨S1024x1024, .f32⟩
  | .hbm, ⟨5, _⟩ => ⟨S2048x1024, .f32⟩
  | .hbm, ⟨6, _⟩ => ⟨S2048x1024, .f32⟩
  | .hbm, ⟨7, _⟩ => ⟨S1024x1024, .f32⟩
  | .hbm, ⟨8, _⟩ => ⟨S1024x1024, .f32⟩
  | .hbm, ⟨9, _⟩ => ⟨S2048x1024, .f32⟩
  | .hbm, ⟨10, _⟩ => ⟨S2048x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel11.lean ====
abbrev S2048x1024 : Shape := ⟨2, ![2048, 1024]⟩
abbrev S1024x1024 : Shape := ⟨2, ![1024, 1024]⟩
abbrev S512x1024 : Shape := ⟨2, ![512, 1024]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x512, .f32⟩
  | .local _ .vmem, ⟨5, _⟩ => ⟨S1024x512, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 2, 2, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== Reference11Ideal.lean ====
abbrev S2048x1024 : Shape := ⟨2, ![2048, 1024]⟩
abbrev S1024x1024 : Shape := ⟨2, ![1024, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S_, .f32⟩
  | .hbm, ⟨3, _⟩ => ⟨S2048x1024, .f32⟩
  | .hbm, ⟨4, _⟩ => ⟨S1024x1024, .f32⟩
  | .hbm, ⟨5, _⟩ => ⟨S2048x1024, .f32⟩
  | .hbm, ⟨6, _⟩ => ⟨S2048x1024, .f32⟩
  | .hbm, ⟨7, _⟩ => ⟨S1024x1024, .f32⟩
  | .hbm, ⟨8, _⟩ => ⟨S1024x1024, .f32⟩
  | .hbm, ⟨9, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel12.lean ====
abbrev S2048x1024 : Shape := ⟨2, ![2048, 1024]⟩
abbrev S1024x1024 : Shape := ⟨2, ![1024, 1024]⟩
abbrev S2048x512 : Shape := ⟨2, ![2048, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S1024x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S512x512, .bf16⟩
  | .local _ .vmem, ⟨5, _⟩ => ⟨S512x512, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 2, 2, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false, false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== Reference12Ideal.lean ====
abbrev S2048x1024 : Shape := ⟨2, ![2048, 1024]⟩
abbrev S_ : Shape := ⟨0, ![]⟩
abbrev S1024x1024 : Shape := ⟨2, ![1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S_, .f32⟩
  | .hbm, ⟨3, _⟩ => ⟨S1024x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S1024x1024, .f32⟩
  | .hbm, ⟨8, _⟩ => ⟨S1024x1024, .f32⟩
  | .hbm, ⟨9, _⟩ => ⟨S2048x1024, .f32⟩
  | .hbm, ⟨10, _⟩ => ⟨S1024x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel13.lean ====
abbrev S2048x2304 : Shape := ⟨2, ![2048, 2304]⟩
abbrev S1024x2304 : Shape := ⟨2, ![1024, 2304]⟩
abbrev S2048x1024 : Shape := ⟨2, ![2048, 1024]⟩
abbrev S512x2304 : Shape := ⟨2, ![512, 2304]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x2304, .bf16⟩
  | .hbm, ⟨1, _⟩ => ⟨S1024x2304, .bf16⟩
  | .hbm, ⟨2, _⟩ => ⟨S2048x1024, .f32⟩
  | .local _ .vmem, ⟨0, _⟩ => ⟨S1024x2304, .bf16⟩
  | .local _ .vmem, ⟨1, _⟩ => ⟨S1024x2304, .bf16⟩
  | .local _ .vmem, ⟨2, _⟩ => ⟨S512x2304, .bf16⟩
  | .local _ .vmem, ⟨3, _⟩ => ⟨S512x2304, .bf16⟩
  | .local _ .vmem, ⟨4, _⟩ => ⟨S1024x512, .f32⟩
  | .local _ .vmem, ⟨5, _⟩ => ⟨S1024x512, .f32⟩
  | _, _ => ⟨S2048x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 2, 2, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg1.toNat]

abbrev stage0_0 : Fin 2 → Memref sig .tc .vmem S1024x2304 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true, false]

abbrev stage0_1 : Fin 2 → Memref sig .tc .vmem S512x2304 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== Reference13Ideal.lean ====
abbrev S2048x2304 : Shape := ⟨2, ![2048, 2304]⟩
abbrev S1024x2304 : Shape := ⟨2, ![1024, 2304]⟩
abbrev S_ : Shape := ⟨0, ![]⟩
abbrev S2048x1024 : Shape := ⟨2, ![2048, 1024]⟩
abbrev S2304x1024 : Shape := ⟨2, ![2304, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2048x2304, .bf16⟩
  | .hbm, ⟨1, _⟩ => ⟨S1024x2304, .bf16⟩
  | .hbm, ⟨2, _⟩ => ⟨S_, .f32⟩
  | .hbm, ⟨3, _⟩ => ⟨S2048x1024, .f32⟩
  | .hbm, ⟨4, _⟩ => ⟨S1024x2304, .f32⟩
  | .hbm, ⟨5, _⟩ => ⟨S2048x2304, .f32⟩
  | .hbm, ⟨6, _⟩ => ⟨S2048x2304, .f32⟩
  | .hbm, ⟨7, _⟩ => ⟨S2304x1024, .f32⟩
  | .hbm, ⟨8, _⟩ => ⟨S1024x2304, .f32⟩
  | .hbm, ⟨9, _⟩ => ⟨S2048x1024, .f32⟩
  | _, _ => ⟨S2048x2304, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel14.lean ====
abbrev S2048x1024 : Shape := ⟨2, ![2048, 1024]⟩
abbrev S2048x2304 : Shape := ⟨2, ![2048, 2304]⟩
abbrev S1024x2304 : Shape := ⟨2, ![1024, 2304]⟩
abbrev S2048x512 : Shape := ⟨2, ![2048, 512]⟩
abbrev S2048x768 : Shape := ⟨2, ![2048, 768]⟩
abbrev S512x768 : Shape := ⟨2, ![512, 768]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S2048x2304, .bf16⟩
  | .hbm, ⟨2, _⟩ => ⟨S1024x2304, .bf16⟩
  | .local _ .vmem, ⟨0, _⟩ => ⟨S2048x512, .bf16⟩
  | .local _ .vmem, ⟨1, _⟩ => ⟨S2048x512, .bf16⟩
  | .local _ .vmem, ⟨2, _⟩ => ⟨S2048x768, .bf16⟩
  | .local _ .vmem, ⟨3, _⟩ => ⟨S2048x768, .bf16⟩
  | .local _ .vmem, ⟨4, _⟩ => ⟨S512x768, .bf16⟩
  | .local _ .vmem, ⟨5, _⟩ => ⟨S512x768, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 3, 2, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true, false]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false, false]

abbrev stage0_2 : Fin 2 → Memref sig .tc .vmem S512x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== Reference14Ideal.lean ====
abbrev S2048x1024 : Shape := ⟨2, ![2048, 1024]⟩
abbrev S2048x2304 : Shape := ⟨2, ![2048, 2304]⟩
abbrev S_ : Shape := ⟨0, ![]⟩
abbrev S1024x2304 : Shape := ⟨2, ![1024, 2304]⟩
abbrev S2304x1024 : Shape := ⟨2, ![2304, 1024]⟩

abbrev nBuf : Space → Nat
  | .hbm => 11
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x2304, .bf16⟩
  | .hbm, ⟨2, _⟩ => ⟨S_, .f32⟩
  | .hbm, ⟨3, _⟩ => ⟨S1024x2304, .f32⟩
  | .hbm, ⟨4, _⟩ => ⟨S2048x1024, .f32⟩
  | .hbm, ⟨5, _⟩ => ⟨S2048x2304, .f32⟩
  | .hbm, ⟨6, _⟩ => ⟨S2048x2304, .f32⟩
  | .hbm, ⟨7, _⟩ => ⟨S2304x1024, .f32⟩
  | .hbm, ⟨8, _⟩ => ⟨S1024x2304, .f32⟩
  | .hbm, ⟨9, _⟩ => ⟨S2048x1024, .f32⟩
  | .hbm, ⟨10, _⟩ => ⟨S1024x2304, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel15.lean ====
abbrev S2048x1024 : Shape := ⟨2, ![2048, 1024]⟩
abbrev S8x1024x704 : Shape := ⟨3, ![8, 1024, 704]⟩
abbrev S8x2048x704 : Shape := ⟨3, ![8, 2048, 704]⟩
abbrev S1x1024x704 : Shape := ⟨3, ![1, 1024, 704]⟩
abbrev S1x2048x704 : Shape := ⟨3, ![1, 2048, 704]⟩
abbrev S1024x704 : Shape := ⟨2, ![1024, 704]⟩
abbrev S2048x704 : Shape := ⟨2, ![2048, 704]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S8x1024x704, .bf16⟩
  | .hbm, ⟨2, _⟩ => ⟨S8x2048x704, .f32⟩
  | .local _ .vmem, ⟨0, _⟩ => ⟨S2048x1024, .bf16⟩
  | .local _ .vmem, ⟨1, _⟩ => ⟨S1x1024x704, .bf16⟩
  | .local _ .vmem, ⟨2, _⟩ => ⟨S1x1024x704, .bf16⟩
  | .local _ .vmem, ⟨3, _⟩ => ⟨S1x2048x704, .f32⟩
  | .local _ .vmem, ⟨4, _⟩ => ⟨S1x2048x704, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨4, ![8, 1, 1, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, true, false]

abbrev stage0_1 : Fin 2 → Memref sig .tc .vmem S1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false, false]

abbrev stage0_2 : Fin 2 → Memref sig .tc .vmem S1x2048x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== Reference15Ideal.lean ====
abbrev S2048x1024 : Shape := ⟨2, ![2048, 1024]⟩
abbrev S8x1024x704 : Shape := ⟨3, ![8, 1024, 704]⟩
abbrev S1024x8x704 : Shape := ⟨3, ![1024, 8, 704]⟩
abbrev S1024x5632 : Shape := ⟨2, ![1024, 5632]⟩
abbrev S2048x5632 : Shape := ⟨2, ![2048, 5632]⟩
abbrev S2048x8x704 : Shape := ⟨3, ![2048, 8, 704]⟩
abbrev S8x2048x704 : Shape := ⟨3, ![8, 2048, 704]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S8x1024x704, .bf16⟩
  | .hbm, ⟨2, _⟩ => ⟨S2048x1024, .f32⟩
  | .hbm, ⟨3, _⟩ => ⟨S1024x8x704, .bf16⟩
  | .hbm, ⟨4, _⟩ => ⟨S1024x5632, .bf16⟩
  | .hbm, ⟨5, _⟩ => ⟨S1024x5632, .f32⟩
  | .hbm, ⟨6, _⟩ => ⟨S2048x5632, .f32⟩
  | .hbm, ⟨7, _⟩ => ⟨S2048x8x704, .f32⟩
  | .hbm, ⟨8, _⟩ => ⟨S8x2048x704, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Kernel16.lean ====
abbrev S4x2048x704 : Shape := ⟨3, ![4, 2048, 704]⟩
abbrev S2816x1024 : Shape := ⟨2, ![2816, 1024]⟩
abbrev S4x704x1024 : Shape := ⟨3, ![4, 704, 1024]⟩
abbrev S2048x1024 : Shape := ⟨2, ![2048, 1024]⟩
abbrev S1x1024x704 : Shape := ⟨3, ![1, 1024, 704]⟩
abbrev S1x704x1024 : Shape := ⟨3, ![1, 704, 1024]⟩
abbrev S1024x1024 : Shape := ⟨2, ![1024, 1024]⟩
abbrev S1024x704 : Shape := ⟨2, ![1024, 704]⟩
abbrev S704x1024 : Shape := ⟨2, ![704, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4x2048x704, .bf16⟩
  | .hbm, ⟨1, _⟩ => ⟨S2816x1024, .bf16⟩
  | .hbm, ⟨2, _⟩ => ⟨S4x704x1024, .bf16⟩
  | .hbm, ⟨3, _⟩ => ⟨S2048x1024, .f32⟩
  | .local _ .vmem, ⟨0, _⟩ => ⟨S1x1024x704, .bf16⟩
  | .local _ .vmem, ⟨1, _⟩ => ⟨S1x1024x704, .bf16⟩
  | .local _ .vmem, ⟨2, _⟩ => ⟨S1x704x1024, .bf16⟩
  | .local _ .vmem, ⟨3, _⟩ => ⟨S1x704x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4x2048x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 1, 2, 4], ![false, false, false, false]⟩

def k0_cond3 (i : grid0.Coords) : BitVec 1 :=
  let arg3 : BitVec 32 := BitVec.ofNat 32 (i 3).val
  let c3_i32 : BitVec 32 := 3#32
  let v11 : BitVec 1 := Scalar.cmpi .eq arg3 c3_i32
  let v12 : BitVec 32 := Scalar.extui v11
  let c0_i32_8 : BitVec 32 := 0#32
  let v13 : BitVec 1 := Scalar.cmpi .ne v12 c0_i32_8
  v13

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg3.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg3.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg1.toNat]

abbrev stage0_0 : Fin 2 → Memref sig .tc .vmem S1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true, true]

abbrev stage0_1 : Fin 2 → Memref sig .tc .vmem S1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== Reference16Ideal.lean ====
abbrev S4x2048x704 : Shape := ⟨3, ![4, 2048, 704]⟩
abbrev S2816x1024 : Shape := ⟨2, ![2816, 1024]⟩
abbrev S2048x4x704 : Shape := ⟨3, ![2048, 4, 704]⟩
abbrev S2048x2816 : Shape := ⟨2, ![2048, 2816]⟩
abbrev S2048x1024 : Shape := ⟨2, ![2048, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4x2048x704, .bf16⟩
  | .hbm, ⟨1, _⟩ => ⟨S2816x1024, .bf16⟩
  | .hbm, ⟨2, _⟩ => ⟨S2048x4x704, .bf16⟩
  | .hbm, ⟨3, _⟩ => ⟨S2048x2816, .bf16⟩
  | .hbm, ⟨4, _⟩ => ⟨S2048x2816, .f32⟩
  | .hbm, ⟨5, _⟩ => ⟨S2816x1024, .f32⟩
  | .hbm, ⟨6, _⟩ => ⟨S2048x1024, .f32⟩
  | _, _ => ⟨S4x2048x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel17.lean ====
abbrev S2048x1024 : Shape := ⟨2, ![2048, 1024]⟩
abbrev S1024x2304 : Shape := ⟨2, ![1024, 2304]⟩
abbrev S2048x2304 : Shape := ⟨2, ![2048, 2304]⟩
abbrev S1024x768 : Shape := ⟨2, ![1024, 768]⟩
abbrev S2048x768 : Shape := ⟨2, ![2048, 768]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S1024x2304, .bf16⟩
  | .hbm, ⟨2, _⟩ => ⟨S2048x2304, .f32⟩
  | .local _ .vmem, ⟨0, _⟩ => ⟨S2048x1024, .bf16⟩
  | .local _ .vmem, ⟨1, _⟩ => ⟨S1024x768, .bf16⟩
  | .local _ .vmem, ⟨2, _⟩ => ⟨S1024x768, .bf16⟩
  | .local _ .vmem, ⟨3, _⟩ => ⟨S2048x768, .f32⟩
  | .local _ .vmem, ⟨4, _⟩ => ⟨S2048x768, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨4, ![1, 3, 1, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, true, false]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false, false]

abbrev stage0_2 : Fin 2 → Memref sig .tc .vmem S2048x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== Reference17Ideal.lean ====
abbrev S2048x1024 : Shape := ⟨2, ![2048, 1024]⟩
abbrev S1024x2304 : Shape := ⟨2, ![1024, 2304]⟩
abbrev S2048x2304 : Shape := ⟨2, ![2048, 2304]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x2304, .bf16⟩
  | .hbm, ⟨2, _⟩ => ⟨S2048x1024, .f32⟩
  | .hbm, ⟨3, _⟩ => ⟨S1024x2304, .f32⟩
  | .hbm, ⟨4, _⟩ => ⟨S2048x2304, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel18.lean ====
abbrev S2048x768 : Shape := ⟨2, ![2048, 768]⟩
abbrev S768x1024 : Shape := ⟨2, ![768, 1024]⟩
abbrev S2048x1024 : Shape := ⟨2, ![2048, 1024]⟩
abbrev S1024x768 : Shape := ⟨2, ![1024, 768]⟩
abbrev S768x512 : Shape := ⟨2, ![768, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x768, .bf16⟩
  | .hbm, ⟨1, _⟩ => ⟨S768x1024, .bf16⟩
  | .hbm, ⟨2, _⟩ => ⟨S2048x1024, .f32⟩
  | .local _ .vmem, ⟨0, _⟩ => ⟨S1024x768, .bf16⟩
  | .local _ .vmem, ⟨1, _⟩ => ⟨S1024x768, .bf16⟩
  | .local _ .vmem, ⟨2, _⟩ => ⟨S768x512, .bf16⟩
  | .local _ .vmem, ⟨3, _⟩ => ⟨S768x512, .bf16⟩
  | .local _ .vmem, ⟨4, _⟩ => ⟨S1024x512, .f32⟩
  | .local _ .vmem, ⟨5, _⟩ => ⟨S1024x512, .f32⟩
  | _, _ => ⟨S2048x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 2, 2, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg1.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true, false]

abbrev stage0_1 : Fin 2 → Memref sig .tc .vmem S768x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== Reference18Ideal.lean ====
abbrev S2048x768 : Shape := ⟨2, ![2048, 768]⟩
abbrev S768x1024 : Shape := ⟨2, ![768, 1024]⟩
abbrev S2048x1024 : Shape := ⟨2, ![2048, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2048x768, .bf16⟩
  | .hbm, ⟨1, _⟩ => ⟨S768x1024, .bf16⟩
  | .hbm, ⟨2, _⟩ => ⟨S2048x768, .f32⟩
  | .hbm, ⟨3, _⟩ => ⟨S768x1024, .f32⟩
  | .hbm, ⟨4, _⟩ => ⟨S2048x1024, .f32⟩
  | _, _ => ⟨S2048x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel19.lean ====
abbrev S2048x1024 : Shape := ⟨2, ![2048, 1024]⟩
abbrev S1024x1024 : Shape := ⟨2, ![1024, 1024]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 2, 2, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== Reference19Ideal.lean ====
abbrev S2048x1024 : Shape := ⟨2, ![2048, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .hbm, ⟨3, _⟩ => ⟨S1024x1024, .f32⟩
  | .hbm, ⟨4, _⟩ => ⟨S2048x1024, .f32⟩
  | .hbm, ⟨5, _⟩ => ⟨S2048x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel20.lean ====
abbrev S2048x1024 : Shape := ⟨2, ![2048, 1024]⟩
abbrev S1024x1024 : Shape := ⟨2, ![1024, 1024]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 2, 2, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== Reference20Ideal.lean ====
abbrev S2048x1024 : Shape := ⟨2, ![2048, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .hbm, ⟨3, _⟩ => ⟨S1024x1024, .f32⟩
  | .hbm, ⟨4, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel21.lean ====
abbrev S2048x1024 : Shape := ⟨2, ![2048, 1024]⟩
abbrev S1024x2304 : Shape := ⟨2, ![1024, 2304]⟩
abbrev S2048x2304 : Shape := ⟨2, ![2048, 2304]⟩
abbrev S1024x1024 : Shape := ⟨2, ![1024, 1024]⟩
abbrev S1024x768 : Shape := ⟨2, ![1024, 768]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S1024x2304, .bf16⟩
  | .hbm, ⟨2, _⟩ => ⟨S2048x2304, .f32⟩
  | .local _ .vmem, ⟨0, _⟩ => ⟨S1024x1024, .bf16⟩
  | .local _ .vmem, ⟨1, _⟩ => ⟨S1024x1024, .bf16⟩
  | .local _ .vmem, ⟨2, _⟩ => ⟨S1024x768, .bf16⟩
  | .local _ .vmem, ⟨3, _⟩ => ⟨S1024x768, .bf16⟩
  | .local _ .vmem, ⟨4, _⟩ => ⟨S1024x768, .f32⟩
  | .local _ .vmem, ⟨5, _⟩ => ⟨S1024x768, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 3, 2, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true, false]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false, false]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== Reference21Ideal.lean ====
abbrev S2048x1024 : Shape := ⟨2, ![2048, 1024]⟩
abbrev S1024x2304 : Shape := ⟨2, ![1024, 2304]⟩
abbrev S2048x2304 : Shape := ⟨2, ![2048, 2304]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x2304, .bf16⟩
  | .hbm, ⟨2, _⟩ => ⟨S2048x1024, .f32⟩
  | .hbm, ⟨3, _⟩ => ⟨S1024x2304, .f32⟩
  | .hbm, ⟨4, _⟩ => ⟨S2048x2304, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel22.lean ====
abbrev S8x1024x258 : Shape := ⟨3, ![8, 1024, 258]⟩
abbrev S1024x258 : Shape := ⟨2, ![1024, 258]⟩
abbrev S8x512x258 : Shape := ⟨3, ![8, 512, 258]⟩
abbrev S512x258 : Shape := ⟨2, ![512, 258]⟩
abbrev S1x512x258 : Shape := ⟨3, ![1, 512, 258]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x258, .bf16⟩
  | .hbm, ⟨1, _⟩ => ⟨S1024x258, .f32⟩
  | .hbm, ⟨2, _⟩ => ⟨S1024x258, .f32⟩
  | .hbm, ⟨3, _⟩ => ⟨S1024x258, .f32⟩
  | .hbm, ⟨4, _⟩ => ⟨S1024x258, .f32⟩
  | .hbm, ⟨5, _⟩ => ⟨S1024x258, .f32⟩
  | .hbm, ⟨6, _⟩ => ⟨S1024x258, .f32⟩
  | .hbm, ⟨7, _⟩ => ⟨S1024x258, .f32⟩
  | .local _ .vmem, ⟨0, _⟩ => ⟨S8x512x258, .bf16⟩
  | .local _ .vmem, ⟨1, _⟩ => ⟨S8x512x258, .bf16⟩
  | .local _ .vmem, ⟨2, _⟩ => ⟨S512x258, .f32⟩
  | .local _ .vmem, ⟨3, _⟩ => ⟨S512x258, .f32⟩
  | .local _ .vmem, ⟨4, _⟩ => ⟨S512x258, .f32⟩
  | .local _ .vmem, ⟨5, _⟩ => ⟨S512x258, .f32⟩
  | .local _ .vmem, ⟨6, _⟩ => ⟨S512x258, .f32⟩
  | .local _ .vmem, ⟨7, _⟩ => ⟨S512x258, .f32⟩
  | .local _ .vmem, ⟨8, _⟩ => ⟨S512x258, .f32⟩
  | .local _ .vmem, ⟨9, _⟩ => ⟨S512x258, .f32⟩
  | .local _ .vmem, ⟨10, _⟩ => ⟨S512x258, .f32⟩
  | .local _ .vmem, ⟨11, _⟩ => ⟨S512x258, .f32⟩
  | .local _ .vmem, ⟨12, _⟩ => ⟨S512x258, .f32⟩
  | .local _ .vmem, ⟨13, _⟩ => ⟨S512x258, .f32⟩
  | .local _ .vmem, ⟨14, _⟩ => ⟨S512x258, .f32⟩
  | .local _ .vmem, ⟨15, _⟩ => ⟨S512x258, .f32⟩
  | _, _ => ⟨S8x1024x258, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_7 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 2 → Memref sig .tc .vmem S8x512x258 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x258 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x258 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x258 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x258 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x258 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x258 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x258 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference22Ideal.lean ====
abbrev S8x1024x258 : Shape := ⟨3, ![8, 1024, 258]⟩
abbrev S1024x258 : Shape := ⟨2, ![1024, 258]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x1024x258, .bf16⟩
  | .hbm, ⟨1, _⟩ => ⟨S1024x258, .f32⟩
  | .hbm, ⟨2, _⟩ => ⟨S1024x258, .f32⟩
  | .hbm, ⟨3, _⟩ => ⟨S1024x258, .f32⟩
  | .hbm, ⟨4, _⟩ => ⟨S8x1024x258, .f32⟩
  | .hbm, ⟨5, _⟩ => ⟨S_, .f32⟩
  | .hbm, ⟨6, _⟩ => ⟨S1024x258, .f32⟩
  | .hbm, ⟨7, _⟩ => ⟨S_, .f32⟩
  | .hbm, ⟨8, _⟩ => ⟨S1024x258, .f32⟩
  | .hbm, ⟨9, _⟩ => ⟨S1024x258, .f32⟩
  | .hbm, ⟨10, _⟩ => ⟨S_, .f32⟩
  | .hbm, ⟨11, _⟩ => ⟨S1024x258, .f32⟩
  | .hbm, ⟨12, _⟩ => ⟨S1024x258, .f32⟩
  | .hbm, ⟨13, _⟩ => ⟨S1024x258, .f32⟩
  | .hbm, ⟨14, _⟩ => ⟨S_, .f32⟩
  | .hbm, ⟨15, _⟩ => ⟨S1024x258, .f32⟩
  | .hbm, ⟨16, _⟩ => ⟨S1024x258, .f32⟩
  | .hbm, ⟨17, _⟩ => ⟨S1024x258, .f32⟩
  | .hbm, ⟨18, _⟩ => ⟨S_, .f32⟩
  | .hbm, ⟨19, _⟩ => ⟨S1024x258, .f32⟩
  | .hbm, ⟨20, _⟩ => ⟨S1024x258, .f32⟩
  | .hbm, ⟨21, _⟩ => ⟨S1024x258, .f32⟩
  | .hbm, ⟨22, _⟩ => ⟨S_, .f32⟩
  | .hbm, ⟨23, _⟩ => ⟨S1024x258, .f32⟩
  | .hbm, ⟨24, _⟩ => ⟨S1024x258, .f32⟩
  | .hbm, ⟨25, _⟩ => ⟨S_, .f32⟩
  | .hbm, ⟨26, _⟩ => ⟨S1024x258, .f32⟩
  | .hbm, ⟨27, _⟩ => ⟨S1024x258, .f32⟩
  | .hbm, ⟨28, _⟩ => ⟨S1024x258, .f32⟩
  | .hbm, ⟨29, _⟩ => ⟨S_, .f32⟩
  | .hbm, ⟨30, _⟩ => ⟨S1024x258, .f32⟩
  | .hbm, ⟨31, _⟩ => ⟨S1024x258, .f32⟩
  | .hbm, ⟨32, _⟩ => ⟨S1024x258, .f32⟩
  | .hbm, ⟨33, _⟩ => ⟨S_, .f32⟩
  | .hbm, ⟨34, _⟩ => ⟨S1024x258, .f32⟩
  | .hbm, ⟨35, _⟩ => ⟨S1024x258, .f32⟩
  | .hbm, ⟨36, _⟩ => ⟨S1024x258, .f32⟩
  | .hbm, ⟨37, _⟩ => ⟨S_, .f32⟩
  | .hbm, ⟨38, _⟩ => ⟨S1024x258, .f32⟩
  | .hbm, ⟨39, _⟩ => ⟨S1024x258, .f32⟩
  | _, _ => ⟨S8x1024x258, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel23.lean ====
abbrev S4x4x128 : Shape := ⟨3, ![4, 4, 128]⟩
abbrev S1024 : Shape := ⟨1, ![1024]⟩
abbrev S16 : Shape := ⟨1, ![16]⟩
abbrev S4x3x704 : Shape := ⟨3, ![4, 3, 704]⟩
abbrev S4x5632 : Shape := ⟨2, ![4, 5632]⟩
abbrev S2048 : Shape := ⟨1, ![2048]⟩
abbrev S8448 : Shape := ⟨1, ![8448]⟩
abbrev S22528 : Shape := ⟨1, ![22528]⟩
abbrev S34064 : Shape := ⟨1, ![34064]⟩
abbrev S_ : Shape := ⟨0, ![]⟩
abbrev S40960 : Shape := ⟨1, ![40960]⟩
abbrev S320x128 : Shape := ⟨2, ![320, 128]⟩
abbrev S1x320x128 : Shape := ⟨3, ![1, 320, 128]⟩
abbrev S1x64x128 : Shape := ⟨3, ![1, 64, 128]⟩
abbrev S64x128 : Shape := ⟨2, ![64, 128]⟩

abbrev nBuf : Space → Nat
  | .hbm => 57
  | .vmem => 16
  | .smem => 0
  | _ => 0

abbrev bufTy : (tb : Table) → Fin (tcTables nBuf tb) → BufTy
  | .hbm, ⟨0, _⟩ => ⟨S4x4x128, .f32⟩
  | .hbm, ⟨1, _⟩ => ⟨S1024, .f32⟩
  | .hbm, ⟨2, _⟩ => ⟨S16, .f32⟩
  | .hbm, ⟨3, _⟩ => ⟨S4x3x704, .f32⟩
  | .hbm, ⟨4, _⟩ => ⟨S4x5632, .f32⟩
  | .hbm, ⟨5, _⟩ => ⟨S4x4x128, .f32⟩
  | .hbm, ⟨6, _⟩ => ⟨S1024, .f32⟩
  | .hbm, ⟨7, _⟩ => ⟨S16, .f32⟩
  | .hbm, ⟨8, _⟩ => ⟨S4x3x704, .f32⟩
  | .hbm, ⟨9, _⟩ => ⟨S4x5632, .f32⟩
  | .hbm, ⟨10, _⟩ => ⟨S4x4x128, .f32⟩
  | .hbm, ⟨11, _⟩ => ⟨S1024, .f32⟩
  | .hbm, ⟨12, _⟩ => ⟨S16, .f32⟩
  | .hbm, ⟨13, _⟩ => ⟨S4x3x704, .f32⟩
  | .hbm, ⟨14, _⟩ => ⟨S4x5632, .f32⟩
  | .hbm, ⟨15, _⟩ => ⟨S4x4x128, .f32⟩
  | .hbm, ⟨16, _⟩ => ⟨S1024, .f32⟩
  | .hbm, ⟨17, _⟩ => ⟨S16, .f32⟩
  | .hbm, ⟨18, _⟩ => ⟨S4x3x704, .f32⟩
  | .hbm, ⟨19, _⟩ => ⟨S4x5632, .f32⟩
  | .hbm, ⟨20, _⟩ => ⟨S2048, .f32⟩
  | .hbm, ⟨21, _⟩ => ⟨S8448, .f32⟩
  | .hbm, ⟨22, _⟩ => ⟨S22528, .f32⟩
  | .hbm, ⟨23, _⟩ => ⟨S34064, .f32⟩
  | .hbm, ⟨24, _⟩ => ⟨S_, .i32⟩
  | .hbm, ⟨25, _⟩ => ⟨S_, .f32⟩
  | .hbm, ⟨26, _⟩ => ⟨S40960, .f32⟩
  | .hbm, ⟨27, _⟩ => ⟨S320x128, .f32⟩
  | .hbm, ⟨28, _⟩ => ⟨S1x320x128, .f32⟩
  | .hbm, ⟨29, _⟩ => ⟨S2048, .f32⟩
  | .hbm, ⟨30, _⟩ => ⟨S8448, .f32⟩
  | .hbm, ⟨31, _⟩ => ⟨S22528, .f32⟩
  | .hbm, ⟨32, _⟩ => ⟨S34064, .f32⟩
  | .hbm, ⟨33, _⟩ => ⟨S_, .i32⟩
  | .hbm, ⟨34, _⟩ => ⟨S_, .f32⟩
  | .hbm, ⟨35, _⟩ => ⟨S40960, .f32⟩
  | .hbm, ⟨36, _⟩ => ⟨S320x128, .f32⟩
  | .hbm, ⟨37, _⟩ => ⟨S2048, .f32⟩
  | .hbm, ⟨38, _⟩ => ⟨S8448, .f32⟩
  | .hbm, ⟨39, _⟩ => ⟨S22528, .f32⟩
  | .hbm, ⟨40, _⟩ => ⟨S34064, .f32⟩
  | .hbm, ⟨41, _⟩ => ⟨S_, .i32⟩
  | .hbm, ⟨42, _⟩ => ⟨S_, .f32⟩
  | .hbm, ⟨43, _⟩ => ⟨S40960, .f32⟩
  | .hbm, ⟨44, _⟩ => ⟨S320x128, .f32⟩
  | .hbm, ⟨45, _⟩ => ⟨S2048, .f32⟩
  | .hbm, ⟨46, _⟩ => ⟨S8448, .f32⟩
  | .hbm, ⟨47, _⟩ => ⟨S22528, .f32⟩
  | .hbm, ⟨48, _⟩ => ⟨S34064, .f32⟩
  | .hbm, ⟨49, _⟩ => ⟨S_, .i32⟩
  | .hbm, ⟨50, _⟩ => ⟨S_, .f32⟩
  | .hbm, ⟨51, _⟩ => ⟨S40960, .f32⟩
  | .hbm, ⟨52, _⟩ => ⟨S320x128, .f32⟩
  | .hbm, ⟨53, _⟩ => ⟨S320x128, .f32⟩
  | .hbm, ⟨54, _⟩ => ⟨S320x128, .f32⟩
  | .hbm, ⟨55, _⟩ => ⟨S320x128, .f32⟩
  | .hbm, ⟨56, _⟩ => ⟨S320x128, .f32⟩
  | .local _ .vmem, ⟨0, _⟩ => ⟨S1x64x128, .f32⟩
  | .local _ .vmem, ⟨1, _⟩ => ⟨S1x64x128, .f32⟩
  | .local _ .vmem, ⟨2, _⟩ => ⟨S64x128, .f32⟩
  | .local _ .vmem, ⟨3, _⟩ => ⟨S64x128, .f32⟩
  | .local _ .vmem, ⟨4, _⟩ => ⟨S64x128, .f32⟩
  | .local _ .vmem, ⟨5, _⟩ => ⟨S64x128, .f32⟩
  | .local _ .vmem, ⟨6, _⟩ => ⟨S64x128, .f32⟩
  | .local _ .vmem, ⟨7, _⟩ => ⟨S64x128, .f32⟩
  | .local _ .vmem, ⟨8, _⟩ => ⟨S64x128, .f32⟩
  | .local _ .vmem, ⟨9, _⟩ => ⟨S64x128, .f32⟩
  | .local _ .vmem, ⟨10, _⟩ => ⟨S64x128, .f32⟩
  | .local _ .vmem, ⟨11, _⟩ => ⟨S64x128, .f32⟩
  | .local _ .vmem, ⟨12, _⟩ => ⟨S64x128, .f32⟩
  | .local _ .vmem, ⟨13, _⟩ => ⟨S64x128, .f32⟩
  | .local _ .vmem, ⟨14, _⟩ => ⟨S64x128, .f32⟩
  | .local _ .vmem, ⟨15, _⟩ => ⟨S64x128, .f32⟩
  | _, _ => ⟨S4x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_c : Ref sig .tc := ⟨.hbm, 24, rfl⟩
abbrev main_call0_v0 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_c_0 : Ref sig .tc := ⟨.hbm, 33, rfl⟩
abbrev main_call1_v0 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_c_1 : Ref sig .tc := ⟨.hbm, 41, rfl⟩
abbrev main_call2_v0 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_c_2 : Ref sig .tc := ⟨.hbm, 49, rfl⟩
abbrev main_call3_v0 : Ref sig .tc := ⟨.hbm, 50, rfl⟩
abbrev main_v23 : Ref sig .tc := ⟨.hbm, 51, rfl⟩
abbrev main_v24 : Ref sig .tc := ⟨.hbm, 52, rfl⟩
abbrev main_v25_0 : Ref sig .tc := ⟨.hbm, 53, rfl⟩
abbrev main_v25_1 : Ref sig .tc := ⟨.hbm, 54, rfl⟩
abbrev main_v25_2 : Ref sig .tc := ⟨.hbm, 55, rfl⟩
abbrev main_v25_3 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![5], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_7 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 2 → Memref sig .tc .vmem S1x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference23Ideal.lean ====
abbrev S4x4x128 : Shape := ⟨3, ![4, 4, 128]⟩
abbrev S1024 : Shape := ⟨1, ![1024]⟩
abbrev S16 : Shape := ⟨1, ![16]⟩
abbrev S4x3x704 : Shape := ⟨3, ![4, 3, 704]⟩
abbrev S4x5632 : Shape := ⟨2, ![4, 5632]⟩
abbrev S_ : Shape := ⟨0, ![]⟩
abbrev S2048 : Shape := ⟨1, ![2048]⟩
abbrev S8448 : Shape := ⟨1, ![8448]⟩
abbrev S22528 : Shape := ⟨1, ![22528]⟩
abbrev S6896 : Shape := ⟨1, ![6896]⟩
abbrev S40960 : Shape := ⟨1, ![40960]⟩
abbrev S320x128 : Shape := ⟨2, ![320, 128]⟩

abbrev nBuf : Space → Nat
  | .hbm => 213
  | .vmem => 0
  | .smem => 0
  | _ => 0

abbrev hbmTy0_0 (i : Nat) : BufTy := match i % 128 with
  | 0 => ⟨S4x4x128, .f32⟩
  | 1 => ⟨S1024, .f32⟩
  | 2 => ⟨S16, .f32⟩
  | 3 => ⟨S4x3x704, .f32⟩
  | 4 => ⟨S4x5632, .f32⟩
  | 5 => ⟨S4x4x128, .f32⟩
  | 6 => ⟨S1024, .f32⟩
  | 7 => ⟨S16, .f32⟩
  | 8 => ⟨S4x3x704, .f32⟩
  | 9 => ⟨S4x5632, .f32⟩
  | 10 => ⟨S4x4x128, .f32⟩
  | 11 => ⟨S1024, .f32⟩
  | 12 => ⟨S16, .f32⟩
  | 13 => ⟨S4x3x704, .f32⟩
  | 14 => ⟨S4x5632, .f32⟩
  | 15 => ⟨S4x4x128, .f32⟩
  | 16 => ⟨S1024, .f32⟩
  | 17 => ⟨S16, .f32⟩
  | 18 => ⟨S4x3x704, .f32⟩
  | 19 => ⟨S4x5632, .f32⟩
  | 20 => ⟨S_, .f32⟩
  | 21 => ⟨S4x4x128, .f32⟩
  | 22 => ⟨S4x4x128, .f32⟩
  | 23 => ⟨S_, .f32⟩
  | 24 => ⟨S4x4x128, .f32⟩
  | 25 => ⟨S4x4x128, .f32⟩
  | 26 => ⟨S4x4x128, .f32⟩
  | 27 => ⟨S_, .f32⟩
  | 28 => ⟨S4x4x128, .f32⟩
  | 29 => ⟨S4x4x128, .f32⟩
  | 30 => ⟨S4x4x128, .f32⟩
  | 31 => ⟨S_, .f32⟩
  | 32 => ⟨S4x4x128, .f32⟩
  | 33 => ⟨S4x4x128, .f32⟩
  | 34 => ⟨S4x4x128, .f32⟩
  | 35 => ⟨S_, .f32⟩
  | 36 => ⟨S4x4x128, .f32⟩
  | 37 => ⟨S4x4x128, .f32⟩
  | 38 => ⟨S_, .f32⟩
  | 39 => ⟨S4x4x128, .f32⟩
  | 40 => ⟨S4x4x128, .f32⟩
  | 41 => ⟨S4x4x128, .f32⟩
  | 42 => ⟨S_, .f32⟩
  | 43 => ⟨S4x4x128, .f32⟩
  | 44 => ⟨S4x4x128, .f32⟩
  | 45 => ⟨S4x4x128, .f32⟩
  | 46 => ⟨S_, .f32⟩
  | 47 => ⟨S4x4x128, .f32⟩
  | 48 => ⟨S4x4x128, .f32⟩
  | 49 => ⟨S4x4x128, .f32⟩
  | 50 => ⟨S_, .f32⟩
  | 51 => ⟨S4x4x128, .f32⟩
  | 52 => ⟨S4x4x128, .f32⟩
  | 53 => ⟨S_, .f32⟩
  | 54 => ⟨S1024, .f32⟩
  | 55 => ⟨S1024, .f32⟩
  | 56 => ⟨S_, .f32⟩
  | 57 => ⟨S1024, .f32⟩
  | 58 => ⟨S1024, .f32⟩
  | 59 => ⟨S1024, .f32⟩
  | 60 => ⟨S_, .f32⟩
  | 61 => ⟨S1024, .f32⟩
  | 62 => ⟨S1024, .f32⟩
  | 63 => ⟨S1024, .f32⟩
  | 64 => ⟨S_, .f32⟩
  | 65 => ⟨S1024, .f32⟩
  | 66 => ⟨S1024, .f32⟩
  | 67 => ⟨S1024, .f32⟩
  | 68 => ⟨S_, .f32⟩
  | 69 => ⟨S1024, .f32⟩
  | 70 => ⟨S1024, .f32⟩
  | 71 => ⟨S_, .f32⟩
  | 72 => ⟨S1024, .f32⟩
  | 73 => ⟨S1024, .f32⟩
  | 74 => ⟨S1024, .f32⟩
  | 75 => ⟨S_, .f32⟩
  | 76 => ⟨S1024, .f32⟩
  | 77 => ⟨S1024, .f32⟩
  | 78 => ⟨S1024, .f32⟩
  | 79 => ⟨S_, .f32⟩
  | 80 => ⟨S1024, .f32⟩
  | 81 => ⟨S1024, .f32⟩
  | 82 => ⟨S1024, .f32⟩
  | 83 => ⟨S_, .f32⟩
  | 84 => ⟨S1024, .f32⟩
  | 85 => ⟨S1024, .f32⟩
  | 86 => ⟨S_, .f32⟩
  | 87 => ⟨S16, .f32⟩
  | 88 => ⟨S16, .f32⟩
  | 89 => ⟨S_, .f32⟩
  | 90 => ⟨S16, .f32⟩
  | 91 => ⟨S16, .f32⟩
  | 92 => ⟨S16, .f32⟩
  | 93 => ⟨S_, .f32⟩
  | 94 => ⟨S16, .f32⟩
  | 95 => ⟨S16, .f32⟩
  | 96 => ⟨S16, .f32⟩
  | 97 => ⟨S_, .f32⟩
  | 98 => ⟨S16, .f32⟩
  | 99 => ⟨S16, .f32⟩
  | 100 => ⟨S16, .f32⟩
  | 101 => ⟨S_, .f32⟩
  | 102 => ⟨S16, .f32⟩
  | 103 => ⟨S16, .f32⟩
  | 104 => ⟨S_, .f32⟩
  | 105 => ⟨S16, .f32⟩
  | 106 => ⟨S16, .f32⟩
  | 107 => ⟨S16, .f32⟩
  | 108 => ⟨S_, .f32⟩
  | 109 => ⟨S16, .f32⟩
  | 110 => ⟨S16, .f32⟩
  | 111 => ⟨S16, .f32⟩
  | 112 => ⟨S_, .f32⟩
  | 113 => ⟨S16, .f32⟩
  | 114 => ⟨S16, .f32⟩
  | 115 => ⟨S16, .f32⟩
  | 116 => ⟨S_, .f32⟩
  | 117 => ⟨S16, .f32⟩
  | 118 => ⟨S16, .f32⟩
  | 119 => ⟨S_, .f32⟩
  | 120 => ⟨S4x3x704, .f32⟩
  | 121 => ⟨S4x3x704, .f32⟩
  | 122 => ⟨S_, .f32⟩
  | 123 => ⟨S4x3x704, .f32⟩
  | 124 => ⟨S4x3x704, .f32⟩
  | 125 => ⟨S4x3x704, .f32⟩
  | 126 => ⟨S_, .f32⟩
  | 127 => ⟨S4x3x704, .f32⟩
  | _ => ⟨S4x4x128, .f32⟩

abbrev hbmTy0_1 (i : Nat) : BufTy := match i % 128 with
  | 0 => ⟨S4x3x704, .f32⟩
  | 1 => ⟨S4x3x704, .f32⟩
  | 2 => ⟨S_, .f32⟩
  | 3 => ⟨S4x3x704, .f32⟩
  | 4 => ⟨S4x3x704, .f32⟩
  | 5 => ⟨S4x3x704, .f32⟩
  | 6 => ⟨S_, .f32⟩
  | 7 => ⟨S4x3x704, .f32⟩
  | 8 => ⟨S4x3x704, .f32⟩
  | 9 => ⟨S_, .f32⟩
  | 10 => ⟨S4x3x704, .f32⟩
  | 11 => ⟨S4x3x704, .f32⟩
  | 12 => ⟨S4x3x704, .f32⟩
  | 13 => ⟨S_, .f32⟩
  | 14 => ⟨S4x3x704, .f32⟩
  | 15 => ⟨S4x3x704, .f32⟩
  | 16 => ⟨S4x3x704, .f32⟩
  | 17 => ⟨S_, .f32⟩
  | 18 => ⟨S4x3x704, .f32⟩
  | 19 => ⟨S4x3x704, .f32⟩
  | 20 => ⟨S4x3x704, .f32⟩
  | 21 => ⟨S_, .f32⟩
  | 22 => ⟨S4x3x704, .f32⟩
  | 23 => ⟨S4x3x704, .f32⟩
  | 24 => ⟨S_, .f32⟩
  | 25 => ⟨S4x5632, .f32⟩
  | 26 => ⟨S4x5632, .f32⟩
  | 27 => ⟨S_, .f32⟩
  | 28 => ⟨S4x5632, .f32⟩
  | 29 => ⟨S4x5632, .f32⟩
  | 30 => ⟨S4x5632, .f32⟩
  | 31 => ⟨S_, .f32⟩
  | 32 => ⟨S4x5632, .f32⟩
  | 33 => ⟨S4x5632, .f32⟩
  | 34 => ⟨S4x5632, .f32⟩
  | 35 => ⟨S_, .f32⟩
  | 36 => ⟨S4x5632, .f32⟩
  | 37 => ⟨S4x5632, .f32⟩
  | 38 => ⟨S4x5632, .f32⟩
  | 39 => ⟨S_, .f32⟩
  | 40 => ⟨S4x5632, .f32⟩
  | 41 => ⟨S4x5632, .f32⟩
  | 42 => ⟨S_, .f32⟩
  | 43 => ⟨S4x5632, .f32⟩
  | 44 => ⟨S4x5632, .f32⟩
  | 45 => ⟨S4x5632, .f32⟩
  | 46 => ⟨S_, .f32⟩
  | 47 => ⟨S4x5632, .f32⟩
  | 48 => ⟨S4x5632, .f32⟩
  | 49 => ⟨S4x5632, .f32⟩
  | 50 => ⟨S_, .f32⟩
  | 51 => ⟨S4x5632, .f32⟩
  | 52 => ⟨S4x5632, .f32⟩
  | 53 => ⟨S4x5632, .f32⟩
  | 54 => ⟨S_, .f32⟩
  | 55 => ⟨S4x5632, .f32⟩
  | 56 => ⟨S4x5632, .f32⟩
  | 57 => ⟨S2048, .f32⟩
  | 58 => ⟨S8448, .f32⟩
  | 59 => ⟨S22528, .f32⟩
  | 60 => ⟨S_, .f32⟩
  | 61 => ⟨S6896, .f32⟩
  | 62 => ⟨S40960, .f32⟩
  | 63 => ⟨S320x128, .f32⟩
  | 64 => ⟨S2048, .f32⟩
  | 65 => ⟨S8448, .f32⟩
  | 66 => ⟨S22528, .f32⟩
  | 67 => ⟨S_, .f32⟩
  | 68 => ⟨S6896, .f32⟩
  | 69 => ⟨S40960, .f32⟩
  | 70 => ⟨S320x128, .f32⟩
  | 71 => ⟨S2048, .f32⟩
  | 72 => ⟨S8448, .f32⟩
  | 73 => ⟨S22528, .f32⟩
  | 74 => ⟨S_, .f32⟩
  | 75 => ⟨S6896, .f32⟩
  | 76 => ⟨S40960, .f32⟩
  | 77 => ⟨S320x128, .f32⟩
  | 78 => ⟨S2048, .f32⟩
  | 79 => ⟨S8448, .f32⟩
  | 80 => ⟨S22528, .f32⟩
  | 81 => ⟨S_, .f32⟩
  | 82 => ⟨S6896, .f32⟩
  | 83 => ⟨S40960, .f32⟩
  | 84 => ⟨S320x128, .f32⟩
  | _ => ⟨S4x4x128, .f32⟩

abbrev hbmTy (i : Nat) : BufTy := match i / 128 with
  | 0 => hbmTy0_0 i
  | 1 => hbmTy0_1 i
  | _ => ⟨S4x4x128, .f32⟩

abbrev bufTy : (tb : Table) → Fin (tcTables nBuf tb) → BufTy
  | .hbm, ⟨i, _⟩ => hbmTy i
  | _, _ => ⟨S4x4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_cst : Ref sig .tc := ⟨.hbm, 20, rfl⟩
abbrev main_v0 : Ref sig .tc := ⟨.hbm, 21, rfl⟩
abbrev main_v1 : Ref sig .tc := ⟨.hbm, 22, rfl⟩
abbrev main_cst_0 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_cst_1 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_cst_2 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_cst_3 : Ref sig .tc := ⟨.hbm, 35, rfl⟩
abbrev main_v11 : Ref sig .tc := ⟨.hbm, 36, rfl⟩
abbrev main_v12 : Ref sig .tc := ⟨.hbm, 37, rfl⟩
abbrev main_cst_4 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_cst_5 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_cst_6 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_cst_7 : Ref sig .tc := ⟨.hbm, 50, rfl⟩
abbrev main_v22 : Ref sig .tc := ⟨.hbm, 51, rfl⟩
abbrev main_v23 : Ref sig .tc := ⟨.hbm, 52, rfl⟩
abbrev main_cst_8 : Ref sig .tc := ⟨.hbm, 53, rfl⟩
abbrev main_v24 : Ref sig .tc := ⟨.hbm, 54, rfl⟩
abbrev main_v25 : Ref sig .tc := ⟨.hbm, 55, rfl⟩
abbrev main_cst_9 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_cst_10 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_cst_11 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_cst_12 : Ref sig .tc := ⟨.hbm, 68, rfl⟩
abbrev main_v35 : Ref sig .tc := ⟨.hbm, 69, rfl⟩
abbrev main_v36 : Ref sig .tc := ⟨.hbm, 70, rfl⟩
abbrev main_cst_13 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_cst_14 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_cst_15 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_cst_16 : Ref sig .tc := ⟨.hbm, 83, rfl⟩
abbrev main_v46 : Ref sig .tc := ⟨.hbm, 84, rfl⟩
abbrev main_v47 : Ref sig .tc := ⟨.hbm, 85, rfl⟩
abbrev main_cst_17 : Ref sig .tc := ⟨.hbm, 86, rfl⟩
abbrev main_v48 : Ref sig .tc := ⟨.hbm, 87, rfl⟩
abbrev main_v49 : Ref sig .tc := ⟨.hbm, 88, rfl⟩
abbrev main_cst_18 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_cst_19 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_cst_20 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_cst_21 : Ref sig .tc := ⟨.hbm, 101, rfl⟩
abbrev main_v59 : Ref sig .tc := ⟨.hbm, 102, rfl⟩
abbrev main_v60 : Ref sig .tc := ⟨.hbm, 103, rfl⟩
abbrev main_cst_22 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_cst_23 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_cst_24 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_cst_25 : Ref sig .tc := ⟨.hbm, 116, rfl⟩
abbrev main_v70 : Ref sig .tc := ⟨.hbm, 117, rfl⟩
abbrev main_v71 : Ref sig .tc := ⟨.hbm, 118, rfl⟩
abbrev main_cst_26 : Ref sig .tc := ⟨.hbm, 119, rfl⟩
abbrev main_v72 : Ref sig .tc := ⟨.hbm, 120, rfl⟩
abbrev main_v73 : Ref sig .tc := ⟨.hbm, 121, rfl⟩
abbrev main_cst_27 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_cst_28 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_cst_29 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_cst_30 : Ref sig .tc := ⟨.hbm, 134, rfl⟩
abbrev main_v83 : Ref sig .tc := ⟨.hbm, 135, rfl⟩
abbrev main_v84 : Ref sig .tc := ⟨.hbm, 136, rfl⟩
abbrev main_cst_31 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_cst_32 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_cst_33 : Ref sig .tc := ⟨.hbm, 145, rfl⟩
abbrev main_v91 : Ref sig .tc := ⟨.hbm, 146, rfl⟩
abbrev main_v92 : Ref sig .tc := ⟨.hbm, 147, rfl⟩
abbrev main_v93 : Ref sig .tc := ⟨.hbm, 148, rfl⟩
abbrev main_cst_34 : Ref sig .tc := ⟨.hbm, 149, rfl⟩
abbrev main_v94 : Ref sig .tc := ⟨.hbm, 150, rfl⟩
abbrev main_v95 : Ref sig .tc := ⟨.hbm, 151, rfl⟩
abbrev main_cst_35 : Ref sig .tc := ⟨.hbm, 152, rfl⟩
abbrev main_v96 : Ref sig .tc := ⟨.hbm, 153, rfl⟩
abbrev main_v97 : Ref sig .tc := ⟨.hbm, 154, rfl⟩
abbrev main_cst_36 : Ref sig .tc := ⟨.hbm, 155, rfl⟩
abbrev main_v98 : Ref sig .tc := ⟨.hbm, 156, rfl⟩
abbrev main_v99 : Ref sig .tc := ⟨.hbm, 157, rfl⟩
abbrev main_v100 : Ref sig .tc := ⟨.hbm, 158, rfl⟩
abbrev main_cst_37 : Ref sig .tc := ⟨.hbm, 159, rfl⟩
abbrev main_v101 : Ref sig .tc := ⟨.hbm, 160, rfl⟩
abbrev main_v102 : Ref sig .tc := ⟨.hbm, 161, rfl⟩
abbrev main_v103 : Ref sig .tc := ⟨.hbm, 162, rfl⟩
abbrev main_cst_38 : Ref sig .tc := ⟨.hbm, 163, rfl⟩
abbrev main_v104 : Ref sig .tc := ⟨.hbm, 164, rfl⟩
abbrev main_v105 : Ref sig .tc := ⟨.hbm, 165, rfl⟩
abbrev main_v106 : Ref sig .tc := ⟨.hbm, 166, rfl⟩
abbrev main_cst_39 : Ref sig .tc := ⟨.hbm, 167, rfl⟩
abbrev main_v107 : Ref sig .tc := ⟨.hbm, 168, rfl⟩
abbrev main_v108 : Ref sig .tc := ⟨.hbm, 169, rfl⟩
abbrev main_cst_40 : Ref sig .tc := ⟨.hbm, 170, rfl⟩
abbrev main_v109 : Ref sig .tc := ⟨.hbm, 171, rfl⟩
abbrev main_v110 : Ref sig .tc := ⟨.hbm, 172, rfl⟩
abbrev main_v111 : Ref sig .tc := ⟨.hbm, 173, rfl⟩
abbrev main_cst_41 : Ref sig .tc := ⟨.hbm, 174, rfl⟩
abbrev main_v112 : Ref sig .tc := ⟨.hbm, 175, rfl⟩
abbrev main_v113 : Ref sig .tc := ⟨.hbm, 176, rfl⟩
abbrev main_v114 : Ref sig .tc := ⟨.hbm, 177, rfl⟩
abbrev main_cst_42 : Ref sig .tc := ⟨.hbm, 178, rfl⟩
abbrev main_v115 : Ref sig .tc := ⟨.hbm, 179, rfl⟩
abbrev main_v116 : Ref sig .tc := ⟨.hbm, 180, rfl⟩
abbrev main_v117 : Ref sig .tc := ⟨.hbm, 181, rfl⟩
abbrev main_cst_43 : Ref sig .tc := ⟨.hbm, 182, rfl⟩
abbrev main_v118 : Ref sig .tc := ⟨.hbm, 183, rfl⟩
abbrev main_v119 : Ref sig .tc := ⟨.hbm, 184, rfl⟩
abbrev main_v120 : Ref sig .tc := ⟨.hbm, 185, rfl⟩
abbrev main_v121 : Ref sig .tc := ⟨.hbm, 186, rfl⟩
abbrev main_v122 : Ref sig .tc := ⟨.hbm, 187, rfl⟩
abbrev main_cst_44 : Ref sig .tc := ⟨.hbm, 188, rfl⟩
abbrev main_v123 : Ref sig .tc := ⟨.hbm, 189, rfl⟩
abbrev main_v124 : Ref sig .tc := ⟨.hbm, 190, rfl⟩
abbrev main_v125 : Ref sig .tc := ⟨.hbm, 191, rfl⟩
abbrev main_v126 : Ref sig .tc := ⟨.hbm, 192, rfl⟩
abbrev main_v127 : Ref sig .tc := ⟨.hbm, 193, rfl⟩
abbrev main_v128 : Ref sig .tc := ⟨.hbm, 194, rfl⟩
abbrev main_cst_45 : Ref sig .tc := ⟨.hbm, 195, rfl⟩
abbrev main_v129 : Ref sig .tc := ⟨.hbm, 196, rfl⟩
abbrev main_v130 : Ref sig .tc := ⟨.hbm, 197, rfl⟩
abbrev main_v131 : Ref sig .tc := ⟨.hbm, 198, rfl⟩
abbrev main_v132 : Ref sig .tc := ⟨.hbm, 199, rfl⟩
abbrev main_v133 : Ref sig .tc := ⟨.hbm, 200, rfl⟩
abbrev main_v134 : Ref sig .tc := ⟨.hbm, 201, rfl⟩
abbrev main_cst_46 : Ref sig .tc := ⟨.hbm, 202, rfl⟩
abbrev main_v135 : Ref sig .tc := ⟨.hbm, 203, rfl⟩
abbrev main_v136 : Ref sig .tc := ⟨.hbm, 204, rfl⟩
abbrev main_v137 : Ref sig .tc := ⟨.hbm, 205, rfl⟩
abbrev main_v138 : Ref sig .tc := ⟨.hbm, 206, rfl⟩
abbrev main_v139 : Ref sig .tc := ⟨.hbm, 207, rfl⟩
abbrev main_v140 : Ref sig .tc := ⟨.hbm, 208, rfl⟩
abbrev main_cst_47 : Ref sig .tc := ⟨.hbm, 209, rfl⟩
abbrev main_v141 : Ref sig .tc := ⟨.hbm, 210, rfl⟩
abbrev main_v142 : Ref sig .tc := ⟨.hbm, 211, rfl⟩
abbrev main_v143 : Ref sig .tc := ⟨.hbm, 212, rfl⟩

abbrev nD : Nat := 1
abbrev τ : Topo := Topo.v7x

variable {F : FTy → Type} [FloatOps F]
-- ==== Proof.ConvSpec.lean ====
/-
  The gradient of the three-tap convolution and its gate, written as plain sums over the extended reals: the taps of
  the input, the convolution, the gate and its derivative, the cotangent of each half of the convolution, and the
  three gradients. The kernel and the reference are each shown to return these.
-/
module

public import proofs.«01_k».proof.Defs
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.Conv

open Cert.KernelIdeal

/-- Row `n - j` of the input, zero before the first row and for a row `n` past the last. -/
def tap (a : FVec Ideal S8x2048x704 .f32) (s : Fin 8) (l : Fin 704) (j n : ℕ) : EReal :=
  if h : j ≤ n ∧ n < 2048 then a (ix3 s ⟨n - j, by omega⟩ l) else 0

/-- The convolution of slab `s` at row `n`, the bias added. -/
def pre (a : FVec Ideal S8x2048x704 .f32) (w : FVec Ideal S8x3x704 .f32) (b : FVec Ideal S5632 .f32)
    (s : Fin 8) (l : Fin 704) (n : ℕ) : EReal :=
  tap a s l 2 n * w (ix3 s 0 l) + tap a s l 1 n * w (ix3 s 1 l) + tap a s l 0 n * w (ix3 s 2 l)
    + b (ix1 ⟨s.val * 704 + l.val, by omega⟩)

/-- The hyperbolic tangent inside the gate. -/
def bend (g : EReal) : EReal :=
  Ideal.tanh (Ideal.ofBits .f32 0x3F4C422A#32 * (g + Named.named (F := Ideal) κ "c" (φ := .f32) 0x3D372713#32 * g * g * g))

/-- The gate. -/
def act (g : EReal) : EReal := Ideal.ofBits .f32 0x3F000000#32 * g * (1 + bend g)

/-- The gate's derivative. -/
def dact (g : EReal) : EReal :=
  Ideal.ofBits .f32 0x3F000000#32 * (1 + bend g)
    + Ideal.ofBits .f32 0x3F000000#32 * g * (1 - bend g * bend g) * Ideal.ofBits .f32 0x3F4C422A#32
      * (1 + Named.named (F := Ideal) κ "three_c" (φ := .f32) 0x3E095D4F#32 * g * g)

/-- The slab of the input that half `k` of the convolution reads for slab `d` of the output. -/
def slab (k : Fin 2) (d : Fin 4) : Fin 8 := ⟨k.val * 4 + d.val, by omega⟩

/-- The cotangent of the convolution's output: of the gated half (`k = 0`) and of the other; zero past the last row. -/
def dy (u : FVec Ideal S4x2048x704 .bf16) (a : FVec Ideal S8x2048x704 .f32) (w : FVec Ideal S8x3x704 .f32) (b : FVec Ideal S5632 .f32)
    (k : Fin 2) (d : Fin 4) (l : Fin 704) (n : ℕ) : EReal :=
  if h : n < 2048 then
    (if k.val = 0 then u (ix3 d ⟨n, h⟩ l) * pre a w b (slab 1 d) l n * dact (pre a w b (slab 0 d) l n)
     else u (ix3 d ⟨n, h⟩ l) * act (pre a w b (slab 0 d) l n))
  else 0

/-- The gradient of the input. -/
def da (u : FVec Ideal S4x2048x704 .bf16) (a : FVec Ideal S8x2048x704 .f32) (w : FVec Ideal S8x3x704 .f32) (b : FVec Ideal S5632 .f32) :
    FVec Ideal S2x4x2048x704 .bf16 := fun i =>
  dy u a w b (i 0) (i 1) (i 3) (i 2).val * w (ix3 (slab (i 0) (i 1)) 2 (i 3))
    + dy u a w b (i 0) (i 1) (i 3) ((i 2).val + 1) * w (ix3 (slab (i 0) (i 1)) 1 (i 3))
    + dy u a w b (i 0) (i 1) (i 3) ((i 2).val + 2) * w (ix3 (slab (i 0) (i 1)) 0 (i 3))

/-- The gradient of the three taps. -/
def dw (u : FVec Ideal S4x2048x704 .bf16) (a : FVec Ideal S8x2048x704 .f32) (w : FVec Ideal S8x3x704 .f32) (b : FVec Ideal S5632 .f32) :
    FVec Ideal S2x4x3x704 .f32 := fun i =>
  ∑ n : Fin 2048, dy u a w b (i 0) (i 1) (i 3) n.val * tap a (slab (i 0) (i 1)) (i 3) (2 - (i 2).val) n.val

/-- The gradient of the bias. -/
def db (u : FVec Ideal S4x2048x704 .bf16) (a : FVec Ideal S8x2048x704 .f32) (w : FVec Ideal S8x3x704 .f32) (b : FVec Ideal S5632 .f32) :
    FVec Ideal S2x4x1x704 .f32 := fun i =>
  ∑ n : Fin 2048, dy u a w b (i 0) (i 1) (i 3) n.val

/-- The reference's cotangent of the gated half, from the incoming cotangent `u`, the gate's argument `g` and the
    other half `v`. -/
def slope (u g v : EReal) : EReal :=
  Ideal.ofBits .f32 0x3F000000#32 * (u * v * (1 + bend g))
    + Ideal.ofBits .f32 0x3F4C422A#32 * (Ideal.ofBits .f32 0x3F000000#32 * g * (u * v) * ((1 + bend g) * (1 - bend g)))
    + Ideal.div (Ideal.ofBits .f32 0x3F4C422A#32 * (Ideal.ofBits .f32 0x3F000000#32 * g * (u * v) * ((1 + bend g) * (1 - bend g))))
        (Ideal.ofBits .f32 0x49742400#32) * Ideal.ofBits .f32 0x472EAB00#32 * (Ideal.ofBits .f32 0x40400000#32 * (g * g))

theorem half_eq : Ideal.ofBits .f32 0x3F000000#32 = ((1 / 2 : ℝ) : EReal) := by
  simp [Ideal.ofBits, Ideal.ieee, -EReal.coe_mul]; norm_num

theorem kay_eq : ∃ r : ℝ, Ideal.ofBits .f32 0x3F4C422A#32 = (r : EReal) := by
  refine ⟨13386282 / 16777216, ?_⟩
  simp [Ideal.ofBits, Ideal.ieee, -EReal.coe_mul]; norm_num

theorem million_eq : Ideal.ofBits .f32 0x49742400#32 = ((1000000 : ℝ) : EReal) := by
  simp [Ideal.ofBits, Ideal.ieee, -EReal.coe_mul]; norm_num

theorem share_eq : Ideal.ofBits .f32 0x472EAB00#32 = ((44715 : ℝ) : EReal) := by
  simp [Ideal.ofBits, Ideal.ieee, -EReal.coe_mul]; norm_num

theorem three_eq : Ideal.ofBits .f32 0x40400000#32 = ((3 : ℝ) : EReal) := by
  simp [Ideal.ofBits, Ideal.ieee, -EReal.coe_mul]; norm_num

theorem c_eq (b : BitVec 32) : Named.named (F := Ideal) κ "c" (φ := .f32) b = ((8943 / 200000 : ℝ) : EReal) := rfl

theorem three_c_eq (b : BitVec 32) : Named.named (F := Ideal) κ "three_c" (φ := .f32) b = ((26829 / 200000 : ℝ) : EReal) := rfl

/-- At real numbers the reference's cotangent is the kernel's: the incoming cotangent times the gate's derivative. -/
theorem slope_eq (u g v : ℝ) : slope (u : EReal) (g : EReal) (v : EReal) = (u : EReal) * (v : EReal) * dact (g : EReal) := by
  obtain ⟨r, hr⟩ := kay_eq
  have hb : ∃ t : ℝ, bend (g : EReal) = (t : EReal) := by
    unfold bend
    rw [c_eq, hr]
    simp only [← EReal.coe_mul, ← EReal.coe_add]
    exact ⟨_, Ideal.tanh_coe _⟩
  obtain ⟨t, ht⟩ := hb
  unfold slope dact
  rw [ht, half_eq, hr, million_eq, share_eq, three_eq, three_c_eq, Ideal.div_coe (by norm_num)]
  simp only [← EReal.coe_one, ← EReal.coe_mul, ← EReal.coe_add, ← EReal.coe_sub]
  congr 1
  ring

/-- The reference's spelling of the hyperbolic tangent inside the gate. -/
theorem bend_eq (g : ℝ) : Ideal.tanh (Ideal.ofBits .f32 0x3F4C422A#32 * ((g : EReal)
    + Ideal.div ((g : EReal) * (g : EReal) * (g : EReal) * Ideal.ofBits .f32 0x472EAB00#32) (Ideal.ofBits .f32 0x49742400#32)))
    = bend (g : EReal) := by
  obtain ⟨r, hr⟩ := kay_eq
  unfold bend
  rw [hr, million_eq, share_eq, c_eq, Ideal.div_coe (by norm_num)]
  simp only [← EReal.coe_mul, ← EReal.coe_add]
  congr 2
  ring

/-- An array of real numbers. -/
def IsReal {S : Shape} {φ : FTy} (x : FVec Ideal S φ) : Prop := ∀ i, ∃ r : ℝ, x i = (r : EReal)

theorem tap_real {a : FVec Ideal S8x2048x704 .f32} (ha : IsReal a) (s : Fin 8) (l : Fin 704) (j n : ℕ) :
    ∃ r : ℝ, tap a s l j n = (r : EReal) := by
  unfold tap
  split
  · exact ha _
  · exact ⟨0, rfl⟩

/-- The convolution of real numbers is a real number. -/
theorem pre_real {a : FVec Ideal S8x2048x704 .f32} {w : FVec Ideal S8x3x704 .f32} {b : FVec Ideal S5632 .f32}
    (ha : IsReal a) (hw : IsReal w) (hb : IsReal b) (s : Fin 8) (l : Fin 704) (n : ℕ) :
    ∃ r : ℝ, pre a w b s l n = (r : EReal) := by
  obtain ⟨x2, h2⟩ := tap_real ha s l 2 n
  obtain ⟨x1, h1⟩ := tap_real ha s l 1 n
  obtain ⟨x0, h0⟩ := tap_real ha s l 0 n
  obtain ⟨w0, g0⟩ := hw (ix3 s 0 l)
  obtain ⟨w1, g1⟩ := hw (ix3 s 1 l)
  obtain ⟨w2, g2⟩ := hw (ix3 s 2 l)
  obtain ⟨c, hc⟩ := hb (ix1 ⟨s.val * 704 + l.val, by omega⟩)
  unfold pre
  rw [h2, h1, h0, g0, g1, g2, hc]
  simp only [← EReal.coe_mul, ← EReal.coe_add]
  exact ⟨_, rfl⟩

end Cert.Conv

end
-- ==== Proof.ConvStep.lean ====
/-
  One tile of the kernel, at an index: the taps of the tile (its first rows taken from the halo, or zero at the start
  of the sequence), the convolution, the two cotangents, the stored gradient of the input and the stored parts of the
  gradients of the taps and the bias, each as the plain sums of the specification.
-/
module

public import proofs.«01_k».proof.Proof.ConvSpec
public import proofs.«01_k».proof.Proof.Gen.KernelIdeal.Value

@[expose] public section

set_option maxRecDepth 16384

noncomputable section

open Idealize.ShloMosaic Idealize.ShloMosaic.TcCoe Idealize.SL.Sem

namespace Cert.Conv

open Cert.KernelIdeal Cert.KernelIdeal.Gen

/-- A choice by a row's number. -/
theorem pick_row {r k : ℕ} (hr : r < 256) (hk : k < 256) (x y : EReal) :
    Scalar.select (IntOp.cmpi .eq (BitVec.ofNat 32 r) (BitVec.ofNat 32 k)) x y = if r = k then x else y := by
  rw [WordCmp.cmpi_eq_ofNat (by omega) (by omega)]
  by_cases h : r = k <;> simp [h, Scalar.select]

/-- A choice by a row's number at the start of the sequence. -/
theorem pick_first {f : BitVec 1} {q r k : ℕ} (hf : f = if q = 0 then 1#1 else 0#1) (hr : r < 256) (hk : k < 256) (x y : EReal) :
    Scalar.select (IntOp.andi f (IntOp.cmpi .slt (BitVec.ofNat 32 r) (BitVec.ofNat 32 k))) x y = if q = 0 ∧ r < k then x else y := by
  rw [WordCmp.cmpi_slt_ofNat (by omega) (by omega)]
  subst hf
  by_cases hq : q = 0 <;> by_cases h : r < k <;> simp [hq, h, Scalar.select, IntOp.andi]

/-- What a tile reads of one half: its rows, the two rows above it, the taps, the bias. -/
structure Half where
  x : Vec Ideal S1x1x256x704 .f32
  p : Vec Ideal S1x704 .f32
  n : Vec Ideal S1x704 .f32
  w0 : Vec Ideal S1x704 .f32
  w1 : Vec Ideal S1x704 .f32
  w2 : Vec Ideal S1x704 .f32
  b : Vec Ideal S1x1x1x704 .f32

/-- A half holds block `q` of slab `s`. -/
structure Half.Ok (H : Half) (a : FVec Ideal S8x2048x704 .f32) (w : FVec Ideal S8x3x704 .f32) (b : FVec Ideal S5632 .f32)
    (q : Fin 8) (s : Fin 8) : Prop where
  x : ∀ (r : Fin 256) (l : Fin 704), H.x (ix4 0 0 r l) = a (ix3 s ⟨q.val * 256 + r.val, by omega⟩ l)
  p : ∀ l : Fin 704, 0 < q.val → H.p (ix2 0 l) = a (ix3 s ⟨q.val * 256 - 2, by omega⟩ l)
  n : ∀ l : Fin 704, 0 < q.val → H.n (ix2 0 l) = a (ix3 s ⟨q.val * 256 - 1, by omega⟩ l)
  w0 : ∀ l : Fin 704, H.w0 (ix2 0 l) = w (ix3 s 0 l)
  w1 : ∀ l : Fin 704, H.w1 (ix2 0 l) = w (ix3 s 1 l)
  w2 : ∀ l : Fin 704, H.w2 (ix2 0 l) = w (ix3 s 2 l)
  b : ∀ l : Fin 704, H.b (ix4 0 0 0 l) = b (ix1 ⟨s.val * 704 + l.val, by omega⟩)

/-- The rows one above. -/
def up1 (f : BitVec 1) (H : Half) : FVec Ideal S256x704 .f32 := k0_pay15 f (k0_pay12 H.x H.n)

/-- The rows two above. -/
def up2 (f : BitVec 1) (H : Half) : FVec Ideal S256x704 .f32 := k0_pay16 f (k0_pay13 H.x H.p) k0_pay14 H.n

/-- The convolution of the gated half. -/
def gate (f : BitVec 1) (H : Half) : FVec Ideal S256x704 .f32 :=
  k0_pay18 (k0_pay11 H.x) (k0_pay17 f (k0_pay12 H.x H.n) (k0_pay13 H.x H.p) k0_pay14 H.n H.w0 H.w1) H.w2 H.b

/-- The convolution of the other half. -/
def other (f : BitVec 1) (H : Half) : FVec Ideal S256x704 .f32 :=
  k0_pay26 (k0_pay19 H.x) (k0_pay25 f (k0_pay20 H.x H.n) (k0_pay21 H.x H.p) k0_pay22 H.n H.w0 H.w1) H.w2 H.b

section

variable {f : BitVec 1} {H : Half} {a : FVec Ideal S8x2048x704 .f32} {w : FVec Ideal S8x3x704 .f32} {b : FVec Ideal S5632 .f32}
  {q s : Fin 8}

theorem up1_at (hf : f = if q.val = 0 then 1#1 else 0#1) (h : H.Ok a w b q s) (r : Fin 256) (l : Fin 704) :
    up1 f H (ix2 r l) = tap a s l 1 (q.val * 256 + r.val) := by
  have hr := r.isLt
  have hq := q.isLt
  pointwise [up1, k0_pay15, k0_pay12, k0_pay11]
  rw [pick_first hf hr (by omega), pick_row hr (by omega)]
  unfold tap
  by_cases h0 : r.val = 0
  · by_cases hq0 : q.val = 0
    · rw [if_pos (by omega), dif_neg (by omega)]
    · rw [if_neg (by omega), if_pos h0, dif_pos (by omega), h.n l (by omega)]
      congr 2
      exact Fin.ext (show q.val * 256 - 1 = q.val * 256 + r.val - 1 by omega)
  · rw [if_neg (by omega), if_neg h0, dif_pos (by omega), h.x]
    congr 2
    exact Fin.ext (show q.val * 256 + (r.val + 256 - 1) % 256 = q.val * 256 + r.val - 1 by omega)

theorem up2_at (hf : f = if q.val = 0 then 1#1 else 0#1) (h : H.Ok a w b q s) (r : Fin 256) (l : Fin 704) :
    up2 f H (ix2 r l) = tap a s l 2 (q.val * 256 + r.val) := by
  have hr := r.isLt
  have hq := q.isLt
  pointwise [up2, k0_pay16, k0_pay13, k0_pay14, k0_pay11]
  rw [pick_first hf hr (by omega), pick_row hr (by omega), pick_row hr (by omega)]
  unfold tap
  by_cases h0 : r.val = 0
  · by_cases hq0 : q.val = 0
    · rw [if_pos (by omega), dif_neg (by omega)]
    · rw [if_neg (by omega), if_neg (by omega), if_pos h0, dif_pos (by omega), h.p l (by omega)]
      congr 2
      exact Fin.ext (show q.val * 256 - 2 = q.val * 256 + r.val - 2 by omega)
  · by_cases h1 : r.val = 1
    · by_cases hq0 : q.val = 0
      · rw [if_pos (by omega), dif_neg (by omega)]
      · rw [if_neg (by omega), if_pos h1, dif_pos (by omega), h.n l (by omega)]
        congr 2
        exact Fin.ext (show q.val * 256 - 1 = q.val * 256 + r.val - 2 by omega)
    · rw [if_neg (by omega), if_neg h1, if_neg h0, dif_pos (by omega), h.x]
      congr 2
      exact Fin.ext (show q.val * 256 + (r.val + 256 - 2) % 256 = q.val * 256 + r.val - 2 by omega)

theorem row_at (h : H.Ok a w b q s) (r : Fin 256) (l : Fin 704) : H.x (ix4 0 0 r l) = tap a s l 0 (q.val * 256 + r.val) := by
  rw [h.x, tap, dif_pos (by omega)]
  rfl

theorem gate_at (hf : f = if q.val = 0 then 1#1 else 0#1) (h : H.Ok a w b q s) (r : Fin 256) (l : Fin 704) :
    gate f H (ix2 r l) = pre a w b s l (q.val * 256 + r.val) := by
  have e1 := up1_at hf h r l
  have e2 := up2_at hf h r l
  unfold up1 at e1
  unfold up2 at e2
  pointwise [gate, k0_pay18, k0_pay17, k0_pay11]
  rw [e1, e2, h.w0, h.w1, h.w2, h.b, row_at h]
  rfl

theorem other_at (hf : f = if q.val = 0 then 1#1 else 0#1) (h : H.Ok a w b q s) (r : Fin 256) (l : Fin 704) :
    other f H (ix2 r l) = pre a w b s l (q.val * 256 + r.val) := gate_at hf h r l

end

/-- What a tile reads: whether it is the first of its sequence, both halves, the incoming cotangent. -/
structure Tile where
  f : BitVec 1
  h0 : Half
  h1 : Half
  c : Vec Ideal S1x256x704 .bf16

/-- A tile holds block `q` of slab `d`. -/
structure Tile.Ok (T : Tile) (u : FVec Ideal S4x2048x704 .bf16) (a : FVec Ideal S8x2048x704 .f32) (w : FVec Ideal S8x3x704 .f32)
    (b : FVec Ideal S5632 .f32) (q : Fin 8) (d : Fin 4) : Prop where
  f : T.f = if q.val = 0 then 1#1 else 0#1
  h0 : T.h0.Ok a w b q (slab 0 d)
  h1 : T.h1.Ok a w b q (slab 1 d)
  c : ∀ (r : Fin 256) (l : Fin 704), T.c (ix3 0 r l) = u (ix3 d ⟨q.val * 256 + r.val, by omega⟩ l)

/-- The tile's cotangent of the gated half. -/
abbrev dyg (T : Tile) : FVec Ideal S256x704 .f32 := mulf (mulf (k0_pay30 T.c) (other T.f T.h1)) (k0_pay29 (gate T.f T.h0))

/-- The tile's cotangent of the other half. -/
abbrev dyv (T : Tile) : FVec Ideal S256x704 .f32 := mulf (k0_pay30 T.c) (k0_pay28 (gate T.f T.h0))

section

variable {T : Tile} {u : FVec Ideal S4x2048x704 .bf16} {a : FVec Ideal S8x2048x704 .f32} {w : FVec Ideal S8x3x704 .f32}
  {b : FVec Ideal S5632 .f32} {q : Fin 8} {d : Fin 4}

theorem dyg_at (h : T.Ok u a w b q d) (r : Fin 256) (l : Fin 704) :
    dyg T (ix2 r l) = dy u a w b 0 d l (q.val * 256 + r.val) := by
  have hr := r.isLt
  have hq := q.isLt
  have e0 := gate_at h.f h.h0 r l
  have e1 := other_at h.f h.h1 r l
  have e : dyg T (ix2 r l) = T.c (ix3 0 r l) * other T.f T.h1 (ix2 r l) * dact (gate T.f T.h0 (ix2 r l)) := by
    pointwise [dyg, k0_pay30, k0_pay29, k0_pay27]
    rfl
  rw [e, e0, e1, h.c, dy, dif_pos (show q.val * 256 + r.val < 2048 by omega)]
  exact (if_pos rfl).symm

theorem dyv_at (h : T.Ok u a w b q d) (r : Fin 256) (l : Fin 704) :
    dyv T (ix2 r l) = dy u a w b 1 d l (q.val * 256 + r.val) := by
  have hr := r.isLt
  have hq := q.isLt
  have e0 := gate_at h.f h.h0 r l
  have e : dyv T (ix2 r l) = T.c (ix3 0 r l) * act (gate T.f T.h0 (ix2 r l)) := by
    pointwise [dyv, k0_pay30, k0_pay28, k0_pay27]
    rfl
  rw [e, e0, h.c, dy, dif_pos (show q.val * 256 + r.val < 2048 by omega)]
  exact (if_neg (show ¬((1 : Fin 2).val = 0) by decide)).symm

end

section

variable {u : FVec Ideal S4x2048x704 .bf16} {a : FVec Ideal S8x2048x704 .f32} {w : FVec Ideal S8x3x704 .f32}
  {b : FVec Ideal S5632 .f32} {q : Fin 8} {k : Fin 2} {d : Fin 4}

/-- The stored gradient of the input of the other half, from the tile's cotangent `D` and the two rows below the tile. -/
abbrev dax (D : FVec Ideal S256x704 .f32) (v0 v1 v2 : Vec Ideal S1x1x1x704 .f32) (m0 n0 n1 : Vec Ideal S1x1x704 .f32) :
    FVec Ideal S1x1x256x704 .bf16 :=
  k0_pay50
    (addf (mulf D (broadcastTo S256x704 (shapeCast S1x704 v2 shapeCasts_S1x1x1x704_S1x704) broadcasts_S1x704_S256x704))
      (mulf (select (cmpi .eq (iota .tc S256x704 32 [0] iota_S256x704_d0_w32) (broadcast S256x704 255#32))
          (broadcastTo S256x704 (shapeCast S1x704 (shapeCast S1x704 m0 shapeCasts_S1x1x704_S1x704) shapeCasts_S1x704_S1x704) broadcasts_S1x704_S256x704)
          (dynamicRotate 0 255#32 none D rotates_S256x704_d0))
        (broadcastTo S256x704 (shapeCast S1x704 v1 shapeCasts_S1x1x1x704_S1x704) broadcasts_S1x704_S256x704)))
    (select (cmpi .eq (iota .tc S256x704 32 [0] iota_S256x704_d0_w32) (broadcast S256x704 255#32))
      (broadcastTo S256x704 (shapeCast S1x704 (shapeCast S1x704 n1 shapeCasts_S1x1x704_S1x704) shapeCasts_S1x704_S1x704) broadcasts_S1x704_S256x704)
      (select (cmpi .eq (iota .tc S256x704 32 [0] iota_S256x704_d0_w32) (broadcast S256x704 254#32))
        (broadcastTo S256x704 (shapeCast S1x704 (shapeCast S1x704 n0 shapeCasts_S1x1x704_S1x704) shapeCasts_S1x704_S1x704) broadcasts_S1x704_S256x704)
        (dynamicRotate 0 254#32 none D rotates_S256x704_d0)))
    (shapeCast S1x704 v0 shapeCasts_S1x1x1x704_S1x704)

/-- The same of the gated half, as it is stored. -/
abbrev dag (D : FVec Ideal S256x704 .f32) (v0 v1 v2 : Vec Ideal S1x1x1x704 .f32) (m0 n0 n1 : Vec Ideal S1x1x704 .f32) :
    FVec Ideal S1x1x256x704 .bf16 :=
  shapeCast S1x1x256x704 (truncf .bf16 (addf
    (addf (mulf D (broadcastTo S256x704 (shapeCast S1x704 v2 shapeCasts_S1x1x1x704_S1x704) broadcasts_S1x704_S256x704))
      (mulf (select (cmpi .eq (iota .tc S256x704 32 [0] iota_S256x704_d0_w32) (broadcast S256x704 255#32))
          (broadcastTo S256x704 (shapeCast S1x704 (shapeCast S1x704 m0 shapeCasts_S1x1x704_S1x704) shapeCasts_S1x704_S1x704) broadcasts_S1x704_S256x704)
          (dynamicRotate 0 255#32 none D rotates_S256x704_d0))
        (broadcastTo S256x704 (shapeCast S1x704 v1 shapeCasts_S1x1x1x704_S1x704) broadcasts_S1x704_S256x704)))
    (mulf (select (cmpi .eq (iota .tc S256x704 32 [0] iota_S256x704_d0_w32) (broadcast S256x704 255#32))
      (broadcastTo S256x704 (shapeCast S1x704 (shapeCast S1x704 n1 shapeCasts_S1x1x704_S1x704) shapeCasts_S1x704_S1x704) broadcasts_S1x704_S256x704)
      (select (cmpi .eq (iota .tc S256x704 32 [0] iota_S256x704_d0_w32) (broadcast S256x704 254#32))
        (broadcastTo S256x704 (shapeCast S1x704 (shapeCast S1x704 n0 shapeCasts_S1x1x704_S1x704) shapeCasts_S1x704_S1x704) broadcasts_S1x704_S256x704)
        (dynamicRotate 0 254#32 none D rotates_S256x704_d0)))
      (broadcastTo S256x704 (shapeCast S1x704 v0 shapeCasts_S1x1x1x704_S1x704) broadcasts_S1x704_S256x704))) bitsLt_bf16_f32)
    shapeCasts_S256x704_S1x1x256x704

theorem dag_eq (D : FVec Ideal S256x704 .f32) (v0 v1 v2 : Vec Ideal S1x1x1x704 .f32) (m0 n0 n1 : Vec Ideal S1x1x704 .f32) :
    dag D v0 v1 v2 m0 n0 n1 = dax D v0 v1 v2 m0 n0 n1 := rfl

theorem dax_at (D : FVec Ideal S256x704 .f32) (v0 v1 v2 : Vec Ideal S1x1x1x704 .f32) (m0 n0 n1 : Vec Ideal S1x1x704 .f32)
    (hD : ∀ (r : Fin 256) (l : Fin 704), D (ix2 r l) = dy u a w b k d l (q.val * 256 + r.val))
    (h0 : ∀ l : Fin 704, v0 (ix4 0 0 0 l) = w (ix3 (slab k d) 0 l))
    (h1 : ∀ l : Fin 704, v1 (ix4 0 0 0 l) = w (ix3 (slab k d) 1 l))
    (h2 : ∀ l : Fin 704, v2 (ix4 0 0 0 l) = w (ix3 (slab k d) 2 l))
    (hm : ∀ l : Fin 704, m0 (ix3 0 0 l) = dy u a w b k d l ((q.val + 1) * 256))
    (hn0 : ∀ l : Fin 704, n0 (ix3 0 0 l) = dy u a w b k d l ((q.val + 1) * 256))
    (hn1 : ∀ l : Fin 704, n1 (ix3 0 0 l) = dy u a w b k d l ((q.val + 1) * 256 + 1))
    (z0 z1 : Fin 1) (r : Fin 256) (l : Fin 704) :
    dax D v0 v1 v2 m0 n0 n1 (ix4 z0 z1 r l) = da u a w b (ix4 k d ⟨q.val * 256 + r.val, by omega⟩ l) := by
  have hr := r.isLt
  obtain rfl := Fin.eq_zero z0
  obtain rfl := Fin.eq_zero z1
  pointwise [dax, k0_pay50]
  rw [pick_row hr (by omega), pick_row hr (by omega), pick_row hr (by omega), h0, h1, h2, hm, hn0, hn1, hD, hD, hD]
  have e1 : (if r.val = 255 then dy u a w b k d l ((q.val + 1) * 256)
      else dy u a w b k d l (q.val * 256 + (r.val + 256 - 255) % 256)) = dy u a w b k d l (q.val * 256 + r.val + 1) := by
    split
    · congr 1; omega
    · congr 1; omega
  have e2 : (if r.val = 255 then dy u a w b k d l ((q.val + 1) * 256 + 1)
      else if r.val = 254 then dy u a w b k d l ((q.val + 1) * 256)
      else dy u a w b k d l (q.val * 256 + (r.val + 256 - 254) % 256)) = dy u a w b k d l (q.val * 256 + r.val + 2) := by
    split
    · congr 1; omega
    · split
      · congr 1; omega
      · congr 1; omega
  exact congrArg₂ (fun x y : EReal => dy u a w b k d l (q.val * 256 + r.val) * w (ix3 (slab k d) 2 l)
    + x * w (ix3 (slab k d) 1 l) + y * w (ix3 (slab k d) 0 l)) e1 e2

end

section

variable (D X : FVec Ideal S256x704 .f32) (v : Vec Ideal S1x1x1x704 .f32) (z0 z1 z2 : Fin 1) (l : Fin 704)

/-- The sums over a tile's rows, as the body forms them. -/
abbrev red (D X : FVec Ideal S256x704 .f32) : FVec Ideal S1x704 .f32 :=
  shapeCast S1x704 (multiReduction .add [0] S704 (mulf D X) 0x00000000#32 reduces_S256x704_S704 (.inl rfl) rfl) shapeCasts_S704_S1x704
abbrev redb (D : FVec Ideal S256x704 .f32) : FVec Ideal S1x704 .f32 :=
  shapeCast S1x704 (multiReduction .add [0] S704 D 0x00000000#32 reduces_S256x704_S704 (.inl rfl) rfl) shapeCasts_S704_S1x704

theorem firstg : (shapeCast S1x1x1x704 (red D X) shapeCasts_S1x704_S1x1x1x704) (ix4 z0 z1 z2 l) = ∑ r : Fin 256, D (ix2 r l) * X (ix2 r l) := by
  obtain rfl := Fin.eq_zero z0
  obtain rfl := Fin.eq_zero z1
  obtain rfl := Fin.eq_zero z2
  pointwise [red]

theorem firstgb : (shapeCast S1x1x1x704 (redb D) shapeCasts_S1x704_S1x1x1x704) (ix4 z0 z1 z2 l) = ∑ r : Fin 256, D (ix2 r l) := by
  obtain rfl := Fin.eq_zero z0
  obtain rfl := Fin.eq_zero z1
  obtain rfl := Fin.eq_zero z2
  pointwise [redb]

theorem first2 : (k0_pay55 X D) (ix4 z0 z1 z2 l) = ∑ r : Fin 256, D (ix2 r l) * X (ix2 r l) := by
  obtain rfl := Fin.eq_zero z0
  obtain rfl := Fin.eq_zero z1
  obtain rfl := Fin.eq_zero z2
  pointwise [k0_pay55, k0_pay51]

theorem first1 : (k0_pay56 X D) (ix4 z0 z1 z2 l) = ∑ r : Fin 256, D (ix2 r l) * X (ix2 r l) := by
  obtain rfl := Fin.eq_zero z0
  obtain rfl := Fin.eq_zero z1
  obtain rfl := Fin.eq_zero z2
  pointwise [k0_pay56, k0_pay52]

theorem first0 : (k0_pay57 D X) (ix4 z0 z1 z2 l) = ∑ r : Fin 256, D (ix2 r l) * X (ix2 r l) := by
  obtain rfl := Fin.eq_zero z0
  obtain rfl := Fin.eq_zero z1
  obtain rfl := Fin.eq_zero z2
  pointwise [k0_pay57, k0_pay53]

theorem firstb : (k0_pay58 D) (ix4 z0 z1 z2 l) = ∑ r : Fin 256, D (ix2 r l) := by
  obtain rfl := Fin.eq_zero z0
  obtain rfl := Fin.eq_zero z1
  obtain rfl := Fin.eq_zero z2
  pointwise [k0_pay58, k0_pay54]

theorem stepg : (shapeCast S1x1x1x704 (addf (shapeCast S1x704 v shapeCasts_S1x1x1x704_S1x704) (red D X)) shapeCasts_S1x704_S1x1x1x704) (ix4 z0 z1 z2 l) = v (ix4 z0 z1 z2 l) + ∑ r : Fin 256, D (ix2 r l) * X (ix2 r l) := by
  obtain rfl := Fin.eq_zero z0
  obtain rfl := Fin.eq_zero z1
  obtain rfl := Fin.eq_zero z2
  pointwise [red]

theorem stepgb : (shapeCast S1x1x1x704 (addf (shapeCast S1x704 v shapeCasts_S1x1x1x704_S1x704) (redb D)) shapeCasts_S1x704_S1x1x1x704) (ix4 z0 z1 z2 l) = v (ix4 z0 z1 z2 l) + ∑ r : Fin 256, D (ix2 r l) := by
  obtain rfl := Fin.eq_zero z0
  obtain rfl := Fin.eq_zero z1
  obtain rfl := Fin.eq_zero z2
  pointwise [redb]

theorem step2 : (shapeCast S1x1x1x704 (addf (shapeCast S1x704 v shapeCasts_S1x1x1x704_S1x704) (k0_pay51 X D)) shapeCasts_S1x704_S1x1x1x704) (ix4 z0 z1 z2 l) = v (ix4 z0 z1 z2 l) + ∑ r : Fin 256, D (ix2 r l) * X (ix2 r l) := by
  obtain rfl := Fin.eq_zero z0
  obtain rfl := Fin.eq_zero z1
  obtain rfl := Fin.eq_zero z2
  pointwise [k0_pay51]

theorem step1 : (shapeCast S1x1x1x704 (addf (shapeCast S1x704 v shapeCasts_S1x1x1x704_S1x704) (k0_pay52 X D)) shapeCasts_S1x704_S1x1x1x704) (ix4 z0 z1 z2 l) = v (ix4 z0 z1 z2 l) + ∑ r : Fin 256, D (ix2 r l) * X (ix2 r l) := by
  obtain rfl := Fin.eq_zero z0
  obtain rfl := Fin.eq_zero z1
  obtain rfl := Fin.eq_zero z2
  pointwise [k0_pay52]

theorem step0 : (shapeCast S1x1x1x704 (addf (shapeCast S1x704 v shapeCasts_S1x1x1x704_S1x704) (k0_pay53 D X)) shapeCasts_S1x704_S1x1x1x704) (ix4 z0 z1 z2 l) = v (ix4 z0 z1 z2 l) + ∑ r : Fin 256, D (ix2 r l) * X (ix2 r l) := by
  obtain rfl := Fin.eq_zero z0
  obtain rfl := Fin.eq_zero z1
  obtain rfl := Fin.eq_zero z2
  pointwise [k0_pay53]

theorem stepb : (shapeCast S1x1x1x704 (addf (shapeCast S1x704 v shapeCasts_S1x1x1x704_S1x704) (k0_pay54 D)) shapeCasts_S1x704_S1x1x1x704) (ix4 z0 z1 z2 l) = v (ix4 z0 z1 z2 l) + ∑ r : Fin 256, D (ix2 r l) := by
  obtain rfl := Fin.eq_zero z0
  obtain rfl := Fin.eq_zero z1
  obtain rfl := Fin.eq_zero z2
  pointwise [k0_pay54]

theorem carried (z : Fin 1) (j : Fin 8) : k0_pay59 D (ix3 z j l) = D (ix2 ⟨j.val, by omega⟩ l) := by
  pointwise [k0_pay59]

end

end Cert.Conv

end
-- ==== Proof.ConvRead.lean ====
/-
  What a grid point of the kernel reads: the blocks of the launch arrays at the point,
  read at an index.
-/
module

public import proofs.«01_k».proof.Proof.ConvStep
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Conv

open Cert.KernelIdeal Cert.KernelIdeal.Gen

variable (m : (ℓ : Loc nD τ sig) → Buf (Elt Ideal) ℓ)

/-- Where each window's block lies at grid point `t`. -/
theorem places : ∀ t : Fin cfg0.N, win0_0.index t = ![t.val / 8, 7 - t.val % 8, 0]
    ∧ win0_1.index t = ![0, t.val / 8, 7 - t.val % 8, 0]
    ∧ win0_2.index t = ![0, t.val / 8, (7 - t.val % 8) * 32 - 1, 0]
    ∧ win0_3.index t = ![0, t.val / 8, 0, 0] ∧ win0_4.index t = ![0, t.val / 8, 0, 0]
    ∧ win0_5.index t = ![0, t.val / 8, 7 - t.val % 8, 0]
    ∧ win0_6.index t = ![0, t.val / 8, 0, 0] ∧ win0_7.index t = ![0, t.val / 8, 0, 0] :=
  (by decide +kernel : ∀ t : Fin grid0.N, _)

/-- The block of the sequence a point works on. -/
def blkOf (t : Fin cfg0.N) : Fin 8 := ⟨7 - t.val % 8, by omega⟩

/-- The slab of the output a point works on. -/
def slabOf (t : Fin cfg0.N) : Fin 4 := ⟨t.val / 8, by have := lt_of_lt_of_eq t.isLt N_0; omega⟩

/-- The flag of a sequence's first block. -/
theorem flag : ∀ t : Fin cfg0.N, Scalar.cmpi .eq (BitVec.ofNat 32 (grid0.coords t 1).val) 7#32 = if (blkOf t).val = 0 then 1#1 else 0#1 :=
  (by decide +kernel : ∀ t : Fin grid0.N, Scalar.cmpi .eq (BitVec.ofNat 32 (grid0.coords t 1).val) 7#32 = if 7 - t.val % 8 = 0 then 1#1 else 0#1)

/-- The launch contents of the four arguments. -/
abbrev argU (c : Dev nD) : FVec Ideal S4x2048x704 .bf16 := m ((c : Thread nD τ).loc main_arg0)
abbrev argA (c : Dev nD) : FVec Ideal S8x2048x704 .f32 := m ((c : Thread nD τ).loc main_arg1)
abbrev argW (c : Dev nD) : FVec Ideal S8x3x704 .f32 := m ((c : Thread nD τ).loc main_arg2)
abbrev argB (c : Dev nD) : FVec Ideal S5632 .f32 := m ((c : Thread nD τ).loc main_arg3)

theorem rows_at (c : Dev nD) (t : Fin cfg0.N) (k : Fin 2) (r : Fin 256) (l : Fin 704) :
    (iblk m c 1 t : FVec Ideal S2x1x256x704 .f32) (ix4 k 0 r l)
    = argA m c (ix3 (slab k (slabOf t)) ⟨(blkOf t).val * 256 + r.val, by omega⟩ l) := by
  have ht : t.val < 32 := lt_of_lt_of_eq t.isLt N_0
  have hk := k.isLt
  have hr := r.isLt
  have hl := l.isLt
  unfold slab blkOf slabOf
  blk_point [iblk, V, places t]

theorem halo_at (c : Dev nD) (t : Fin cfg0.N) (k : Fin 2) (r : Fin 8) (l : Fin 704) (h : 0 < (blkOf t).val) :
    (iblk m c 2 t : FVec Ideal S2x1x8x704 .f32) (ix4 k 0 r l)
    = argA m c (ix3 (slab k (slabOf t)) ⟨(blkOf t).val * 256 - 8 + r.val, by omega⟩ l) := by
  have ht : t.val < 32 := lt_of_lt_of_eq t.isLt N_0
  have hk := k.isLt
  have hr := r.isLt
  have hl := l.isLt
  have h' : 0 < 7 - t.val % 8 := h
  unfold slab blkOf slabOf
  blk_point [iblk, V, places t]

theorem taps_at (c : Dev nD) (t : Fin cfg0.N) (k : Fin 2) (j : Fin 3) (l : Fin 704) :
    (iblk m c 3 t : FVec Ideal S2x1x3x704 .f32) (ix4 k 0 j l) = argW m c (ix3 (slab k (slabOf t)) j l) := by
  have ht : t.val < 32 := lt_of_lt_of_eq t.isLt N_0
  have hk := k.isLt
  have hr := j.isLt
  have hl := l.isLt
  unfold slab slabOf
  blk_point [iblk, V, places t]

theorem bias_at (c : Dev nD) (t : Fin cfg0.N) (k : Fin 2) (l : Fin 704) :
    (iblk m c 4 t : FVec Ideal S2x1x1x704 .f32) (ix4 k 0 0 l) = argB m c (ix1 ⟨(slab k (slabOf t)).val * 704 + l.val, by omega⟩) := by
  have ht : t.val < 32 := lt_of_lt_of_eq t.isLt N_0
  have hk := k.isLt
  have hl := l.isLt
  unfold slab slabOf
  blk_point [iblk, V, places t]

theorem cot_at (c : Dev nD) (t : Fin cfg0.N) (r : Fin 256) (l : Fin 704) :
    (iblk m c 0 t : FVec Ideal S1x256x704 .bf16) (ix3 0 r l)
    = argU m c (ix3 (slabOf t) ⟨(blkOf t).val * 256 + r.val, by omega⟩ l) := by
  have ht : t.val < 32 := lt_of_lt_of_eq t.isLt N_0
  have hr := r.isLt
  have hl := l.isLt
  unfold blkOf slabOf
  blk_point [iblk, V, places t]

end Cert.Conv

end
-- ==== Proof.ConvTile.lean ====
/-
  What a grid point of the kernel reads: the blocks of the launch arrays at the point, as a tile of the
  specification.
-/
module

public import proofs.«01_k».proof.Proof.ConvRead

@[expose] public section

set_option maxRecDepth 16384

noncomputable section

open Idealize.ShloMosaic Idealize.ShloMosaic.TcCoe Idealize.SL.Sem
open Idealize.ShloMosaic.Pipeline (Dat)

namespace Cert.Conv

open Cert.KernelIdeal Cert.KernelIdeal.Gen

variable (m : (ℓ : Loc nD τ sig) → Buf (Elt Ideal) ℓ)

theorem count8 : S8x704.numel = S1x1x8x704.numel := by decide +kernel
theorem flat8 : S1x1x8x704.ShapeCasts S8x704 := by decide +kernel
theorem flat3 : S1x1x3x704.ShapeCasts S3x704 := by decide +kernel
theorem count3 : S3x704.numel = S1x1x3x704.numel := by decide +kernel

/-- Half `k` of the halo, and of the taps. -/
abbrev haloRect (k : Fin 2) : Rect S2x1x8x704 := Rect.unit (s := S2x1x8x704) ![k.val, 0, 0, 0] ![1, 1, 8, 704] (by revert k; decide)
abbrev tapRect (k : Fin 2) : Rect S2x1x3x704 := Rect.unit (s := S2x1x3x704) ![k.val, 0, 0, 0] ![1, 1, 3, 704] (by revert k; decide)

/-- One row of a half. -/
abbrev haloLine (i : Fin 8) : Rect S8x704 := Rect.unit (s := S8x704) ![i.val, 0] ![1, 704] (by revert i; decide)
abbrev tapLine (i : Fin 3) : Rect S3x704 := Rect.unit (s := S3x704) ![i.val, 0] ![1, 704] (by revert i; decide)

/-- Row `i` of the halo's half `k`, as loaded. -/
def haloRow (c : Dev nD) (t : Fin cfg0.N) (k : Fin 2) (i : Fin 8) : Vec Ideal S1x704 .f32 :=
  View.ld (View.read (Elt Ideal) (((ms0_2 t).view.slice (haloRect k)).reshape S8x704 count8) ((hs0_2 t).unread (iblk m c 2 t))) (haloLine i)

/-- Row `i` of half `k` of the taps, as loaded for the convolution. -/
def tapRow (c : Dev nD) (t : Fin cfg0.N) (k : Fin 2) (i : Fin 3) : Vec Ideal S1x704 .f32 :=
  View.ld (View.read (Elt Ideal) (((ms0_3 t).view.slice (tapRect k)).reshape S3x704 count3) ((hs0_3 t).unread (iblk m c 3 t))) (tapLine i)

/-- The same rows, of the block itself. -/
def haloRow' (X : Vec Ideal S2x1x8x704 .f32) (k : Fin 2) (i : Fin 8) : Vec Ideal S1x704 .f32 :=
  View.ld (shapeCast S8x704 (View.ld X (haloRect k) : Vec Ideal S1x1x8x704 .f32) flat8) (haloLine i)
def tapRow' (X : Vec Ideal S2x1x3x704 .f32) (k : Fin 2) (i : Fin 3) : Vec Ideal S1x704 .f32 :=
  View.ld (shapeCast S3x704 (View.ld X (tapRect k) : Vec Ideal S1x1x3x704 .f32) flat3) (tapLine i)

theorem haloLine_at (Y : Vec Ideal S8x704 .f32) (i : Fin 8) (l : Fin 704) :
    (View.ld Y (haloLine i) : Vec Ideal S1x704 .f32) (ix2 0 l) = Y (ix2 i l) := by
  pointwise []

theorem haloFlat_at (Z : Vec Ideal S1x1x8x704 .f32) (i : Fin 8) (l : Fin 704) :
    shapeCast S8x704 Z flat8 (ix2 i l) = Z (ix4 0 0 i l) := by
  pointwise []

theorem haloRect_at (X : Vec Ideal S2x1x8x704 .f32) (k : Fin 2) (i : Fin 8) (l : Fin 704) :
    (View.ld X (haloRect k) : Vec Ideal S1x1x8x704 .f32) (ix4 0 0 i l) = X (ix4 k 0 i l) := by
  pointwise []

theorem haloRow'_at (X : Vec Ideal S2x1x8x704 .f32) (k : Fin 2) (i : Fin 8) (l : Fin 704) : haloRow' X k i (ix2 0 l) = X (ix4 k 0 i l) :=
  (haloLine_at _ i l).trans ((haloFlat_at _ i l).trans (haloRect_at X k i l))

theorem tapLine_at (Y : Vec Ideal S3x704 .f32) (i : Fin 3) (l : Fin 704) :
    (View.ld Y (tapLine i) : Vec Ideal S1x704 .f32) (ix2 0 l) = Y (ix2 i l) := by
  pointwise []

theorem tapFlat_at (Z : Vec Ideal S1x1x3x704 .f32) (i : Fin 3) (l : Fin 704) :
    shapeCast S3x704 Z flat3 (ix2 i l) = Z (ix4 0 0 i l) := by
  pointwise []

theorem tapRect_at (X : Vec Ideal S2x1x3x704 .f32) (k : Fin 2) (i : Fin 3) (l : Fin 704) :
    (View.ld X (tapRect k) : Vec Ideal S1x1x3x704 .f32) (ix4 0 0 i l) = X (ix4 k 0 i l) := by
  pointwise []

theorem tapRow'_at (X : Vec Ideal S2x1x3x704 .f32) (k : Fin 2) (i : Fin 3) (l : Fin 704) : tapRow' X k i (ix2 0 l) = X (ix4 k 0 i l) :=
  (tapLine_at _ i l).trans ((tapFlat_at _ i l).trans (tapRect_at X k i l))

theorem haloRow_at (c : Dev nD) (t : Fin cfg0.N) (k : Fin 2) (i : Fin 8) (l : Fin 704) :
    haloRow m c t k i (ix2 0 l) = (iblk m c 2 t : FVec Ideal S2x1x8x704 .f32) (ix4 k 0 i l) :=
  (congrFun ((hs0_2 t).read_unread (iblk m c 2 t)) _).trans (haloRow'_at (iblk m c 2 t) k i l)

theorem tapRow_at (c : Dev nD) (t : Fin cfg0.N) (k : Fin 2) (i : Fin 3) (l : Fin 704) :
    tapRow m c t k i (ix2 0 l) = (iblk m c 3 t : FVec Ideal S2x1x3x704 .f32) (ix4 k 0 i l) :=
  (congrFun ((hs0_3 t).read_unread (iblk m c 3 t)) _).trans (tapRow'_at (iblk m c 3 t) k i l)

/-- Row `j` of half `k` of the taps, as loaded for the gradient of the input. -/
def tapBlk (c : Dev nD) (t : Fin cfg0.N) (k : Fin 2) (j : Fin 3) : Vec Ideal S1x1x1x704 .f32 :=
  View.ld (iblk m c 3 t : FVec Ideal S2x1x3x704 .f32) (Rect.unit (s := S2x1x3x704) ![k.val, 0, j.val, 0] ![1, 1, 1, 704]
    (by revert k j; decide))

theorem tapBlk_at (c : Dev nD) (t : Fin cfg0.N) (k : Fin 2) (j : Fin 3) (l : Fin 704) :
    tapBlk m c t k j (ix4 0 0 0 l) = argW m c (ix3 (slab k (slabOf t)) j l) := by
  refine Eq.trans ?_ (taps_at m c t k j l)
  pointwise [tapBlk]

/-- What the point reads of half `k`. -/
def halfOf (c : Dev nD) (t : Fin cfg0.N) (k : Fin 2) : Half where
  x := View.ld (iblk m c 1 t : FVec Ideal S2x1x256x704 .f32) (Rect.unit (s := S2x1x256x704) ![k.val, 0, 0, 0] ![1, 1, 256, 704]
    (by revert k; decide))
  p := haloRow m c t k 6
  n := haloRow m c t k 7
  w0 := tapRow m c t k 0
  w1 := tapRow m c t k 1
  w2 := tapRow m c t k 2
  b := View.ld (iblk m c 4 t : FVec Ideal S2x1x1x704 .f32) (Rect.unit (s := S2x1x1x704) ![k.val, 0, 0, 0] ![1, 1, 1, 704]
    (by revert k; decide))

theorem halfOf_ok (c : Dev nD) (t : Fin cfg0.N) (k : Fin 2) :
    (halfOf m c t k).Ok (argA m c) (argW m c) (argB m c) (blkOf t) (slab k (slabOf t)) where
  x r l := by
    refine Eq.trans ?_ (rows_at m c t k r l)
    pointwise [halfOf]
  p l h := by
    refine (haloRow_at m c t k 6 l).trans ((halo_at m c t k 6 l h).trans ?_)
    congr 2
    exact Fin.ext (show (blkOf t).val * 256 - 8 + 6 = (blkOf t).val * 256 - 2 by omega)
  n l h := by
    refine (haloRow_at m c t k 7 l).trans ((halo_at m c t k 7 l h).trans ?_)
    congr 2
    exact Fin.ext (show (blkOf t).val * 256 - 8 + 7 = (blkOf t).val * 256 - 1 by omega)
  w0 l := (tapRow_at m c t k 0 l).trans (taps_at m c t k 0 l)
  w1 l := (tapRow_at m c t k 1 l).trans (taps_at m c t k 1 l)
  w2 l := (tapRow_at m c t k 2 l).trans (taps_at m c t k 2 l)
  b l := by
    refine Eq.trans ?_ (bias_at m c t k l)
    pointwise [halfOf]

/-- What the point reads. -/
def tile (c : Dev nD) (t : Fin cfg0.N) : Tile where
  f := Scalar.cmpi .eq (BitVec.ofNat 32 (grid0.coords t 1).val) 7#32
  h0 := halfOf m c t 0
  h1 := halfOf m c t 1
  c := iblk m c 0 t

theorem tile_ok (c : Dev nD) (t : Fin cfg0.N) :
    (tile m c t).Ok (argU m c) (argA m c) (argW m c) (argB m c) (blkOf t) (slabOf t) where
  f := flag t
  h0 := halfOf_ok m c t 0
  h1 := halfOf_ok m c t 1
  c r l := cot_at m c t r l

end Cert.Conv

end
-- ==== Proof.ConvCarry.lean ====
/-
  The rows the kernel's body carries from one grid point to the next: the first eight rows of the point's two
  cotangents.
-/
module

public import proofs.«01_k».proof.Proof.ConvTile
public import Idealize.ShloMosaic.Lib.Pipeline.CanonAppend

@[expose] public section

set_option maxRecDepth 16384
set_option maxHeartbeats 2000000

noncomputable section

open Idealize.ShloMosaic Idealize.ShloMosaic.TcCoe Idealize.SL.Sem
open Idealize.ShloMosaic.Pipeline (Dat)

namespace Cert.Conv

open Cert.KernelIdeal Cert.KernelIdeal.Gen

variable (m : (ℓ : Loc nD τ sig) → Buf (Elt Ideal) ℓ)

/-- The cotangent at a row of a point's block. -/
abbrev dyAt (c : Dev nD) (k : Fin 2) (d : Fin 4) (l : Fin 704) (n : ℕ) : EReal := dy (argU m c) (argA m c) (argW m c) (argB m c) k d l n

theorem dyg_tile (c : Dev nD) (t : Fin cfg0.N) (r : Fin 256) (l : Fin 704) :
    dyg (tile m c t) (ix2 r l) = dyAt m c 0 (slabOf t) l ((blkOf t).val * 256 + r.val) := dyg_at (tile_ok m c t) r l

theorem dyv_tile (c : Dev nD) (t : Fin cfg0.N) (r : Fin 256) (l : Fin 704) :
    dyv (tile m c t) (ix2 r l) = dyAt m c 1 (slabOf t) l ((blkOf t).val * 256 + r.val) := dyv_at (tile_ok m c t) r l

/-- The rows a point carries to the next one: the first eight rows of its cotangents. -/
def carry (c : Dev nD) (t : Fin cfg0.N) : FVec Ideal S2x8x704 .f32 := fun y =>
  dyAt m c (y 0) (slabOf t) (y 2) ((blkOf t).val * 256 + (y 1).val)

theorem carry_of (c : Dev nD) (t : Fin cfg0.N) (y : S2x8x704.Idx) (x : S1x8x704.Idx) (k : Fin 2) (e0 : (y 0).val = k.val)
    (q1 : (y 1).val = (x 1).val) (q2 : (y 2).val = (x 2).val) :
    dyAt m c k (slabOf t) (x 2) ((blkOf t).val * 256 + (x 1).val) = carry m c t y := by
  have e0' : y 0 = k := Fin.ext e0
  have e2 : y 2 = x 2 := Fin.ext q2
  unfold carry
  rw [e0', q1, e2]

theorem carriedB (c : Dev nD) (t : Fin cfg0.N) (h : ¬ t.val % 8 = 0) : (outsAt0 m c t.val t.isLt).2.2.2 = carry m c t := by
  rw [outsAt0_B m c t h h (by omega) h (by omega)]
  frame_out
  funext y
  canon_tiles x q
  · show k0_pay59 (mulf (k0_pay30 (tile m c t).c) (k0_pay28 (gate (tile m c t).f (tile m c t).h0))) x = _
    exact (congrArg _ (eq_ix3 x)).trans ((carried (dyv (tile m c t)) (x 2) (x 0) (x 1)).trans ((dyv_tile m c t _ _).trans
      (carry_of m c t y x 1 (by show _ = 1; omega) q1 q2)))
  · show k0_pay59 (mulf (mulf (k0_pay30 (tile m c t).c) (other (tile m c t).f (tile m c t).h1)) (k0_pay29 (gate (tile m c t).f (tile m c t).h0))) x = _
    exact (congrArg _ (eq_ix3 x)).trans ((carried (dyg (tile m c t)) (x 2) (x 0) (x 1)).trans ((dyg_tile m c t _ _).trans
      (carry_of m c t y x 0 (by show _ = 0; omega) q1 q2)))

/-- Two stores over an earlier one that together write every row leave the two stored halves. -/
theorem two_halves (P1 P0 : Vec Ideal S1x8x704 .f32) (Z : View.Piece (Elt Ideal) S2x8x704 .f32) (G : Vec Ideal S2x8x704 .f32)
    (i1 : ∀ a, (![1, 0, 0] : Fin 3 → ℕ) a + (![1, 8, 704] : Fin 3 → ℕ) a ≤ S2x8x704.size a)
    (i0 : ∀ a, (![0, 0, 0] : Fin 3 → ℕ) a + (![1, 8, 704] : Fin 3 → ℕ) a ≤ S2x8x704.size a)
    (h1 : ∀ (x : S1x8x704.Idx) (y : S2x8x704.Idx), (y 0).val = 1 + (x 0).val → (y 1).val = (x 1).val → (y 2).val = (x 2).val → P1 x = G y)
    (h0 : ∀ (x : S1x8x704.Idx) (y : S2x8x704.Idx), (y 0).val = (x 0).val → (y 1).val = (x 1).val → (y 2).val = (x 2).val → P0 x = G y)
    (y : S2x8x704.Idx) :
    View.canon [⟨Rect.unit (s := S2x8x704) ![1, 0, 0] ![1, 8, 704] i1, P1⟩, ⟨Rect.unit (s := S2x8x704) ![0, 0, 0] ![1, 8, 704] i0, P0⟩, Z] y = G y := by
  refine View.canon_append_of_pieces (Val := Elt Ideal) (e := .f32) G [Z] [⟨Rect.unit (s := S2x8x704) ![1, 0, 0] ![1, 8, 704] i1, P1⟩, ⟨Rect.unit (s := S2x8x704) ![0, 0, 0] ![1, 8, 704] i0, P0⟩] ?_ y ?_
  · intro p hp x
    rcases List.mem_cons.mp hp with rfl | hp
    · refine h1 x _ ?_ ?_ ?_
      · simp
      · simp
      · simp
    · rcases List.mem_cons.mp hp with rfl | hp
      · refine h0 x _ ?_ ?_ ?_
        · simp
        · simp
        · simp
      · exact absurd hp (List.not_mem_nil)
  · have hy0 : (y 0).val < 2 := (y 0).isLt
    have hy1 : (y 1).val < 8 := (y 1).isLt
    have hy2 : (y 2).val < 704 := (y 2).isLt
    by_cases hy : (y 0).val = 0
    · refine ⟨_, List.mem_cons_of_mem _ List.mem_cons_self, (Rect.mem_set_unit (inb := i0)).mpr fun a => ?_⟩
      match a with
      | ⟨0, _⟩ => exact ⟨Nat.zero_le _, show (y 0).val < 0 + 1 by omega⟩
      | ⟨1, _⟩ => exact ⟨Nat.zero_le _, show (y 1).val < 0 + 8 by omega⟩
      | ⟨2, _⟩ => exact ⟨Nat.zero_le _, show (y 2).val < 0 + 704 by omega⟩
    · refine ⟨_, List.mem_cons_self, (Rect.mem_set_unit (inb := i1)).mpr fun a => ?_⟩
      match a with
      | ⟨0, _⟩ => exact ⟨show 1 ≤ (y 0).val by omega, show (y 0).val < 1 + 1 by omega⟩
      | ⟨1, _⟩ => exact ⟨Nat.zero_le _, show (y 1).val < 0 + 8 by omega⟩
      | ⟨2, _⟩ => exact ⟨Nat.zero_le _, show (y 2).val < 0 + 704 by omega⟩

theorem carriedA (c : Dev nD) (t : Fin cfg0.N) (h : t.val % 8 = 0) : (outsAt0 m c t.val t.isLt).2.2.2 = carry m c t := by
  rw [outsAt0_A m c t h h (by omega) h (by omega)]
  frame_out
  funext y
  refine two_halves _ _ _ (carry m c t) _ _ (fun x y q0 q1 q2 => ?_) (fun x y q0 q1 q2 => ?_) y
  · have hx : (x 0).val < 1 := (x 0).isLt
    show k0_pay59 (mulf (k0_pay30 (tile m c t).c) (k0_pay28 (gate (tile m c t).f (tile m c t).h0))) x = _
    exact (congrArg _ (eq_ix3 x)).trans ((carried (dyv (tile m c t)) (x 2) (x 0) (x 1)).trans ((dyv_tile m c t _ _).trans
      (carry_of m c t y x 1 (by show _ = 1; omega) q1 q2)))
  · have hx : (x 0).val < 1 := (x 0).isLt
    show k0_pay59 (mulf (mulf (k0_pay30 (tile m c t).c) (other (tile m c t).f (tile m c t).h1)) (k0_pay29 (gate (tile m c t).f (tile m c t).h0))) x = _
    exact (congrArg _ (eq_ix3 x)).trans ((carried (dyg (tile m c t)) (x 2) (x 0) (x 1)).trans ((dyg_tile m c t _ _).trans
      (carry_of m c t y x 0 (by show _ = 0; omega) q1 q2)))

/-- What a point carries to the next. -/
theorem carried_all (c : Dev nD) (t : Fin cfg0.N) : (outsAt0 m c t.val t.isLt).2.2.2 = carry m c t := by
  by_cases h : t.val % 8 = 0
  · exact carriedA m c t h
  · exact carriedB m c t h

end Cert.Conv

end
-- ==== Proof.ConvRows.lean ====
/-
  The two rows below a point's block, as the body reads them from the carried scratch; and what each store of a point
  has to hold.
-/
module

public import proofs.«01_k».proof.Proof.ConvCarry

@[expose] public section

set_option maxRecDepth 16384
set_option maxHeartbeats 2000000

noncomputable section

open Idealize.ShloMosaic Idealize.ShloMosaic.TcCoe Idealize.SL.Sem
open Idealize.ShloMosaic.Pipeline (Dat)

namespace Cert.Conv

open Cert.KernelIdeal Cert.KernelIdeal.Gen

variable (m : (ℓ : Loc nD τ sig) → Buf (Elt Ideal) ℓ)

/-- One row of the carried scratch. -/
abbrev lineRect (k : Fin 2) (j : Fin 8) : Rect S2x8x704 :=
  Rect.unit (s := S2x8x704) ![k.val, j.val, 0] ![1, 1, 704] (by revert k j; decide)

/-- The contents the previous point left. -/
abbrev prevOuts (c : Dev nD) (t : Fin cfg0.N) := outsAt0 m c (t.val - 1) (Nat.lt_of_le_of_lt (Nat.sub_le _ _) t.isLt)

/-- Row `j` of half `k` of the scratch, as the previous point left it. -/
def prevRow (c : Dev nD) (t : Fin cfg0.N) (k : Fin 2) (j : Fin 8) : Vec Ideal S1x1x704 .f32 :=
  View.ld (View.read (Elt Ideal) (View.whole cc0_scratch0) ((Memref.isWhole_whole _ : scM0_0.IsWhole).unread (prevOuts m c t).2.2.2))
    (lineRect k j)

/-- Row `j` of half `k` of the scratch just filled with zeros. -/
def zeroRow (k : Fin 2) (j : Fin 8) : Vec Ideal S1x1x704 .f32 :=
  (View.whole cc0_scratch0).readCov (Val := Elt Ideal)
    [⟨Rect.unit (s := S2x8x704) ![0, 0, 0] ![2, 8, 704] (by decide), shapeCast S2x8x704 (broadcast S2x8x704 (FloatOps.ofBits (F := Ideal) .f32 0#32))
      shapeCasts_S2x8x704_S2x8x704⟩]
    (lineRect k j).toLoadRect

theorem line_at (Y : Vec Ideal S2x8x704 .f32) (k : Fin 2) (j : Fin 8) (l : Fin 704) :
    (View.ld Y (lineRect k j) : Vec Ideal S1x1x704 .f32) (ix3 0 0 l) = Y (ix3 k j l) := by
  pointwise []

theorem prevRow_at (c : Dev nD) (t : Fin cfg0.N) (h : ¬ t.val % 8 = 0) (k : Fin 2) (j : Fin 8) (l : Fin 704) :
    prevRow m c t k j (ix3 0 0 l) = dyAt m c k (slabOf t) l (((blkOf t).val + 1) * 256 + j.val) := by
  refine (congrFun (Memref.IsWhole.read_unread (m := scM0_0) _ _) _).trans ((line_at (prevOuts m c t).2.2.2 k j l).trans ?_)
  have ht : t.val - 1 < cfg0.N := Nat.lt_of_le_of_lt (Nat.sub_le _ _) t.isLt
  refine (congrFun (carried_all m c ⟨t.val - 1, ht⟩) (ix3 k j l)).trans ?_
  have e1 : slabOf ⟨t.val - 1, ht⟩ = slabOf t := Fin.ext (show (t.val - 1) / 8 = t.val / 8 by omega)
  have e2 : (blkOf ⟨t.val - 1, ht⟩).val = (blkOf t).val + 1 := (show 7 - (t.val - 1) % 8 = 7 - t.val % 8 + 1 by omega)
  show dyAt m c k (slabOf ⟨t.val - 1, ht⟩) l ((blkOf ⟨t.val - 1, ht⟩).val * 256 + j.val) = _
  rw [e1, e2]

theorem zeroRow_at (k : Fin 2) (j : Fin 8) (l : Fin 704) : zeroRow k j (ix3 0 0 l) = 0 := by
  unfold zeroRow
  rw [View.readCov_eq_canon']
  refine (congrFun (View.canon_unit_zero (by funext a; fin_cases a <;> rfl) _ _) _).trans ?_
  exact Ideal.ofBits_zero_f32

theorem dy_past (c : Dev nD) (t : Fin cfg0.N) (h : t.val % 8 = 0) (k : Fin 2) (j : Fin 8) (l : Fin 704) :
    dyAt m c k (slabOf t) l (((blkOf t).val + 1) * 256 + j.val) = 0 := by
  have e : (blkOf t).val = 7 := (show 7 - t.val % 8 = 7 by omega)
  unfold dyAt dy
  rw [dif_neg (by omega)]

/-- What a point stores of the gradient of the input. -/
def daBlk (c : Dev nD) (t : Fin cfg0.N) : Vec Ideal S2x1x256x704 .bf16 := fun y =>
  da (argU m c) (argA m c) (argW m c) (argB m c) (ix4 (y 0) (slabOf t) ⟨(blkOf t).val * 256 + (y 2).val, by
    have h2 : (y 2).val < 256 := (y 2).isLt
    omega⟩ (y 3))

theorem da_of (c : Dev nD) (t : Fin cfg0.N) (k : Fin 2) (D : FVec Ideal S256x704 .f32) (m0 n0 n1 : Vec Ideal S1x1x704 .f32)
    (hD : ∀ (r : Fin 256) (l : Fin 704), D (ix2 r l) = dyAt m c k (slabOf t) l ((blkOf t).val * 256 + r.val))
    (hm : ∀ l : Fin 704, m0 (ix3 0 0 l) = dyAt m c k (slabOf t) l (((blkOf t).val + 1) * 256))
    (hn0 : ∀ l : Fin 704, n0 (ix3 0 0 l) = dyAt m c k (slabOf t) l (((blkOf t).val + 1) * 256))
    (hn1 : ∀ l : Fin 704, n1 (ix3 0 0 l) = dyAt m c k (slabOf t) l (((blkOf t).val + 1) * 256 + 1))
    (x : S1x1x256x704.Idx) (y : S2x1x256x704.Idx) (q0 : (y 0).val = k.val) (q2 : (y 2).val = (x 2).val) (q3 : (y 3).val = (x 3).val) :
    dax D (tapBlk m c t k 0) (tapBlk m c t k 1) (tapBlk m c t k 2) m0 n0 n1 x = daBlk m c t y := by
  refine (congrArg _ (eq_ix4 x)).trans ((dax_at D _ _ _ m0 n0 n1 hD (tapBlk_at m c t k 0) (tapBlk_at m c t k 1) (tapBlk_at m c t k 2)
    hm hn0 hn1 (x 0) (x 1) (x 2) (x 3)).trans ?_)
  have e0 : y 0 = k := Fin.ext q0
  have e3 : y 3 = x 3 := Fin.ext q3
  unfold daBlk
  rw [e0, e3]
  exact congrArg (fun n => da (argU m c) (argA m c) (argW m c) (argB m c) (ix4 k (slabOf t) n (x 3)))
    (Fin.ext (congrArg (fun n => (blkOf t).val * 256 + n) q2.symm))

/-- What a point adds to the gradient of the taps, and to that of the bias. -/
def dwPart (c : Dev nD) (t : Fin cfg0.N) : Vec Ideal S2x1x3x704 .f32 := fun y =>
  ∑ r : Fin 256, dyAt m c (y 0) (slabOf t) (y 3) ((blkOf t).val * 256 + r.val)
    * tap (argA m c) (slab (y 0) (slabOf t)) (y 3) (2 - (y 2).val) ((blkOf t).val * 256 + r.val)
def dbPart (c : Dev nD) (t : Fin cfg0.N) : Vec Ideal S2x1x1x704 .f32 := fun y =>
  ∑ r : Fin 256, dyAt m c (y 0) (slabOf t) (y 3) ((blkOf t).val * 256 + r.val)

theorem dw_of (c : Dev nD) (t : Fin cfg0.N) (k : Fin 2) (j : ℕ) (D X : FVec Ideal S256x704 .f32)
    (hD : ∀ (r : Fin 256) (l : Fin 704), D (ix2 r l) = dyAt m c k (slabOf t) l ((blkOf t).val * 256 + r.val))
    (hX : ∀ (r : Fin 256) (l : Fin 704), X (ix2 r l) = tap (argA m c) (slab k (slabOf t)) l (2 - j) ((blkOf t).val * 256 + r.val))
    (x : S1x1x1x704.Idx) (y : S2x1x3x704.Idx) (q0 : (y 0).val = k.val) (q2 : (y 2).val = j) (q3 : (y 3).val = (x 3).val) :
    ∑ r : Fin 256, D (ix2 r (x 3)) * X (ix2 r (x 3)) = dwPart m c t y := by
  have e0 : y 0 = k := Fin.ext q0
  have e3 : y 3 = x 3 := Fin.ext q3
  unfold dwPart
  rw [e0, e3, q2]
  exact Finset.sum_congr rfl fun r _ => congrArg₂ (fun a b : EReal => a * b) (hD r (x 3)) (hX r (x 3))

theorem db_of (c : Dev nD) (t : Fin cfg0.N) (k : Fin 2) (D : FVec Ideal S256x704 .f32)
    (hD : ∀ (r : Fin 256) (l : Fin 704), D (ix2 r l) = dyAt m c k (slabOf t) l ((blkOf t).val * 256 + r.val))
    (x : S1x1x1x704.Idx) (y : S2x1x1x704.Idx) (q0 : (y 0).val = k.val) (q3 : (y 3).val = (x 3).val) :
    ∑ r : Fin 256, D (ix2 r (x 3)) = dbPart m c t y := by
  have e0 : y 0 = k := Fin.ext q0
  have e3 : y 3 = x 3 := Fin.ext q3
  unfold dbPart
  rw [e0, e3]
  exact Finset.sum_congr rfl fun r _ => hD r (x 3)

/-- One row of the accumulated gradient of the taps, and of that of the bias. -/
abbrev wRow (P : Vec Ideal S2x1x3x704 .f32) (k : Fin 2) (j : Fin 3) : Vec Ideal S1x1x1x704 .f32 :=
  View.ld P (Rect.unit (s := S2x1x3x704) ![k.val, 0, j.val, 0] ![1, 1, 1, 704] (by revert k j; decide))
abbrev bRow (P : Vec Ideal S2x1x1x704 .f32) (k : Fin 2) : Vec Ideal S1x1x1x704 .f32 :=
  View.ld P (Rect.unit (s := S2x1x1x704) ![k.val, 0, 0, 0] ![1, 1, 1, 704] (by revert k; decide))

theorem wRow_at (P : Vec Ideal S2x1x3x704 .f32) (k : Fin 2) (j : Fin 3) (l : Fin 704) : wRow P k j (ix4 0 0 0 l) = P (ix4 k 0 j l) := by
  pointwise [wRow]

theorem bRow_at (P : Vec Ideal S2x1x1x704 .f32) (k : Fin 2) (l : Fin 704) : bRow P k (ix4 0 0 0 l) = P (ix4 k 0 0 l) := by
  pointwise [bRow]

theorem wRow_of (P : Vec Ideal S2x1x3x704 .f32) (k : Fin 2) (j : Fin 3) (x : S1x1x1x704.Idx) (y : S2x1x3x704.Idx)
    (q0 : (y 0).val = k.val) (q2 : (y 2).val = j.val) (q3 : (y 3).val = (x 3).val) :
    wRow P k j (ix4 (x 0) (x 1) (x 2) (x 3)) = P y := by
  have e0 : y 0 = k := Fin.ext q0
  have e1 : y 1 = (0 : Fin 1) := Subsingleton.elim (α := Fin 1) _ _
  have e2 : y 2 = j := Fin.ext q2
  have e3 : y 3 = x 3 := Fin.ext q3
  have f0 : x 0 = (0 : Fin 1) := Subsingleton.elim (α := Fin 1) _ _
  have f1 : x 1 = (0 : Fin 1) := Subsingleton.elim (α := Fin 1) _ _
  have f2 : x 2 = (0 : Fin 1) := Subsingleton.elim (α := Fin 1) _ _
  rw [f0, f1, f2]
  refine (wRow_at P k j (x 3)).trans ?_
  rw [eq_ix4 y, e0, e1, e2, e3]

theorem bRow_of (P : Vec Ideal S2x1x1x704 .f32) (k : Fin 2) (x : S1x1x1x704.Idx) (y : S2x1x1x704.Idx)
    (q0 : (y 0).val = k.val) (q3 : (y 3).val = (x 3).val) :
    bRow P k (ix4 (x 0) (x 1) (x 2) (x 3)) = P y := by
  have e0 : y 0 = k := Fin.ext q0
  have e1 : y 1 = (0 : Fin 1) := Subsingleton.elim (α := Fin 1) _ _
  have e2 : y 2 = (0 : Fin 1) := Subsingleton.elim (α := Fin 1) _ _
  have e3 : y 3 = x 3 := Fin.ext q3
  have f0 : x 0 = (0 : Fin 1) := Subsingleton.elim (α := Fin 1) _ _
  have f1 : x 1 = (0 : Fin 1) := Subsingleton.elim (α := Fin 1) _ _
  have f2 : x 2 = (0 : Fin 1) := Subsingleton.elim (α := Fin 1) _ _
  rw [f0, f1, f2]
  refine (bRow_at P k (x 3)).trans ?_
  rw [eq_ix4 y, e0, e1, e2, e3]

/-- The taps of a point's block. -/
theorem up1_tile (c : Dev nD) (t : Fin cfg0.N) (k : Fin 2) (r : Fin 256) (l : Fin 704) :
    up1 (tile m c t).f (halfOf m c t k) (ix2 r l) = tap (argA m c) (slab k (slabOf t)) l 1 ((blkOf t).val * 256 + r.val) :=
  up1_at (tile_ok m c t).f (halfOf_ok m c t k) r l

theorem up2_tile (c : Dev nD) (t : Fin cfg0.N) (k : Fin 2) (r : Fin 256) (l : Fin 704) :
    up2 (tile m c t).f (halfOf m c t k) (ix2 r l) = tap (argA m c) (slab k (slabOf t)) l 2 ((blkOf t).val * 256 + r.val) :=
  up2_at (tile_ok m c t).f (halfOf_ok m c t k) r l

theorem up0_tile (c : Dev nD) (t : Fin cfg0.N) (k : Fin 2) (r : Fin 256) (l : Fin 704) :
    k0_pay11 (halfOf m c t k).x (ix2 r l) = tap (argA m c) (slab k (slabOf t)) l 0 ((blkOf t).val * 256 + r.val) := by
  refine Eq.trans ?_ (row_at (halfOf_ok m c t k) r l)
  pointwise [k0_pay11]

end Cert.Conv

end
-- ==== Proof.ConvDa.lean ====
/-
  The gradient of the input, as every point stores it.
-/
module

public import proofs.«01_k».proof.Proof.ConvRows

@[expose] public section

set_option maxRecDepth 16384
set_option maxHeartbeats 2000000

noncomputable section

open Idealize.ShloMosaic Idealize.ShloMosaic.TcCoe Idealize.SL.Sem
open Idealize.ShloMosaic.Pipeline (Dat)

namespace Cert.Conv

open Cert.KernelIdeal Cert.KernelIdeal.Gen

variable (m : (ℓ : Loc nD τ sig) → Buf (Elt Ideal) ℓ)

theorem da_later (c : Dev nD) (t : Fin cfg0.N) (h : ¬ t.val % 8 = 0) : (outsAt0 m c t.val t.isLt).1 = daBlk m c t := by
  rw [outsAt0_B m c t h h (by omega) h (by omega)]
  frame_out
  funext y
  canon_tiles x q
  · show dax (mulf (k0_pay30 (tile m c t).c) (k0_pay28 (gate (tile m c t).f (tile m c t).h0)))
      (tapBlk m c t 1 0) (tapBlk m c t 1 1) (tapBlk m c t 1 2) (prevRow m c t 1 0) (prevRow m c t 1 0) (prevRow m c t 1 1) x = _
    exact da_of m c t 1 (dyv (tile m c t)) _ _ _ (dyv_tile m c t)
      (fun l => prevRow_at m c t h 1 0 l)
      (fun l => prevRow_at m c t h 1 0 l)
      (fun l => prevRow_at m c t h 1 1 l) x y (by show _ = 1; omega) q2 q3
  · show dag (mulf (mulf (k0_pay30 (tile m c t).c) (other (tile m c t).f (tile m c t).h1)) (k0_pay29 (gate (tile m c t).f (tile m c t).h0)))
      (tapBlk m c t 0 0) (tapBlk m c t 0 1) (tapBlk m c t 0 2) (prevRow m c t 0 0) (prevRow m c t 0 0) (prevRow m c t 0 1) x = _
    exact da_of m c t 0 (dyg (tile m c t)) _ _ _ (dyg_tile m c t)
      (fun l => prevRow_at m c t h 0 0 l)
      (fun l => prevRow_at m c t h 0 0 l)
      (fun l => prevRow_at m c t h 0 1 l) x y (by show _ = 0; omega) q2 q3

theorem da_first (c : Dev nD) (t : Fin cfg0.N) (h : t.val % 8 = 0) : (outsAt0 m c t.val t.isLt).1 = daBlk m c t := by
  rw [outsAt0_A m c t h h (by omega) h (by omega)]
  frame_out
  funext y
  canon_tiles x q
  · show dax (mulf (k0_pay30 (tile m c t).c) (k0_pay28 (gate (tile m c t).f (tile m c t).h0)))
      (tapBlk m c t 1 0) (tapBlk m c t 1 1) (tapBlk m c t 1 2) (zeroRow 1 0) (zeroRow 1 0) (zeroRow 1 1) x = _
    exact da_of m c t 1 (dyv (tile m c t)) _ _ _ (dyv_tile m c t)
      (fun l => (zeroRow_at 1 0 l).trans (dy_past m c t h 1 0 l).symm)
      (fun l => (zeroRow_at 1 0 l).trans (dy_past m c t h 1 0 l).symm)
      (fun l => (zeroRow_at 1 1 l).trans (dy_past m c t h 1 1 l).symm) x y (by show _ = 1; omega) q2 q3
  · show dag (mulf (mulf (k0_pay30 (tile m c t).c) (other (tile m c t).f (tile m c t).h1)) (k0_pay29 (gate (tile m c t).f (tile m c t).h0)))
      (tapBlk m c t 0 0) (tapBlk m c t 0 1) (tapBlk m c t 0 2) (zeroRow 0 0) (zeroRow 0 0) (zeroRow 0 1) x = _
    exact da_of m c t 0 (dyg (tile m c t)) _ _ _ (dyg_tile m c t)
      (fun l => (zeroRow_at 0 0 l).trans (dy_past m c t h 0 0 l).symm)
      (fun l => (zeroRow_at 0 0 l).trans (dy_past m c t h 0 0 l).symm)
      (fun l => (zeroRow_at 0 1 l).trans (dy_past m c t h 0 1 l).symm) x y (by show _ = 0; omega) q2 q3

theorem da_all (c : Dev nD) (t : Fin cfg0.N) : (outsAt0 m c t.val t.isLt).1 = daBlk m c t := by
  by_cases h : t.val % 8 = 0
  · exact da_first m c t h
  · exact da_later m c t h

end Cert.Conv

end
-- ==== Proof.ConvDw.lean ====
/-
  What each point does to the accumulated gradient of the taps.
-/
module

public import proofs.«01_k».proof.Proof.ConvRows

@[expose] public section

set_option maxRecDepth 16384
set_option maxHeartbeats 2000000

noncomputable section

open Idealize.ShloMosaic Idealize.ShloMosaic.TcCoe Idealize.SL.Sem
open Idealize.ShloMosaic.Pipeline (Dat)

namespace Cert.Conv

open Cert.KernelIdeal Cert.KernelIdeal.Gen

variable (m : (ℓ : Loc nD τ sig) → Buf (Elt Ideal) ℓ)

theorem dw_first (c : Dev nD) (t : Fin cfg0.N) (h : t.val % 8 = 0) : (outsAt0 m c t.val t.isLt).2.1 = dwPart m c t := by
  rw [outsAt0_A m c t h h (by omega) h (by omega)]
  frame_out
  funext y
  canon_tiles x q
  · show k0_pay57 (mulf (k0_pay30 (tile m c t).c) (k0_pay28 (gate (tile m c t).f (tile m c t).h0))) (k0_pay11 (tile m c t).h1.x) x = _
    exact (congrArg _ (eq_ix4 x)).trans ((first0 (dyv (tile m c t)) (k0_pay11 (halfOf m c t 1).x) (x 0) (x 1) (x 2) (x 3)).trans
      (dw_of m c t 1 2 (dyv (tile m c t)) (k0_pay11 (halfOf m c t 1).x) (dyv_tile m c t) (up0_tile m c t 1) x y (by show _ = 1; omega) (by show _ = 2; omega) q3))
  · show k0_pay56 (up1 (tile m c t).f (tile m c t).h1) (mulf (k0_pay30 (tile m c t).c) (k0_pay28 (gate (tile m c t).f (tile m c t).h0))) x = _
    exact (congrArg _ (eq_ix4 x)).trans ((first1 (dyv (tile m c t)) (up1 (tile m c t).f (halfOf m c t 1)) (x 0) (x 1) (x 2) (x 3)).trans
      (dw_of m c t 1 1 (dyv (tile m c t)) (up1 (tile m c t).f (halfOf m c t 1)) (dyv_tile m c t) (up1_tile m c t 1) x y (by show _ = 1; omega) (by show _ = 1; omega) q3))
  · show k0_pay55 (up2 (tile m c t).f (tile m c t).h1) (mulf (k0_pay30 (tile m c t).c) (k0_pay28 (gate (tile m c t).f (tile m c t).h0))) x = _
    exact (congrArg _ (eq_ix4 x)).trans ((first2 (dyv (tile m c t)) (up2 (tile m c t).f (halfOf m c t 1)) (x 0) (x 1) (x 2) (x 3)).trans
      (dw_of m c t 1 0 (dyv (tile m c t)) (up2 (tile m c t).f (halfOf m c t 1)) (dyv_tile m c t) (up2_tile m c t 1) x y (by show _ = 1; omega) (by show _ = 0; omega) q3))
  · show shapeCast S1x1x1x704 (red (mulf (mulf (k0_pay30 (tile m c t).c) (other (tile m c t).f (tile m c t).h1)) (k0_pay29 (gate (tile m c t).f (tile m c t).h0))) (k0_pay11 (tile m c t).h0.x)) shapeCasts_S1x704_S1x1x1x704 x = _
    exact (congrArg _ (eq_ix4 x)).trans ((firstg (dyg (tile m c t)) (k0_pay11 (halfOf m c t 0).x) (x 0) (x 1) (x 2) (x 3)).trans
      (dw_of m c t 0 2 (dyg (tile m c t)) (k0_pay11 (halfOf m c t 0).x) (dyg_tile m c t) (up0_tile m c t 0) x y (by show _ = 0; omega) (by show _ = 2; omega) q3))
  · show shapeCast S1x1x1x704 (red (mulf (mulf (k0_pay30 (tile m c t).c) (other (tile m c t).f (tile m c t).h1)) (k0_pay29 (gate (tile m c t).f (tile m c t).h0))) (up1 (tile m c t).f (tile m c t).h0)) shapeCasts_S1x704_S1x1x1x704 x = _
    exact (congrArg _ (eq_ix4 x)).trans ((firstg (dyg (tile m c t)) (up1 (tile m c t).f (halfOf m c t 0)) (x 0) (x 1) (x 2) (x 3)).trans
      (dw_of m c t 0 1 (dyg (tile m c t)) (up1 (tile m c t).f (halfOf m c t 0)) (dyg_tile m c t) (up1_tile m c t 0) x y (by show _ = 0; omega) (by show _ = 1; omega) q3))
  · show shapeCast S1x1x1x704 (red (mulf (mulf (k0_pay30 (tile m c t).c) (other (tile m c t).f (tile m c t).h1)) (k0_pay29 (gate (tile m c t).f (tile m c t).h0))) (up2 (tile m c t).f (tile m c t).h0)) shapeCasts_S1x704_S1x1x1x704 x = _
    exact (congrArg _ (eq_ix4 x)).trans ((firstg (dyg (tile m c t)) (up2 (tile m c t).f (halfOf m c t 0)) (x 0) (x 1) (x 2) (x 3)).trans
      (dw_of m c t 0 0 (dyg (tile m c t)) (up2 (tile m c t).f (halfOf m c t 0)) (dyg_tile m c t) (up2_tile m c t 0) x y (by show _ = 0; omega) (by show _ = 0; omega) q3))

theorem dw_later (c : Dev nD) (t : Fin cfg0.N) (h : ¬ t.val % 8 = 0) :
    (outsAt0 m c t.val t.isLt).2.1 = fun y => (prevOuts m c t).2.1 y + dwPart m c t y := by
  rw [outsAt0_B m c t h h (by omega) h (by omega)]
  frame_out
  funext y
  canon_tiles x q
  · show shapeCast S1x1x1x704 (addf (shapeCast S1x704 (wRow (prevOuts m c t).2.1 1 2) shapeCasts_S1x1x1x704_S1x704) (k0_pay53 (mulf (k0_pay30 (tile m c t).c) (k0_pay28 (gate (tile m c t).f (tile m c t).h0))) (k0_pay11 (tile m c t).h1.x))) shapeCasts_S1x704_S1x1x1x704 x = _
    exact (congrArg _ (eq_ix4 x)).trans ((step0 (dyv (tile m c t)) (k0_pay11 (halfOf m c t 1).x) (wRow (prevOuts m c t).2.1 1 2) (x 0) (x 1) (x 2) (x 3)).trans
      (congrArg₂ (fun a b : EReal => a + b)
      (wRow_of (prevOuts m c t).2.1 1 2 x y (by show _ = 1; omega) (by show _ = 2; omega) q3)
      (dw_of m c t 1 2 (dyv (tile m c t)) (k0_pay11 (halfOf m c t 1).x) (dyv_tile m c t) (up0_tile m c t 1) x y (by show _ = 1; omega) (by show _ = 2; omega) q3)))
  · show shapeCast S1x1x1x704 (addf (shapeCast S1x704 (wRow (prevOuts m c t).2.1 1 1) shapeCasts_S1x1x1x704_S1x704) (k0_pay52 (up1 (tile m c t).f (tile m c t).h1) (mulf (k0_pay30 (tile m c t).c) (k0_pay28 (gate (tile m c t).f (tile m c t).h0))))) shapeCasts_S1x704_S1x1x1x704 x = _
    exact (congrArg _ (eq_ix4 x)).trans ((step1 (dyv (tile m c t)) (up1 (tile m c t).f (halfOf m c t 1)) (wRow (prevOuts m c t).2.1 1 1) (x 0) (x 1) (x 2) (x 3)).trans
      (congrArg₂ (fun a b : EReal => a + b)
      (wRow_of (prevOuts m c t).2.1 1 1 x y (by show _ = 1; omega) (by show _ = 1; omega) q3)
      (dw_of m c t 1 1 (dyv (tile m c t)) (up1 (tile m c t).f (halfOf m c t 1)) (dyv_tile m c t) (up1_tile m c t 1) x y (by show _ = 1; omega) (by show _ = 1; omega) q3)))
  · show shapeCast S1x1x1x704 (addf (shapeCast S1x704 (wRow (prevOuts m c t).2.1 1 0) shapeCasts_S1x1x1x704_S1x704) (k0_pay51 (up2 (tile m c t).f (tile m c t).h1) (mulf (k0_pay30 (tile m c t).c) (k0_pay28 (gate (tile m c t).f (tile m c t).h0))))) shapeCasts_S1x704_S1x1x1x704 x = _
    exact (congrArg _ (eq_ix4 x)).trans ((step2 (dyv (tile m c t)) (up2 (tile m c t).f (halfOf m c t 1)) (wRow (prevOuts m c t).2.1 1 0) (x 0) (x 1) (x 2) (x 3)).trans
      (congrArg₂ (fun a b : EReal => a + b)
      (wRow_of (prevOuts m c t).2.1 1 0 x y (by show _ = 1; omega) (by show _ = 0; omega) q3)
      (dw_of m c t 1 0 (dyv (tile m c t)) (up2 (tile m c t).f (halfOf m c t 1)) (dyv_tile m c t) (up2_tile m c t 1) x y (by show _ = 1; omega) (by show _ = 0; omega) q3)))
  · show shapeCast S1x1x1x704 (addf (shapeCast S1x704 (wRow (prevOuts m c t).2.1 0 2) shapeCasts_S1x1x1x704_S1x704) (red (mulf (mulf (k0_pay30 (tile m c t).c) (other (tile m c t).f (tile m c t).h1)) (k0_pay29 (gate (tile m c t).f (tile m c t).h0))) (k0_pay11 (tile m c t).h0.x))) shapeCasts_S1x704_S1x1x1x704 x = _
    exact (congrArg _ (eq_ix4 x)).trans ((stepg (dyg (tile m c t)) (k0_pay11 (halfOf m c t 0).x) (wRow (prevOuts m c t).2.1 0 2) (x 0) (x 1) (x 2) (x 3)).trans
      (congrArg₂ (fun a b : EReal => a + b)
      (wRow_of (prevOuts m c t).2.1 0 2 x y (by show _ = 0; omega) (by show _ = 2; omega) q3)
      (dw_of m c t 0 2 (dyg (tile m c t)) (k0_pay11 (halfOf m c t 0).x) (dyg_tile m c t) (up0_tile m c t 0) x y (by show _ = 0; omega) (by show _ = 2; omega) q3)))
  · show shapeCast S1x1x1x704 (addf (shapeCast S1x704 (wRow (prevOuts m c t).2.1 0 1) shapeCasts_S1x1x1x704_S1x704) (red (mulf (mulf (k0_pay30 (tile m c t).c) (other (tile m c t).f (tile m c t).h1)) (k0_pay29 (gate (tile m c t).f (tile m c t).h0))) (up1 (tile m c t).f (tile m c t).h0))) shapeCasts_S1x704_S1x1x1x704 x = _
    exact (congrArg _ (eq_ix4 x)).trans ((stepg (dyg (tile m c t)) (up1 (tile m c t).f (halfOf m c t 0)) (wRow (prevOuts m c t).2.1 0 1) (x 0) (x 1) (x 2) (x 3)).trans
      (congrArg₂ (fun a b : EReal => a + b)
      (wRow_of (prevOuts m c t).2.1 0 1 x y (by show _ = 0; omega) (by show _ = 1; omega) q3)
      (dw_of m c t 0 1 (dyg (tile m c t)) (up1 (tile m c t).f (halfOf m c t 0)) (dyg_tile m c t) (up1_tile m c t 0) x y (by show _ = 0; omega) (by show _ = 1; omega) q3)))
  · show shapeCast S1x1x1x704 (addf (shapeCast S1x704 (wRow (prevOuts m c t).2.1 0 0) shapeCasts_S1x1x1x704_S1x704) (red (mulf (mulf (k0_pay30 (tile m c t).c) (other (tile m c t).f (tile m c t).h1)) (k0_pay29 (gate (tile m c t).f (tile m c t).h0))) (up2 (tile m c t).f (tile m c t).h0))) shapeCasts_S1x704_S1x1x1x704 x = _
    exact (congrArg _ (eq_ix4 x)).trans ((stepg (dyg (tile m c t)) (up2 (tile m c t).f (halfOf m c t 0)) (wRow (prevOuts m c t).2.1 0 0) (x 0) (x 1) (x 2) (x 3)).trans
      (congrArg₂ (fun a b : EReal => a + b)
      (wRow_of (prevOuts m c t).2.1 0 0 x y (by show _ = 0; omega) (by show _ = 0; omega) q3)
      (dw_of m c t 0 0 (dyg (tile m c t)) (up2 (tile m c t).f (halfOf m c t 0)) (dyg_tile m c t) (up2_tile m c t 0) x y (by show _ = 0; omega) (by show _ = 0; omega) q3)))

end Cert.Conv

end
-- ==== Proof.ConvDb.lean ====
/-
  What each point does to the accumulated gradient of the bias.
-/
module

public import proofs.«01_k».proof.Proof.ConvRows

@[expose] public section

set_option maxRecDepth 16384
set_option maxHeartbeats 2000000

noncomputable section

open Idealize.ShloMosaic Idealize.ShloMosaic.TcCoe Idealize.SL.Sem
open Idealize.ShloMosaic.Pipeline (Dat)

namespace Cert.Conv

open Cert.KernelIdeal Cert.KernelIdeal.Gen

variable (m : (ℓ : Loc nD τ sig) → Buf (Elt Ideal) ℓ)

theorem db_first (c : Dev nD) (t : Fin cfg0.N) (h : t.val % 8 = 0) : (outsAt0 m c t.val t.isLt).2.2.1 = dbPart m c t := by
  rw [outsAt0_A m c t h h (by omega) h (by omega)]
  frame_out
  funext y
  canon_tiles x q
  · show k0_pay58 (mulf (k0_pay30 (tile m c t).c) (k0_pay28 (gate (tile m c t).f (tile m c t).h0))) x = _
    exact (congrArg _ (eq_ix4 x)).trans ((firstb (dyv (tile m c t)) (x 0) (x 1) (x 2) (x 3)).trans
      (db_of m c t 1 (dyv (tile m c t)) (dyv_tile m c t) x y (by show _ = 1; omega) q3))
  · show shapeCast S1x1x1x704 (redb (mulf (mulf (k0_pay30 (tile m c t).c) (other (tile m c t).f (tile m c t).h1)) (k0_pay29 (gate (tile m c t).f (tile m c t).h0)))) shapeCasts_S1x704_S1x1x1x704 x = _
    exact (congrArg _ (eq_ix4 x)).trans ((firstgb (dyg (tile m c t)) (x 0) (x 1) (x 2) (x 3)).trans
      (db_of m c t 0 (dyg (tile m c t)) (dyg_tile m c t) x y (by show _ = 0; omega) q3))

theorem db_later (c : Dev nD) (t : Fin cfg0.N) (h : ¬ t.val % 8 = 0) :
    (outsAt0 m c t.val t.isLt).2.2.1 = fun y => (prevOuts m c t).2.2.1 y + dbPart m c t y := by
  rw [outsAt0_B m c t h h (by omega) h (by omega)]
  frame_out
  funext y
  canon_tiles x q
  · show shapeCast S1x1x1x704 (addf (shapeCast S1x704 (bRow (prevOuts m c t).2.2.1 1) shapeCasts_S1x1x1x704_S1x704) (k0_pay54 (mulf (k0_pay30 (tile m c t).c) (k0_pay28 (gate (tile m c t).f (tile m c t).h0))))) shapeCasts_S1x704_S1x1x1x704 x = _
    exact (congrArg _ (eq_ix4 x)).trans ((stepb (dyv (tile m c t)) (bRow (prevOuts m c t).2.2.1 1) (x 0) (x 1) (x 2) (x 3)).trans
      (congrArg₂ (fun a b : EReal => a + b)
      (bRow_of (prevOuts m c t).2.2.1 1 x y (by show _ = 1; omega) q3)
      (db_of m c t 1 (dyv (tile m c t)) (dyv_tile m c t) x y (by show _ = 1; omega) q3)))
  · show shapeCast S1x1x1x704 (addf (shapeCast S1x704 (bRow (prevOuts m c t).2.2.1 0) shapeCasts_S1x1x1x704_S1x704) (redb (mulf (mulf (k0_pay30 (tile m c t).c) (other (tile m c t).f (tile m c t).h1)) (k0_pay29 (gate (tile m c t).f (tile m c t).h0))))) shapeCasts_S1x704_S1x1x1x704 x = _
    exact (congrArg _ (eq_ix4 x)).trans ((stepgb (dyg (tile m c t)) (bRow (prevOuts m c t).2.2.1 0) (x 0) (x 1) (x 2) (x 3)).trans
      (congrArg₂ (fun a b : EReal => a + b)
      (bRow_of (prevOuts m c t).2.2.1 0 x y (by show _ = 0; omega) q3)
      (db_of m c t 0 (dyg (tile m c t)) (dyg_tile m c t) x y (by show _ = 0; omega) q3)))

end Cert.Conv

end
-- ==== Proof.ConvRef.lean ====
/-
  The reference's three gradients of the convolution and its gate, read at an index: each is the plain sum of the
  specification.
-/
module

public import proofs.«01_k».proof.Proof.ConvSpec
public import proofs.«01_k».proof.Proof.Gen.ReferenceIdeal.Run
public import proofs.«01_k».proof.Proof.Gen.ReferenceIdeal.Read

@[expose] public section

set_option maxRecDepth 16384

noncomputable section

open Idealize.ShloMosaic Idealize.ShloMosaic.TcCoe Idealize.SL.Sem

namespace Cert.Conv

open Cert.ReferenceIdeal Cert.ReferenceIdeal.Read

variable (u : FVec Ideal S4x2048x704 .bf16) (a : FVec Ideal S8x2048x704 .f32) (w : FVec Ideal S8x3x704 .f32) (b : FVec Ideal S5632 .f32)

/-- Slab `s`, column `l` of the wide input is the input's. -/
theorem wide_at (n : Fin 2048) (s : Fin 8) (l : Fin 704) :
    val_main_v1 (F := Ideal) a (ix2 n ⟨s.val * 704 + l.val, by omega⟩) = a (ix3 s n l) := by
  pointwise [val_main_v1, val_main_v0]

theorem ref_tap2 (n : Fin 2048) (s : Fin 8) (l : Fin 704) :
    val_main_v7 (F := Ideal) a (ix2 n ⟨s.val * 704 + l.val, by omega⟩) = tap a s l 2 n.val := by
  pointwise [val_main_v7, val_main_v5, Value.fn_main_v5, val_main_v4, val_main_cst]
  unfold tap
  have hn := n.isLt
  by_cases h : n.val < 2
  · rw [dif_pos h, dif_neg (by omega)]
  · rw [dif_neg h, dif_pos (by omega)]
    exact wide_at a _ s l

theorem ref_tap1 (n : Fin 2048) (s : Fin 8) (l : Fin 704) :
    val_main_v15 (F := Ideal) a (ix2 n ⟨s.val * 704 + l.val, by omega⟩) = tap a s l 1 n.val := by
  pointwise [val_main_v15, val_main_v5, Value.fn_main_v5, val_main_v4, val_main_cst]
  unfold tap
  have hn := n.isLt
  by_cases h : n.val + 1 < 2
  · rw [dif_pos (by omega), dif_neg (by omega)]
  · rw [dif_neg (by omega), dif_pos (by omega)]
    refine (wide_at a _ s l).trans (congrArg (fun x => a (ix3 s x l)) (Fin.ext ?_))
    show 1 + n.val - 2 = n.val - 1
    omega

theorem ref_tap0 (n : Fin 2048) (s : Fin 8) (l : Fin 704) :
    val_main_v22 (F := Ideal) a (ix2 n ⟨s.val * 704 + l.val, by omega⟩) = tap a s l 0 n.val := by
  pointwise [val_main_v22, val_main_v5, Value.fn_main_v5, val_main_v4, val_main_cst]
  unfold tap
  rw [dif_pos (by omega)]
  exact wide_at a n s l

theorem ref_w0 (n : Fin 2048) (s : Fin 8) (l : Fin 704) :
    val_main_v11 (F := Ideal) w (ix2 n ⟨s.val * 704 + l.val, by omega⟩) = w (ix3 s 0 l) := by
  pointwise [val_main_v11, val_main_v10, val_main_v9, val_main_v8, val_main_v3, val_main_v2]

theorem ref_w1 (n : Fin 2048) (s : Fin 8) (l : Fin 704) :
    val_main_v19 (F := Ideal) w (ix2 n ⟨s.val * 704 + l.val, by omega⟩) = w (ix3 s 1 l) := by
  pointwise [val_main_v19, val_main_v18, val_main_v17, val_main_v16, val_main_v3, val_main_v2]

theorem ref_w2 (n : Fin 2048) (s : Fin 8) (l : Fin 704) :
    val_main_v26 (F := Ideal) w (ix2 n ⟨s.val * 704 + l.val, by omega⟩) = w (ix3 s 2 l) := by
  pointwise [val_main_v26, val_main_v25, val_main_v24, val_main_v23, val_main_v3, val_main_v2]

theorem ref_b (n : Fin 2048) (s : Fin 8) (l : Fin 704) :
    val_main_v30 (F := Ideal) b (ix2 n ⟨s.val * 704 + l.val, by omega⟩) = b (ix1 ⟨s.val * 704 + l.val, by omega⟩) := by
  pointwise [val_main_v30, val_main_v29]

/-- The reference's convolution. -/
theorem ref_pre (n : Fin 2048) (s : Fin 8) (l : Fin 704) :
    val_main_v31 (F := Ideal) a w b (ix2 n ⟨s.val * 704 + l.val, by omega⟩) = pre a w b s l n.val := by
  pointwise [val_main_v31, val_main_v28, val_main_v27, val_main_v21, val_main_v20, val_main_v14, val_main_v13, val_main_v12, val_main_cst_1]
  rw [ref_tap2, ref_tap1, ref_tap0, ref_w0, ref_w1, ref_w2, ref_b]
  rfl

/-- The gated half. -/
theorem ref_gate (n : Fin 2048) (d : Fin 4) (l : Fin 704) :
    val_main_v32 (F := Ideal) a w b (ix2 n ⟨d.val * 704 + l.val, by omega⟩) = pre a w b (slab 0 d) l n.val := by
  pointwise [val_main_v32]
  refine Eq.trans ?_ (ref_pre a w b n (slab 0 d) l)
  congr 2
  exact Fin.ext (show d.val * 704 + l.val = (0 * 4 + d.val) * 704 + l.val by omega)

/-- The other half. -/
theorem ref_val (n : Fin 2048) (d : Fin 4) (l : Fin 704) :
    val_main_v33 (F := Ideal) a w b (ix2 n ⟨d.val * 704 + l.val, by omega⟩) = pre a w b (slab 1 d) l n.val := by
  pointwise [val_main_v33]
  refine Eq.trans ?_ (ref_pre a w b n (slab 1 d) l)
  congr 2
  exact Fin.ext (show 2816 + (d.val * 704 + l.val) = (1 * 4 + d.val) * 704 + l.val by omega)

/-- The incoming cotangent. -/
theorem ref_u (n : Fin 2048) (d : Fin 4) (l : Fin 704) :
    val_main_v60 (F := Ideal) u (ix2 n ⟨d.val * 704 + l.val, by omega⟩) = u (ix3 d n l) := by
  pointwise [val_main_v60, val_main_v59, val_main_v58]

/-- The hyperbolic tangent. -/
theorem ref_bend (n : Fin 2048) (q : Fin 2816) (g : ℝ) (hg : val_main_v32 (F := Ideal) a w b (ix2 n q) = (g : EReal)) :
    val_main_v48 (F := Ideal) a w b (ix2 n q) = bend (g : EReal) := by
  pointwise [val_main_v48, val_main_v45, val_main_v44, val_main_cst_5, val_main_v43, val_main_v42, val_main_v41, val_main_cst_4, val_main_v40,
    val_main_v39, val_main_cst_3, val_main_v35, val_main_v34]
  rw [hg]
  exact bend_eq g

theorem ref_slope (n : Fin 2048) (q : Fin 2816) (g : ℝ) (hg : val_main_v32 (F := Ideal) a w b (ix2 n q) = (g : EReal)) :
    val_main_v76 (F := Ideal) u a w b (ix2 n q)
      = slope (val_main_v60 (F := Ideal) u (ix2 n q)) (g : EReal) (val_main_v33 (F := Ideal) a w b (ix2 n q)) := by
  pointwise [val_main_v76, val_main_v75, val_main_v74, val_main_v73, val_main_cst_13, val_main_v72, val_main_v71, val_main_cst_12, val_main_v70,
    val_main_v69, val_main_v68, val_main_cst_11, val_main_v67, val_main_v66, val_main_cst_10, val_main_v65, val_main_v64, val_main_v63, val_main_v62,
    val_main_v55, val_main_v54, val_main_cst_9, val_main_v53, val_main_v52, val_main_v51, val_main_cst_8, val_main_v50, val_main_v49, val_main_cst_7,
    val_main_v47, val_main_v46, val_main_cst_6, val_main_v38, val_main_v37, val_main_cst_2, val_main_v36]
  rw [ref_bend a w b n q g hg, hg]
  rfl

theorem ref_act (n : Fin 2048) (q : Fin 2816) (g : ℝ) (hg : val_main_v32 (F := Ideal) a w b (ix2 n q) = (g : EReal)) :
    val_main_v61 (F := Ideal) u a w b (ix2 n q) = act (g : EReal) * val_main_v60 (F := Ideal) u (ix2 n q) := by
  pointwise [val_main_v61, val_main_v56, val_main_v55, val_main_v54, val_main_cst_9, val_main_v47, val_main_v46, val_main_cst_6]
  rw [ref_bend a w b n q g hg, hg]
  rfl

theorem ref_join (n : Fin 2048) (k : Fin 2) (d : Fin 4) (l : Fin 704) :
    val_main_v77 (F := Ideal) u a w b (ix2 n ⟨(slab k d).val * 704 + l.val, by omega⟩)
    = if k.val = 0 then val_main_v76 (F := Ideal) u a w b (ix2 n ⟨d.val * 704 + l.val, by omega⟩)
      else val_main_v61 (F := Ideal) u a w b (ix2 n ⟨d.val * 704 + l.val, by omega⟩) := by
  pointwise [val_main_v77, Value.fn_main_v77]
  have hs : (slab k d).val = k.val * 4 + d.val := rfl
  have hk := k.isLt
  have hd := d.isLt
  have hl := l.isLt
  by_cases h : k.val = 0
  · rw [if_pos h, dif_pos (by omega)]
    congr 2
    exact Fin.ext (by show (slab k d).val * 704 + l.val = d.val * 704 + l.val; omega)
  · rw [if_neg h, dif_neg (by omega)]
    congr 2
    exact Fin.ext (by show (slab k d).val * 704 + l.val - 2816 = d.val * 704 + l.val; omega)

/-- Both cotangents, side by side. -/
theorem ref_dy (hu : IsReal u) (ha : IsReal a) (hw : IsReal w) (hb : IsReal b) (n : Fin 2048) (k : Fin 2) (d : Fin 4) (l : Fin 704) :
    val_main_v77 (F := Ideal) u a w b (ix2 n ⟨(slab k d).val * 704 + l.val, by omega⟩) = dy u a w b k d l n.val := by
  obtain ⟨g, hg⟩ := pre_real ha hw hb (slab 0 d) l n.val
  obtain ⟨v, hv⟩ := pre_real ha hw hb (slab 1 d) l n.val
  obtain ⟨c, hc⟩ := hu (ix3 d n l)
  have hgate := (ref_gate a w b n d l).trans hg
  rw [ref_join, ref_slope u a w b n _ g hgate, ref_act u a w b n _ g hgate, ref_u, ref_val, hv, hc, slope_eq]
  unfold dy
  rw [dif_pos n.isLt, hg, hv]
  have hc' : u (ix3 d ⟨n.val, n.isLt⟩ l) = (c : EReal) := hc
  rw [hc', mul_comm (act _)]

/-- The gradient of the bias. -/
theorem ref_db (hu : IsReal u) (ha : IsReal a) (hw : IsReal w) (hb : IsReal b) (k : Fin 2) (d : Fin 4) (z : Fin 1) (l : Fin 704) :
    val_main_v121 (F := Ideal) u a w b (ix4 k d z l) = db u a w b (ix4 k d z l) := by
  pointwise [val_main_v121, val_main_v80, val_main_v79, val_main_v78, val_main_cst_14, val_main_cst_15]
  rw [Fin.sum_univ_one]
  refine Finset.sum_congr rfl fun n _ => Eq.trans (congrArg (fun q => val_main_v77 (F := Ideal) u a w b (ix2 n q)) (Fin.ext ?_))
    (ref_dy u a w b hu ha hw hb n k d l)
  show k.val * 2816 + d.val * 704 + l.val = (k.val * 4 + d.val) * 704 + l.val
  omega

theorem add_three {x y z x' y' z' : EReal} (hx : x = x') (hy : y = y') (hz : z = z') : x + y + z = x' + y' + z' := by
  rw [hx, hy, hz]

theorem guard_eq {p q : Prop} [Decidable p] [Decidable q] {f : p → EReal} {x : EReal} (hpq : p ↔ q) (hf : ∀ h, f h = x) :
    (if h : p then f h else 0) = if q then x else 0 := by
  by_cases h : p
  · rw [dif_pos h, if_pos (hpq.1 h), hf h]
  · rw [dif_neg h, if_neg (fun hq => h (hpq.2 hq))]

set_option maxHeartbeats 1000000 in
/-- The gradient of the taps, before its taps are told apart. -/
theorem ref_dw_open (hu : IsReal u) (ha : IsReal a) (hw : IsReal w) (hb : IsReal b) (k : Fin 2) (d : Fin 4) (j : Fin 3) (l : Fin 704) :
    val_main_v120 (F := Ideal) u a w b (ix4 k d j l)
    = (if 2 ≤ j.val then ∑ n : Fin 2048, dy u a w b k d l n.val * tap a (slab k d) l 0 n.val else 0)
      + (if 1 ≤ j.val ∧ j.val < 2 then ∑ n : Fin 2048, dy u a w b k d l n.val * tap a (slab k d) l 1 n.val else 0)
      + (if j.val < 1 then ∑ n : Fin 2048, dy u a w b k d l n.val * tap a (slab k d) l 2 n.val else 0) := by
  have hj := j.isLt
  have hk := k.isLt
  have hd := d.isLt
  have hl := l.isLt
  pointwise [val_main_v120, val_main_v119, val_main_v118, val_main_v109, val_main_v98, val_main_v88, val_main_v97, val_main_v108,
    val_main_v87, val_main_v86, val_main_v96, val_main_v95, val_main_v107, val_main_v106, val_main_v103, val_main_v102, val_main_v101,
    val_main_v92, val_main_v91, val_main_v90, val_main_v83, val_main_v82, val_main_v81, val_main_cst_16, val_main_cst_17, val_main_cst_18,
    val_main_cst_20, val_main_cst_21, val_main_cst_22, val_main_cst_24, val_main_cst_25, val_main_cst_26]
  simp only [Fin.sum_univ_one]
  refine add_three ?_ ?_ ?_
  · exact guard_eq (by omega) fun _ => Finset.sum_congr rfl fun n _ => (congrArg₂ (fun x y : EReal => x * y)
      (ref_tap0 a n (slab k d) l) (ref_dy u a w b hu ha hw hb n k d l)).trans (mul_comm _ _)
  · exact guard_eq (by omega) fun _ => Finset.sum_congr rfl fun n _ => (congrArg₂ (fun x y : EReal => x * y)
      (ref_tap1 a n (slab k d) l) (ref_dy u a w b hu ha hw hb n k d l)).trans (mul_comm _ _)
  · exact guard_eq (by omega) fun _ => Finset.sum_congr rfl fun n _ => (congrArg₂ (fun x y : EReal => x * y)
      (ref_tap2 a n (slab k d) l) (ref_dy u a w b hu ha hw hb n k d l)).trans (mul_comm _ _)

/-- The gradient of the taps. -/
theorem ref_dw (hu : IsReal u) (ha : IsReal a) (hw : IsReal w) (hb : IsReal b) (k : Fin 2) (d : Fin 4) (j : Fin 3) (l : Fin 704) :
    val_main_v120 (F := Ideal) u a w b (ix4 k d j l) = dw u a w b (ix4 k d j l) := by
  rw [ref_dw_open u a w b hu ha hw hb]
  show _ = ∑ n : Fin 2048, dy u a w b k d l n.val * tap a (slab k d) l (2 - j.val) n.val
  have hj := j.isLt
  obtain h | h | h : j.val = 0 ∨ j.val = 1 ∨ j.val = 2 := by omega
  · rw [if_neg (by omega), if_neg (by omega), if_pos (by omega), zero_add, zero_add, h]
  · rw [if_neg (by omega), if_pos (by omega), if_neg (by omega), zero_add, add_zero, h]
  · rw [if_pos (by omega), if_neg (by omega), if_neg (by omega), add_zero, add_zero, h]

theorem ref_v0 (n : Fin 2048) (s : Fin 8) (l : Fin 704) :
    val_main_v104 (F := Ideal) w (ix2 n ⟨s.val * 704 + l.val, by omega⟩) = w (ix3 s 0 l) := by
  pointwise [val_main_v104, val_main_v10, val_main_v9, val_main_v8, val_main_v3, val_main_v2]

theorem ref_v1 (n : Fin 2048) (s : Fin 8) (l : Fin 704) :
    val_main_v93 (F := Ideal) w (ix2 n ⟨s.val * 704 + l.val, by omega⟩) = w (ix3 s 1 l) := by
  pointwise [val_main_v93, val_main_v18, val_main_v17, val_main_v16, val_main_v3, val_main_v2]

theorem ref_v2 (n : Fin 2048) (s : Fin 8) (l : Fin 704) :
    val_main_v84 (F := Ideal) w (ix2 n ⟨s.val * 704 + l.val, by omega⟩) = w (ix3 s 2 l) := by
  pointwise [val_main_v84, val_main_v25, val_main_v24, val_main_v23, val_main_v3, val_main_v2]

/-- The gradient of the input. -/
theorem ref_da (hu : IsReal u) (ha : IsReal a) (hw : IsReal w) (hb : IsReal b) (k : Fin 2) (d : Fin 4) (n : Fin 2048) (l : Fin 704) :
    val_main_v117 (F := Ideal) u a w b (ix4 k d n l) = da u a w b (ix4 k d n l) := by
  have hn := n.isLt
  have hk := k.isLt
  have hd := d.isLt
  have hl := l.isLt
  pointwise [val_main_v117, val_main_v116, val_main_v115, val_main_v114, val_main_v113, val_main_v111, val_main_v110, val_main_v105, val_main_cst_27,
    val_main_v100, val_main_v99, val_main_v94, val_main_cst_23, val_main_v89, val_main_v85, val_main_cst_19]
  show _ = dy u a w b k d l n.val * w (ix3 (slab k d) 2 l) + dy u a w b k d l (n.val + 1) * w (ix3 (slab k d) 1 l)
    + dy u a w b k d l (n.val + 2) * w (ix3 (slab k d) 0 l)
  refine add_three ?_ ?_ ?_
  · rw [dif_pos (by omega)]
    exact congrArg₂ (fun x y : EReal => x * y) (ref_dy u a w b hu ha hw hb n k d l) (ref_v2 w n (slab k d) l)
  · by_cases h : n.val + 1 < 2048
    · rw [dif_pos (by omega)]
      refine congrArg₂ (fun x y : EReal => x * y) ((ref_dy u a w b hu ha hw hb _ k d l).trans (congrArg (dy u a w b k d l) ?_)) (ref_v1 w _ (slab k d) l)
      show 2 + n.val - 1 = n.val + 1
      omega
    · rw [dif_neg (by omega), dy, dif_neg h, zero_mul]
  · by_cases h : n.val + 2 < 2048
    · rw [dif_pos (by omega)]
      refine congrArg₂ (fun x y : EReal => x * y) ((ref_dy u a w b hu ha hw hb _ k d l).trans (congrArg (dy u a w b k d l) ?_)) (ref_v0 w _ (slab k d) l)
      show 2 + n.val = n.val + 2
      omega
    · rw [dif_neg (by omega), dy, dif_neg h, zero_mul]

end Cert.Conv

end
-- ==== Proof.ConvFinal.lean ====
/-
  The gradient of the gated convolution: what the three result arrays hold after the run, and that they are what the
  reference returns. The gradients of the taps and of the bias are added up over the eight blocks of a slab, last block
  first; the reference adds the 2048 rows in one sum.
-/
module

public import proofs.«01_k».proof.Defs
public import proofs.«01_k».proof.Proof.ConvDa
public import proofs.«01_k».proof.Proof.ConvDw
public import proofs.«01_k».proof.Proof.ConvDb
public import proofs.«01_k».proof.Proof.ConvRef
public import proofs.«01_k».proof.Proof.Gen.Pre_finite
public import proofs.«01_k».proof.Proof.Gen.KernelIdeal.Value
public import proofs.«01_k».proof.Proof.Gen.ReferenceIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Conv

open Cert.KernelIdeal Cert.KernelIdeal.Gen

variable (m : (ℓ : Loc nD τ sig) → Buf (Elt Ideal) ℓ)

/-- The blocks written back tile each result array. -/
theorem tiles5 : (cfg0.win 5).Covers := by decide +kernel
theorem tiles6 : (cfg0.win 6).Covers := by decide +kernel
theorem tiles7 : (cfg0.win 7).Covers := by decide +kernel

theorem emb5 (t : Fin cfg0.N) (y : S2x1x256x704.Idx) : ((cfg0.win 5).blk t).view.emb y
    = (ix4 (y 0) (slabOf t) ⟨(blkOf t).val * 256 + (y 2).val, by
        have h2 : (y 2).val < 256 := (y 2).isLt
        omega⟩ (y 3) : S2x4x2048x704.Idx) := by
  have h2 : (y 2).val < 256 := (y 2).isLt
  have h1 : (y 1).val < 1 := (y 1).isLt
  idx_bounds y
  blk_ext [places t, slabOf, blkOf]

theorem emb6 (t : Fin cfg0.N) (y : S2x1x3x704.Idx) : ((cfg0.win 6).blk t).view.emb y
    = (ix4 (y 0) (slabOf t) (y 2) (y 3) : S2x4x3x704.Idx) := by
  have h1 : (y 1).val < 1 := (y 1).isLt
  idx_bounds y
  blk_ext [places t, slabOf, blkOf]

theorem emb7 (t : Fin cfg0.N) (y : S2x1x1x704.Idx) : ((cfg0.win 7).blk t).view.emb y
    = (ix4 (y 0) (slabOf t) (y 2) (y 3) : S2x4x1x704.Idx) := by
  have h1 : (y 1).val < 1 := (y 1).isLt
  idx_bounds y
  blk_ext [places t, slabOf, blkOf]

theorem final_da (c : Dev nD) : (dats m 0 c).arrAt 5 (cfgs 0).N = da (argU m c) (argA m c) (argW m c) (argB m c) := by
  refine (dats m 0 c).arrAt_eq_of_covers 5 _ tiles5 fun t hf y => ?_
  blk_simp
  rw [after0_5, da_all m c t]
  exact congrArg (da (argU m c) (argA m c) (argW m c) (argB m c)) (emb5 t y).symm

/-- The accumulated gradients at the end of a slab. -/
theorem dw_summed (c : Dev nD) (t : Fin cfg0.N) (h : t.val % 8 = 8 - 1) (j : S2x1x3x704.Idx) :
    (outsAt0 m c t.val t.isLt).2.1 j
    = 0 + ∑ s : Fin 8, dwPart m c ⟨8 * (t.val / 8) + s.val, Pipeline.run_point_lt_of_flush t h s⟩ j := by
  refine Pipeline.eq_sum_fin_of_reset_step_apply_of_flush (fun n h => (outsAt0 m c n h).2.1) 8 (fun _ => 0)
    (fun p j => dwPart m c p j) (fun p hp i => ?_) (fun p hp i => ?_) t h j
  · exact (congrFun (dw_first m c p hp) i).trans (zero_add _).symm
  · exact congrFun (dw_later m c p hp) i

theorem db_summed (c : Dev nD) (t : Fin cfg0.N) (h : t.val % 8 = 8 - 1) (j : S2x1x1x704.Idx) :
    (outsAt0 m c t.val t.isLt).2.2.1 j
    = 0 + ∑ s : Fin 8, dbPart m c ⟨8 * (t.val / 8) + s.val, Pipeline.run_point_lt_of_flush t h s⟩ j := by
  refine Pipeline.eq_sum_fin_of_reset_step_apply_of_flush (fun n h => (outsAt0 m c n h).2.2.1) 8 (fun _ => 0)
    (fun p j => dbPart m c p j) (fun p hp i => ?_) (fun p hp i => ?_) t h j
  · exact (congrFun (db_first m c p hp) i).trans (zero_add _).symm
  · exact congrFun (db_later m c p hp) i

/-- The rows summed block by block, last block first, are the rows summed in order. -/
theorem rows_sum (f : ℕ → EReal) (b : Fin 8 → ℕ) (hb : ∀ s, b s = 7 - s.val) :
    ∑ s : Fin 8, ∑ r : Fin 256, f (b s * 256 + r.val) = ∑ n : Fin 2048, f n.val := by
  refine (Equiv.sum_comp Fin.revPerm (fun s : Fin 8 => ∑ r : Fin 256, f (b s * 256 + r.val))).symm.trans ?_
  refine Fin.sum_mul_add_congr fun s k hl => ?_
  have e : b (Fin.revPerm s) = s.val := by
    rw [hb, Fin.revPerm_apply, Fin.val_rev]
    omega
  rw [e]

theorem blk_run (t : Fin cfg0.N) (h : t.val % 8 = 8 - 1) (s : Fin 8) :
    (blkOf ⟨8 * (t.val / 8) + s.val, Pipeline.run_point_lt_of_flush t h s⟩).val = 7 - s.val := by
  show 7 - (8 * (t.val / 8) + s.val) % 8 = 7 - s.val
  omega

theorem slab_run (t : Fin cfg0.N) (h : t.val % 8 = 8 - 1) (s : Fin 8) :
    slabOf ⟨8 * (t.val / 8) + s.val, Pipeline.run_point_lt_of_flush t h s⟩ = slabOf t := by
  refine Fin.ext ?_
  show (8 * (t.val / 8) + s.val) / 8 = t.val / 8
  omega

theorem dw_run (c : Dev nD) (t : Fin cfg0.N) (h : t.val % 8 = 8 - 1) (y : S2x1x3x704.Idx) :
    ∑ s : Fin 8, dwPart m c ⟨8 * (t.val / 8) + s.val, Pipeline.run_point_lt_of_flush t h s⟩ y
    = dw (argU m c) (argA m c) (argW m c) (argB m c) (ix4 (y 0) (slabOf t) (y 2) (y 3)) := by
  refine Eq.trans ?_ (rows_sum (fun n => dyAt m c (y 0) (slabOf t) (y 3) n
    * tap (argA m c) (slab (y 0) (slabOf t)) (y 3) (2 - (y 2).val) n) _ (blk_run t h))
  refine Finset.sum_congr rfl fun s _ => ?_
  unfold dwPart
  rw [slab_run t h s]

theorem db_run (c : Dev nD) (t : Fin cfg0.N) (h : t.val % 8 = 8 - 1) (y : S2x1x1x704.Idx) :
    ∑ s : Fin 8, dbPart m c ⟨8 * (t.val / 8) + s.val, Pipeline.run_point_lt_of_flush t h s⟩ y
    = db (argU m c) (argA m c) (argW m c) (argB m c) (ix4 (y 0) (slabOf t) (y 2) (y 3)) := by
  refine Eq.trans ?_ (rows_sum (fun n => dyAt m c (y 0) (slabOf t) (y 3) n) _ (blk_run t h))
  refine Finset.sum_congr rfl fun s _ => ?_
  unfold dbPart
  rw [slab_run t h s]

theorem final_dw (c : Dev nD) : (dats m 0 c).arrAt 6 (cfgs 0).N = dw (argU m c) (argA m c) (argW m c) (argB m c) := by
  refine (dats m 0 c).arrAt_eq_of_covers 6 _ tiles6 fun t hf y => ?_
  have h : t.val % 8 = 7 := (flush0_6 t).mp hf
  blk_simp
  rw [after0_6]
  exact (dw_summed m c t h y).trans ((zero_add _).trans ((dw_run m c t h y).trans
    (congrArg (dw (argU m c) (argA m c) (argW m c) (argB m c)) (emb6 t y).symm)))

theorem final_db (c : Dev nD) : (dats m 0 c).arrAt 7 (cfgs 0).N = db (argU m c) (argA m c) (argW m c) (argB m c) := by
  refine (dats m 0 c).arrAt_eq_of_covers 7 _ tiles7 fun t hf y => ?_
  have h : t.val % 8 = 7 := (flush0_7 t).mp hf
  blk_simp
  rw [after0_7]
  exact (db_summed m c t h y).trans ((zero_add _).trans ((db_run m c t h y).trans
    (congrArg (db (argU m c) (argA m c) (argW m c) (argB m c)) (emb7 t y).symm)))

/-- A number whose absolute value is below infinity is a real one. -/
theorem real_of_lt (x : EReal) (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | top => simp [Ideal.cmp] at h
  | coe r => exact ⟨r, rfl⟩

/-- Under the precondition every argument holds reals. -/
theorem reals (hm : Cert.Pre_KernelIdeal_finite m) (c : Dev nD) :
    IsReal (argU m c) ∧ IsReal (argA m c) ∧ IsReal (argW m c) ∧ IsReal (argB m c) := by
  obtain ⟨hu, ha, hw, hb⟩ := hm c
  exact ⟨fun i => real_of_lt _ (congrFun hu i), fun i => real_of_lt _ (congrFun ha i), fun i => real_of_lt _ (congrFun hw i),
    fun i => real_of_lt _ (congrFun hb i)⟩

section ref

variable {u : FVec Ideal S4x2048x704 .bf16} {a : FVec Ideal S8x2048x704 .f32} {w : FVec Ideal S8x3x704 .f32} {b : FVec Ideal S5632 .f32}

theorem ref_da_all (hu : IsReal u) (ha : IsReal a) (hw : IsReal w) (hb : IsReal b) :
    Cert.ReferenceIdeal.Read.val_main_v117 (F := Ideal) u a w b = da u a w b := by
  funext i
  rw [eq_ix4 i]
  exact ref_da u a w b hu ha hw hb _ _ _ _

theorem ref_dw_all (hu : IsReal u) (ha : IsReal a) (hw : IsReal w) (hb : IsReal b) :
    Cert.ReferenceIdeal.Read.val_main_v120 (F := Ideal) u a w b = dw u a w b := by
  funext i
  rw [eq_ix4 i]
  exact ref_dw u a w b hu ha hw hb _ _ _ _

theorem ref_db_all (hu : IsReal u) (ha : IsReal a) (hw : IsReal w) (hb : IsReal b) :
    Cert.ReferenceIdeal.Read.val_main_v121 (F := Ideal) u a w b = db u a w b := by
  funext i
  rw [eq_ix4 i]
  exact ref_db u a w b hu ha hw hb _ _ _ _

theorem ref_da_run (V : Valuation Cert.ReferenceIdeal.τ Cert.ReferenceIdeal.sig (Elt Ideal)) (hu : IsReal u) (ha : IsReal a) (hw : IsReal w) (hb : IsReal b)
    (e0 : V (Proc.devRef .tc Cert.ReferenceIdeal.main_arg0) = u) (e1 : V (Proc.devRef .tc Cert.ReferenceIdeal.main_arg1) = a)
    (e2 : V (Proc.devRef .tc Cert.ReferenceIdeal.main_arg2) = w) (e3 : V (Proc.devRef .tc Cert.ReferenceIdeal.main_arg3) = b) :
    Cert.ReferenceIdeal.Read.val_main_v117 (F := Ideal) (V (Proc.devRef .tc Cert.ReferenceIdeal.main_arg0)) (V (Proc.devRef .tc Cert.ReferenceIdeal.main_arg1)) (V (Proc.devRef .tc Cert.ReferenceIdeal.main_arg2)) (V (Proc.devRef .tc Cert.ReferenceIdeal.main_arg3))
    = da u a w b := by
  rw [e0, e1, e2, e3]
  exact ref_da_all hu ha hw hb

theorem ref_dw_run (V : Valuation Cert.ReferenceIdeal.τ Cert.ReferenceIdeal.sig (Elt Ideal)) (hu : IsReal u) (ha : IsReal a) (hw : IsReal w) (hb : IsReal b)
    (e0 : V (Proc.devRef .tc Cert.ReferenceIdeal.main_arg0) = u) (e1 : V (Proc.devRef .tc Cert.ReferenceIdeal.main_arg1) = a)
    (e2 : V (Proc.devRef .tc Cert.ReferenceIdeal.main_arg2) = w) (e3 : V (Proc.devRef .tc Cert.ReferenceIdeal.main_arg3) = b) :
    Cert.ReferenceIdeal.Read.val_main_v120 (F := Ideal) (V (Proc.devRef .tc Cert.ReferenceIdeal.main_arg0)) (V (Proc.devRef .tc Cert.ReferenceIdeal.main_arg1)) (V (Proc.devRef .tc Cert.ReferenceIdeal.main_arg2)) (V (Proc.devRef .tc Cert.ReferenceIdeal.main_arg3))
    = dw u a w b := by
  rw [e0, e1, e2, e3]
  exact ref_dw_all hu ha hw hb

theorem ref_db_run (V : Valuation Cert.ReferenceIdeal.τ Cert.ReferenceIdeal.sig (Elt Ideal)) (hu : IsReal u) (ha : IsReal a) (hw : IsReal w) (hb : IsReal b)
    (e0 : V (Proc.devRef .tc Cert.ReferenceIdeal.main_arg0) = u) (e1 : V (Proc.devRef .tc Cert.ReferenceIdeal.main_arg1) = a)
    (e2 : V (Proc.devRef .tc Cert.ReferenceIdeal.main_arg2) = w) (e3 : V (Proc.devRef .tc Cert.ReferenceIdeal.main_arg3) = b) :
    Cert.ReferenceIdeal.Read.val_main_v121 (F := Ideal) (V (Proc.devRef .tc Cert.ReferenceIdeal.main_arg0)) (V (Proc.devRef .tc Cert.ReferenceIdeal.main_arg1)) (V (Proc.devRef .tc Cert.ReferenceIdeal.main_arg2)) (V (Proc.devRef .tc Cert.ReferenceIdeal.main_arg3))
    = db u a w b := by
  rw [e0, e1, e2, e3]
  exact ref_db_all hu ha hw hb

end ref

end Cert.Conv

/-- The kernel and the reference end with equal results. -/
theorem Cert.Conv.algebraic : Cert.algebraic_KernelIdeal_ReferenceIdeal_pre_finite := by
  pair_intro
  · run_from Cert.KernelIdeal.Gen.run_main m g
  · run_from Cert.ReferenceIdeal.Value.run m' g'
    all_goals obtain ⟨hu, ha, hw, hb⟩ := Cert.Conv.reals m hpre c
    · exact (Cert.ReferenceIdeal.Read.val_main_v117_eq (StableHlo.launchContents m' c)).trans
        ((Cert.Conv.ref_da_run (StableHlo.launchContents m' c) hu ha hw hb (hagree c).1 (hagree c).2.1 (hagree c).2.2.1 (hagree c).2.2.2).trans
          (Cert.Conv.final_da m c).symm)
    · exact (Cert.ReferenceIdeal.Read.val_main_v120_eq (StableHlo.launchContents m' c)).trans
        ((Cert.Conv.ref_dw_run (StableHlo.launchContents m' c) hu ha hw hb (hagree c).1 (hagree c).2.1 (hagree c).2.2.1 (hagree c).2.2.2).trans
          (Cert.Conv.final_dw m c).symm)
    · exact (Cert.ReferenceIdeal.Read.val_main_v121_eq (StableHlo.launchContents m' c)).trans
        ((Cert.Conv.ref_db_run (StableHlo.launchContents m' c) hu ha hw hb (hagree c).1 (hagree c).2.1 (hagree c).2.2.1 (hagree c).2.2.2).trans
          (Cert.Conv.final_db m c).symm)

end
-- ==== Proof.DownX.lean ====
/-
  The gradient of the second feed-forward product with respect to its left operand: each grid point multiplies
  the whole of `df` by one transposed slab of the weight, and the reference multiplies by the whole weight and cuts
  the product into slabs. Both are the same sum over the 1024 columns of `df`.
-/
module

public import proofs.«01_k».proof.Defs
public import proofs.«01_k».proof.Proof.Gen.Kernel2Ideal.Value
public import proofs.«01_k».proof.Proof.Gen.Reference2Ideal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DownX

open Cert.Kernel2Ideal Cert.Kernel2Ideal.Gen

variable (m : (ℓ : Loc nD τ sig) → Buf (Elt Ideal) ℓ)

/-- What the reference returns, as a function of `df` and the weight: the product, cut into slabs. -/
def target (df : FVec Ideal S2048x1024 .bf16) (w : FVec Ideal S2816x1024 .bf16) : FVec Ideal S4x2048x704 .bf16 :=
  truncf .bf16 (transpose Cert.Reference2Ideal.S4x2048x704 [1, 0, 2]
    (shapeCast _ (Host.dotGeneral Cert.Reference2Ideal.dot_S2048x1024_S2816x1024_S2048x2816_1_1_0_0_n_n none
      (extf .f32 df Cert.Reference2Ideal.Gen.bitsLt_bf16_f32) (extf .f32 w Cert.Reference2Ideal.Gen.bitsLt_bf16_f32))
      Cert.Reference2Ideal.Gen.shapeCasts_S2048x2816_S2048x4x704)
    Cert.Reference2Ideal.Gen.transposes_S2048x4x704_S4x2048x704_1_0_2) Cert.Reference2Ideal.Gen.bitsLt_bf16_f32

/-- Where each window's block lies at grid point `t`. -/
theorem places : ∀ t : Fin cfg0.N, win0_0.index t = ![0, 0] ∧ win0_1.index t = ![t.val, 0, 0]
    ∧ win0_2.index t = ![t.val, 0, 0] :=
  (by decide +kernel : ∀ t : Fin grid0.N, _)

/-- The stored block, read at an index. -/
theorem stored_at (x : FVec Ideal S2048x1024 .bf16) (w : FVec Ideal S1x704x1024 .bf16) (z : Fin 1) (r : Fin 2048) (l : Fin 704) :
    k0_pay1 (F := Ideal) x w (ix3 z r l) = ∑ k : Fin 1024, x (ix2 r k) * w (ix3 0 l k) := by
  pointwise [k0_pay1]

/-- The target, read at an index. -/
theorem target_at (df : FVec Ideal S2048x1024 .bf16) (w : FVec Ideal S2816x1024 .bf16) (s : Fin 4) (r : Fin 2048) (l : Fin 704) :
    target df w (ix3 s r l) = ∑ k : Fin 1024, df (ix2 r k) * w (ix2 ⟨s.val * 704 + l.val, by omega⟩ k) := by
  pointwise [target]

/-- One element of what a grid point stores is the target's element at the place it is stored to. -/
theorem point (c : Dev nD) (t : Fin cfg0.N) (y : S1x2048x704.Idx) :
    k0_pay1 (F := Ideal) (iblk m c 0 t) (iblk m c 1 t) y
    = target (m ((c : Thread nD τ).loc main_arg0)) (m ((c : Thread nD τ).loc main_arg1)) (((cfg0.win 2).blk t).view.emb y) := by
  have ht : t.val < 4 := lt_of_lt_of_eq t.isLt N_0
  have e : ((cfg0.win 2).blk t).view.emb y = (ix3 ⟨t.val, ht⟩ (y 1) (y 2) : S4x2048x704.Idx) := by
    idx_bounds y
    blk_ext [places t]
  rw [e]
  refine ((congrArg _ (eq_ix3 y)).trans (stored_at (iblk m c 0 t) (iblk m c 1 t) (y 0) (y 1) (y 2))).trans
    (Eq.trans (Finset.sum_congr rfl fun k _ => ?_) (target_at _ _ ⟨t.val, ht⟩ (y 1) (y 2)).symm)
  blk_point [iblk, V, places t]

/-- The blocks written back tile the result array. -/
theorem tiles : (cfg0.win 2).Covers := by decide +kernel

/-- What a grid point leaves in the result's staging buffer. -/
theorem left_at (c : Dev nD) (t : Fin cfg0.N) :
    (dats m 0 c).after 2 t = k0_pay1 (F := Ideal) (iblk m c 0 t) (iblk m c 1 t) := by
  rw [after0_2]; frame_out

/-- The result array after the run is the target. -/
theorem final (c : Dev nD) : (dats m 0 c).arrAt 2 (cfgs 0).N
    = target (m ((c : Thread nD τ).loc main_arg0)) (m ((c : Thread nD τ).loc main_arg1)) := by
  refine (dats m 0 c).arrAt_eq_of_covers 2 _ tiles fun t _ y => ?_
  blk_simp
  rw [left_at]
  exact point m c t y

end Cert.DownX

/-- The kernel and the reference end with equal results. -/
theorem Cert.DownX.algebraic : Cert.algebraic_Kernel2Ideal_Reference2Ideal := by
  pair_intro
  · run_from Cert.Kernel2Ideal.Gen.run_main m g
  · run_from Cert.Reference2Ideal.Value.run m' g'
    exact (Cert.DownX.final m _).symm

end
-- ==== Proof.DownW.lean ====
/-
  The gradient of the second feed-forward product with respect to its weight: each grid point multiplies one
  transposed slab of `u` by the whole of `df`; the reference puts the slabs side by side, multiplies once and cuts
  the product. Both are the same sum over the 2048 rows.
-/
module

public import proofs.«01_k».proof.Defs
public import proofs.«01_k».proof.Proof.Gen.Kernel3Ideal.Value
public import proofs.«01_k».proof.Proof.Gen.Reference3Ideal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DownW

open Cert.Kernel3Ideal Cert.Kernel3Ideal.Gen

variable (m : (ℓ : Loc nD τ sig) → Buf (Elt Ideal) ℓ)

/-- What the reference returns, as a function of `u` and `df`. -/
def target (u : FVec Ideal S4x2048x704 .bf16) (df : FVec Ideal S2048x1024 .bf16) : FVec Ideal S4x704x1024 .bf16 :=
  truncf .bf16 (shapeCast _ (transpose Cert.Reference3Ideal.S2816x1024 [1, 0]
    (Host.dotGeneral Cert.Reference3Ideal.dot_S2048x1024_S2048x2816_S1024x2816_0_0_1_1_n_n none
      (extf .f32 df Cert.Reference3Ideal.Gen.bitsLt_bf16_f32)
      (extf .f32 (shapeCast _ (transpose Cert.Reference3Ideal.S2048x4x704 [1, 0, 2] u Cert.Reference3Ideal.Gen.transposes_S4x2048x704_S2048x4x704_1_0_2)
        Cert.Reference3Ideal.Gen.shapeCasts_S2048x4x704_S2048x2816) Cert.Reference3Ideal.Gen.bitsLt_bf16_f32))
      Cert.Reference3Ideal.Gen.transposes_S1024x2816_S2816x1024_1_0) Cert.Reference3Ideal.Gen.shapeCasts_S2816x1024_S4x704x1024) Cert.Reference3Ideal.Gen.bitsLt_bf16_f32

/-- Where each window's block lies at grid point `t`. -/
theorem places : ∀ t : Fin cfg0.N, win0_0.index t = ![t.val, 0, 0] ∧ win0_1.index t = ![0, 0]
    ∧ win0_2.index t = ![t.val, 0, 0] :=
  (by decide +kernel : ∀ t : Fin grid0.N, _)

/-- The stored block, read at an index. -/
theorem stored_at (x : FVec Ideal S1x2048x704 .bf16) (w : FVec Ideal S2048x1024 .bf16) (z : Fin 1) (r : Fin 704) (l : Fin 1024) :
    k0_pay1 (F := Ideal) x w (ix3 z r l) = ∑ k : Fin 2048, x (ix3 0 k r) * w (ix2 k l) := by
  pointwise [k0_pay1]

/-- The target, read at an index. -/
theorem target_at (u : FVec Ideal S4x2048x704 .bf16) (df : FVec Ideal S2048x1024 .bf16) (s : Fin 4) (r : Fin 704) (l : Fin 1024) :
    target u df (ix3 s r l) = ∑ k : Fin 2048, u (ix3 s k r) * df (ix2 k l) := by
  pointwise [target]
  exact Finset.sum_congr rfl fun k _ => mul_comm _ _

/-- One element of what a grid point stores is the target's element at the place it is stored to. -/
theorem point (c : Dev nD) (t : Fin cfg0.N) (y : S1x704x1024.Idx) :
    k0_pay1 (F := Ideal) (iblk m c 0 t) (iblk m c 1 t) y
    = target (m ((c : Thread nD τ).loc main_arg0)) (m ((c : Thread nD τ).loc main_arg1)) (((cfg0.win 2).blk t).view.emb y) := by
  have ht : t.val < 4 := lt_of_lt_of_eq t.isLt N_0
  have e : ((cfg0.win 2).blk t).view.emb y = (ix3 ⟨t.val, ht⟩ (y 1) (y 2) : S4x704x1024.Idx) := by
    idx_bounds y
    blk_ext [places t]
  rw [e]
  refine ((congrArg _ (eq_ix3 y)).trans (stored_at (iblk m c 0 t) (iblk m c 1 t) (y 0) (y 1) (y 2))).trans
    (Eq.trans (Finset.sum_congr rfl fun k _ => ?_) (target_at _ _ ⟨t.val, ht⟩ (y 1) (y 2)).symm)
  blk_point [iblk, V, places t]

/-- The blocks written back tile the result array. -/
theorem tiles : (cfg0.win 2).Covers := by decide +kernel

/-- What a grid point leaves in the result's staging buffer. -/
theorem left_at (c : Dev nD) (t : Fin cfg0.N) :
    (dats m 0 c).after 2 t = k0_pay1 (F := Ideal) (iblk m c 0 t) (iblk m c 1 t) := by
  rw [after0_2]; frame_out

/-- The result array after the run is the target. -/
theorem final (c : Dev nD) : (dats m 0 c).arrAt 2 (cfgs 0).N
    = target (m ((c : Thread nD τ).loc main_arg0)) (m ((c : Thread nD τ).loc main_arg1)) := by
  refine (dats m 0 c).arrAt_eq_of_covers 2 _ tiles fun t _ y => ?_
  blk_simp
  rw [left_at]
  exact point m c t y

end Cert.DownW

/-- The kernel and the reference end with equal results. -/
theorem Cert.DownW.algebraic : Cert.algebraic_Kernel3Ideal_Reference3Ideal := by
  pair_intro
  · run_from Cert.Kernel3Ideal.Gen.run_main m g
  · run_from Cert.Reference3Ideal.Value.run m' g'
    exact (Cert.DownW.final m _).symm

end
-- ==== Proof.UpX.lean ====
/-
  The gradient of the first feed-forward product with respect to its left operand: the kernel adds up, in a carried
  scratch, the products of the eight slabs of `da` with the transposed slabs of the weight, and copies the scratch out
  at the last of them; the reference puts the slabs side by side and multiplies once. Both are the sum over the
  `8 * 704` columns.
-/
module

public import proofs.«01_k».proof.Defs
public import proofs.«01_k».proof.Proof.Gen.Kernel4Ideal.Value
public import proofs.«01_k».proof.Proof.Gen.Reference4Ideal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.UpX

open Cert.Kernel4Ideal Cert.Kernel4Ideal.Gen

variable (m : (ℓ : Loc nD τ sig) → Buf (Elt Ideal) ℓ)

/-- What the reference returns, as a function of `da` and the weight. -/
def target (da : FVec Ideal S8x2048x704 .bf16) (w : FVec Ideal S8x1024x704 .bf16) : FVec Ideal S2048x1024 .f32 :=
  Host.dotGeneral Cert.Reference4Ideal.dot_S2048x5632_S1024x5632_S2048x1024_1_1_0_0_n_n none
    (extf .f32 (shapeCast _ (transpose Cert.Reference4Ideal.S2048x8x704 [1, 0, 2] da Cert.Reference4Ideal.Gen.transposes_S8x2048x704_S2048x8x704_1_0_2)
      Cert.Reference4Ideal.Gen.shapeCasts_S2048x8x704_S2048x5632) Cert.Reference4Ideal.Gen.bitsLt_bf16_f32)
    (extf .f32 (shapeCast _ (transpose Cert.Reference4Ideal.S1024x8x704 [1, 0, 2] w Cert.Reference4Ideal.Gen.transposes_S8x1024x704_S1024x8x704_1_0_2)
      Cert.Reference4Ideal.Gen.shapeCasts_S1024x8x704_S1024x5632) Cert.Reference4Ideal.Gen.bitsLt_bf16_f32)

/-- Where each window's block lies at grid point `t`. -/
theorem places : ∀ t : Fin cfg0.N, win0_0.index t = ![t.val % 8, t.val / 8, 0] ∧ win0_1.index t = ![t.val % 8, 0, 0]
    ∧ win0_2.index t = ![t.val / 8, 0] :=
  (by decide +kernel : ∀ t : Fin grid0.N, _)

/-- The product of two slabs, read at an index. -/
theorem part_at (x : FVec Ideal S1x1024x704 .bf16) (w : FVec Ideal S1x1024x704 .bf16) (r : Fin 1024) (l : Fin 1024) :
    k0_pay1 (F := Ideal) x w (ix2 r l) = ∑ k : Fin 704, x (ix3 0 r k) * w (ix3 0 l k) := by
  pointwise [k0_pay1]

/-- The first slab's product, as stored. -/
theorem first_eq (x : FVec Ideal S1x1024x704 .bf16) (w : FVec Ideal S1x1024x704 .bf16) (j : S1024x1024.Idx) :
    k0_pay2 (F := Ideal) x w j = 0 + k0_pay1 (F := Ideal) x w j := by
  idx_vars j
  pointwise [k0_pay2]

/-- A later slab's product is added to what the scratch held. -/
theorem later_eq (x : FVec Ideal S1x1024x704 .bf16) (w : FVec Ideal S1x1024x704 .bf16) (z : FVec Ideal S1024x1024 .f32)
    (j : S1024x1024.Idx) :
    k0_pay3 (F := Ideal) x w z j = z j + k0_pay1 (F := Ideal) x w j := by
  idx_vars j
  pointwise [k0_pay3]

/-- The target, read at an index. -/
theorem target_at (da : FVec Ideal S8x2048x704 .bf16) (w : FVec Ideal S8x1024x704 .bf16) (r : Fin 2048) (l : Fin 1024) :
    target da w (ix2 r l) = ∑ q : Fin 5632, da (ix3 ⟨q.val / 704, by omega⟩ r ⟨q.val % 704, by omega⟩)
      * w (ix3 ⟨q.val / 704, by omega⟩ l ⟨q.val % 704, by omega⟩) := by
  pointwise [target]

/-- The blocks written back tile the result array. -/
theorem tiles : (cfg0.win 2).Covers := by decide +kernel

/-- At a point that writes back, the output buffer holds what the scratch holds. -/
theorem copied (c : Dev nD) (t : Fin cfg0.N) (h : t.val % 8 = 7) :
    (outsAt0 m c t.val t.isLt).1 = (outsAt0 m c t.val t.isLt).2 := by
  rw [outsAt0_C m c t (by omega) (by omega) h]
  frame_out

/-- The scratch at the end of a run of eight points is the sum of their products. -/
theorem summed (c : Dev nD) (t : Fin cfg0.N) (h : t.val % 8 = 8 - 1) (j : S1024x1024.Idx) :
    (outsAt0 m c t.val t.isLt).2 j
    = 0 + ∑ s : Fin 8, k0_pay1 (F := Ideal) (iblk m c 0 ⟨8 * (t.val / 8) + s.val, Pipeline.run_point_lt_of_flush t h s⟩)
        (iblk m c 1 ⟨8 * (t.val / 8) + s.val, Pipeline.run_point_lt_of_flush t h s⟩) j := by
  refine Pipeline.eq_sum_fin_of_reset_step_apply_of_flush (fun n h => (outsAt0 m c n h).2) 8 (fun _ => 0)
    (fun p j => k0_pay1 (F := Ideal) (iblk m c 0 p) (iblk m c 1 p) j) (fun p hp i => ?_) (fun p hp i => ?_) t h j
  · show (outsAt0 m c p.val p.isLt).2 i = _
    rw [outsAt0_A m c p hp (by omega) (by omega)]
    frame_out
    exact first_eq _ _ i
  · show (outsAt0 m c p.val p.isLt).2 i = _
    by_cases hl : p.val % 8 = 7
    · rw [outsAt0_C m c p hp (by omega) hl]
      frame_out
      refine (later_eq _ _ _ i).trans (congrArg (· + _) ?_)
      exact congrFun (Memref.IsWhole.read_unread (m := scM0_0) _ _) i
    · rw [outsAt0_B m c p hp (by omega) hl]
      frame_out
      refine (later_eq _ _ _ i).trans (congrArg (· + _) ?_)
      exact congrFun (Memref.IsWhole.read_unread (m := scM0_0) _ _) i

/-- One element of what a run of points leaves is the target's element at the place it is stored to. -/
theorem point (c : Dev nD) (t : Fin cfg0.N) (h : t.val % 8 = 8 - 1) (y : S1024x1024.Idx) :
    (∑ s : Fin 8, k0_pay1 (F := Ideal) (iblk m c 0 ⟨8 * (t.val / 8) + s.val, Pipeline.run_point_lt_of_flush t h s⟩)
        (iblk m c 1 ⟨8 * (t.val / 8) + s.val, Pipeline.run_point_lt_of_flush t h s⟩) y)
    = target (m ((c : Thread nD τ).loc main_arg0)) (m ((c : Thread nD τ).loc main_arg1)) (((cfg0.win 2).blk t).view.emb y) := by
  have ht : t.val < 16 := lt_of_lt_of_eq t.isLt N_0
  have hy0 : (y 0).val < 1024 := (y 0).isLt
  have e : ((cfg0.win 2).blk t).view.emb y = (ix2 ⟨t.val / 8 * 1024 + (y 0).val, by omega⟩ (y 1) : S2048x1024.Idx) := by
    idx_bounds y
    blk_ext [places t]
  rw [e]
  refine Eq.trans (Finset.sum_congr rfl fun s _ => (congrArg _ (eq_ix2 y)).trans (part_at _ _ (y 0) (y 1)))
    (Eq.trans ?_ (target_at _ _ _ (y 1)).symm)
  refine Fin.sum_mul_add_congr fun s k hl => ?_
  have hs : s.val < 8 := s.isLt
  have hk : k.val < 704 := k.isLt
  blk_point [iblk, V, places t, places ⟨_, Pipeline.run_point_lt_of_flush t h s⟩]

/-- The result array after the run is the target. -/
theorem final (c : Dev nD) : (dats m 0 c).arrAt 2 (cfgs 0).N
    = target (m ((c : Thread nD τ).loc main_arg0)) (m ((c : Thread nD τ).loc main_arg1)) := by
  refine (dats m 0 c).arrAt_eq_of_covers 2 _ tiles fun t hf y => ?_
  have h : t.val % 8 = 7 := (flush0_2 t).mp hf
  blk_simp
  rw [after0_2, copied m c t h]
  exact (summed m c t h y).trans ((zero_add _).trans (point m c t h y))

end Cert.UpX

/-- The kernel and the reference end with equal results. -/
theorem Cert.UpX.algebraic : Cert.algebraic_Kernel4Ideal_Reference4Ideal := by
  pair_intro
  · run_from Cert.Kernel4Ideal.Gen.run_main m g
  · run_from Cert.Reference4Ideal.Value.run m' g'
    exact (Cert.UpX.final m _).symm

end
-- ==== Proof.UpW.lean ====
/-
  The gradient of the first feed-forward product with respect to its weight: each grid point multiplies the
  transposed `x` by one slab of `da`; the reference puts the slabs side by side, multiplies once and cuts the
  product. Both are the same sum over the 2048 rows.
-/
module

public import proofs.«01_k».proof.Defs
public import proofs.«01_k».proof.Proof.Gen.Kernel5Ideal.Value
public import proofs.«01_k».proof.Proof.Gen.Reference5Ideal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.UpW

open Cert.Kernel5Ideal Cert.Kernel5Ideal.Gen

variable (m : (ℓ : Loc nD τ sig) → Buf (Elt Ideal) ℓ)

/-- What the reference returns, as a function of `x` and `da`. -/
def target (x : FVec Ideal S2048x1024 .bf16) (da : FVec Ideal S8x2048x704 .bf16) : FVec Ideal S8x1024x704 .bf16 :=
  truncf .bf16 (transpose Cert.Reference5Ideal.S8x1024x704 [1, 0, 2] (shapeCast _ (transpose Cert.Reference5Ideal.S1024x5632 [1, 0]
    (Host.dotGeneral Cert.Reference5Ideal.dot_S2048x5632_S2048x1024_S5632x1024_0_0_1_1_n_n none
      (extf .f32 (shapeCast _ (transpose Cert.Reference5Ideal.S2048x8x704 [1, 0, 2] da Cert.Reference5Ideal.Gen.transposes_S8x2048x704_S2048x8x704_1_0_2)
        Cert.Reference5Ideal.Gen.shapeCasts_S2048x8x704_S2048x5632) Cert.Reference5Ideal.Gen.bitsLt_bf16_f32)
      (extf .f32 x Cert.Reference5Ideal.Gen.bitsLt_bf16_f32))
      Cert.Reference5Ideal.Gen.transposes_S5632x1024_S1024x5632_1_0) Cert.Reference5Ideal.Gen.shapeCasts_S1024x5632_S1024x8x704)
    Cert.Reference5Ideal.Gen.transposes_S1024x8x704_S8x1024x704_1_0_2) Cert.Reference5Ideal.Gen.bitsLt_bf16_f32

/-- Where each window's block lies at grid point `t`. -/
theorem places : ∀ t : Fin cfg0.N, win0_0.index t = ![0, 0] ∧ win0_1.index t = ![t.val, 0, 0]
    ∧ win0_2.index t = ![t.val, 0, 0] :=
  (by decide +kernel : ∀ t : Fin grid0.N, _)

/-- The stored block, read at an index. -/
theorem stored_at (x : FVec Ideal S2048x1024 .bf16) (w : FVec Ideal S1x2048x704 .bf16) (z : Fin 1) (r : Fin 1024) (l : Fin 704) :
    k0_pay1 (F := Ideal) x w (ix3 z r l) = ∑ k : Fin 2048, x (ix2 k r) * w (ix3 0 k l) := by
  pointwise [k0_pay1]

/-- The target, read at an index. -/
theorem target_at (x : FVec Ideal S2048x1024 .bf16) (da : FVec Ideal S8x2048x704 .bf16) (s : Fin 8) (r : Fin 1024) (l : Fin 704) :
    target x da (ix3 s r l) = ∑ k : Fin 2048, x (ix2 k r) * da (ix3 s k l) := by
  pointwise [target]
  exact Finset.sum_congr rfl fun k _ => mul_comm _ _

/-- One element of what a grid point stores is the target's element at the place it is stored to. -/
theorem point (c : Dev nD) (t : Fin cfg0.N) (y : S1x1024x704.Idx) :
    k0_pay1 (F := Ideal) (iblk m c 0 t) (iblk m c 1 t) y
    = target (m ((c : Thread nD τ).loc main_arg0)) (m ((c : Thread nD τ).loc main_arg1)) (((cfg0.win 2).blk t).view.emb y) := by
  have ht : t.val < 8 := lt_of_lt_of_eq t.isLt N_0
  have e : ((cfg0.win 2).blk t).view.emb y = (ix3 ⟨t.val, ht⟩ (y 1) (y 2) : S8x1024x704.Idx) := by
    idx_bounds y
    blk_ext [places t]
  rw [e]
  refine ((congrArg _ (eq_ix3 y)).trans (stored_at (iblk m c 0 t) (iblk m c 1 t) (y 0) (y 1) (y 2))).trans
    (Eq.trans (Finset.sum_congr rfl fun k _ => ?_) (target_at _ _ ⟨t.val, ht⟩ (y 1) (y 2)).symm)
  blk_point [iblk, V, places t]

/-- The blocks written back tile the result array. -/
theorem tiles : (cfg0.win 2).Covers := by decide +kernel

/-- What a grid point leaves in the result's staging buffer. -/
theorem left_at (c : Dev nD) (t : Fin cfg0.N) :
    (dats m 0 c).after 2 t = k0_pay1 (F := Ideal) (iblk m c 0 t) (iblk m c 1 t) := by
  rw [after0_2]; frame_out

/-- The result array after the run is the target. -/
theorem final (c : Dev nD) : (dats m 0 c).arrAt 2 (cfgs 0).N
    = target (m ((c : Thread nD τ).loc main_arg0)) (m ((c : Thread nD τ).loc main_arg1)) := by
  refine (dats m 0 c).arrAt_eq_of_covers 2 _ tiles fun t _ y => ?_
  blk_simp
  rw [left_at]
  exact point m c t y

end Cert.UpW

/-- The kernel and the reference end with equal results. -/
theorem Cert.UpW.algebraic : Cert.algebraic_Kernel5Ideal_Reference5Ideal := by
  pair_intro
  · run_from Cert.Kernel5Ideal.Gen.run_main m g
  · run_from Cert.Reference5Ideal.Value.run m' g'
    exact (Cert.UpW.final m _).symm

end
-- ==== Proof.QkvX.lean ====
/-
  The gradient of the dilated mixer's input product with respect to its left operand: each grid point multiplies a tile of rows of the
  cotangent by a tile of rows of the weight, and the reference multiplies the whole arrays. Both are the same sums.
-/
module

public import proofs.«01_k».proof.Defs
public import proofs.«01_k».proof.Proof.Gen.Kernel6Ideal.Value
public import proofs.«01_k».proof.Proof.Gen.Reference6Ideal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.QkvX

open Cert.Kernel6Ideal Cert.Kernel6Ideal.Gen

variable (m : (ℓ : Loc nD τ sig) → Buf (Elt Ideal) ℓ)

/-- What the reference returns, as a function of the operands. -/
def target (d : FVec Ideal S2048x2304 .bf16) (w : FVec Ideal S1024x2304 .bf16) : FVec Ideal S2048x1024 .f32 :=
  Host.dotGeneral Cert.Reference6Ideal.dot_S2048x2304_S1024x2304_S2048x1024_1_1_0_0_n_n none
    (extf .f32 d Cert.Reference6Ideal.Gen.bitsLt_bf16_f32) (extf .f32 w Cert.Reference6Ideal.Gen.bitsLt_bf16_f32)

/-- Where each window's block lies at grid point `t`. -/
theorem places : ∀ t : Fin cfg0.N, win0_0.index t = ![t.val, 0] ∧ win0_1.index t = ![0, 0]
    ∧ win0_2.index t = ![t.val, 0] :=
  (by decide +kernel : ∀ t : Fin grid0.N, _)

/-- The stored block, read at an index. -/
theorem stored_at (x : FVec Ideal S1024x2304 .bf16) (w : FVec Ideal S1024x2304 .bf16) (r : Fin 1024) (l : Fin 1024) :
    k0_pay1 (F := Ideal) x w (ix2 r l) = ∑ k : Fin 2304, x (ix2 r k) * w (ix2 l k) := by
  pointwise [k0_pay1]

/-- The target, read at an index. -/
theorem target_at (d : FVec Ideal S2048x2304 .bf16) (w : FVec Ideal S1024x2304 .bf16) (r : Fin 2048) (l : Fin 1024) :
    target d w (ix2 r l) = ∑ k : Fin 2304, d (ix2 r k) * w (ix2 l k) := by
  pointwise [target]

/-- One element of what a grid point stores is the target's element at the place it is stored to. -/
theorem point (c : Dev nD) (t : Fin cfg0.N) (y : S1024x1024.Idx) :
    k0_pay1 (F := Ideal) (iblk m c 0 t) (iblk m c 1 t) y
    = target (m ((c : Thread nD τ).loc main_arg0)) (m ((c : Thread nD τ).loc main_arg1)) (((cfg0.win 2).blk t).view.emb y) := by
  have ht : t.val < 2 := lt_of_lt_of_eq t.isLt N_0
  have hy0 := (y 0).isLt
  have hy1 := (y 1).isLt
  change (y 0).val < 1024 at hy0
  change (y 1).val < 1024 at hy1
  have e : ((cfg0.win 2).blk t).view.emb y = (ix2 ⟨t.val * 1024 + (y 0).val, by omega⟩ (y 1) : S2048x1024.Idx) := by
    idx_bounds y
    blk_ext [places t]
  rw [e]
  refine ((congrArg _ (eq_ix2 y)).trans (stored_at (iblk m c 0 t) (iblk m c 1 t) (y 0) (y 1))).trans
    (Eq.trans (Finset.sum_congr rfl fun k _ => ?_) (target_at _ _ ⟨t.val * 1024 + (y 0).val, by omega⟩ (y 1)).symm)
  blk_point [iblk, V, places t]

/-- The blocks written back tile the result array. -/
theorem tiles : (cfg0.win 2).Covers := by decide +kernel

/-- What a grid point leaves in the result's staging buffer. -/
theorem left_at (c : Dev nD) (t : Fin cfg0.N) :
    (dats m 0 c).after 2 t = k0_pay1 (F := Ideal) (iblk m c 0 t) (iblk m c 1 t) := by
  rw [after0_2]; frame_out

/-- The result array after the run is the target. -/
theorem final (c : Dev nD) : (dats m 0 c).arrAt 2 (cfgs 0).N
    = target (m ((c : Thread nD τ).loc main_arg0)) (m ((c : Thread nD τ).loc main_arg1)) := by
  refine (dats m 0 c).arrAt_eq_of_covers 2 _ tiles fun t _ y => ?_
  blk_simp
  rw [left_at]
  exact point m c t y

end Cert.QkvX

/-- The kernel and the reference end with equal results. -/
theorem Cert.QkvX.algebraic : Cert.algebraic_Kernel6Ideal_Reference6Ideal := by
  pair_intro
  · run_from Cert.Kernel6Ideal.Gen.run_main m g
  · run_from Cert.Reference6Ideal.Value.run m' g'
    exact (Cert.QkvX.final m _).symm

end
-- ==== Proof.QkvW.lean ====
/-
  The gradient of the dilated mixer's input product with respect to its weight: each grid point multiplies a tile of transposed columns of the
  operand by a tile of columns of the cotangent, and the reference multiplies the whole arrays. Both are the same sums.
-/
module

public import proofs.«01_k».proof.Defs
public import proofs.«01_k».proof.Proof.Gen.Kernel7Ideal.Value
public import proofs.«01_k».proof.Proof.Gen.Reference7Ideal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.QkvW

open Cert.Kernel7Ideal Cert.Kernel7Ideal.Gen

variable (m : (ℓ : Loc nD τ sig) → Buf (Elt Ideal) ℓ)

/-- What the reference returns, as a function of the operands. -/
def target (x : FVec Ideal S2048x1024 .bf16) (d : FVec Ideal S2048x2304 .bf16) : FVec Ideal S1024x2304 .bf16 :=
  truncf .bf16 (transpose Cert.Reference7Ideal.S1024x2304 [1, 0]
    (Host.dotGeneral Cert.Reference7Ideal.dot_S2048x2304_S2048x1024_S2304x1024_0_0_1_1_n_n none (extf .f32 d Cert.Reference7Ideal.Gen.bitsLt_bf16_f32)
      (extf .f32 x Cert.Reference7Ideal.Gen.bitsLt_bf16_f32)) Cert.Reference7Ideal.Gen.transposes_S2304x1024_S1024x2304_1_0) Cert.Reference7Ideal.Gen.bitsLt_bf16_f32

/-- Where each window's block lies at grid point `t`. -/
theorem places : ∀ t : Fin cfg0.N, win0_0.index t = ![0, t.val % 2] ∧ win0_1.index t = ![0, t.val / 2]
    ∧ win0_2.index t = ![t.val % 2, t.val / 2] :=
  (by decide +kernel : ∀ t : Fin grid0.N, _)

/-- The stored block, read at an index. -/
theorem stored_at (x : FVec Ideal S2048x512 .bf16) (w : FVec Ideal S2048x768 .bf16) (r : Fin 512) (l : Fin 768) :
    k0_pay1 (F := Ideal) x w (ix2 r l) = ∑ k : Fin 2048, x (ix2 k r) * w (ix2 k l) := by
  pointwise [k0_pay1]

/-- The target, read at an index. -/
theorem target_at (x : FVec Ideal S2048x1024 .bf16) (d : FVec Ideal S2048x2304 .bf16) (r : Fin 1024) (l : Fin 2304) :
    target x d (ix2 r l) = ∑ k : Fin 2048, x (ix2 k r) * d (ix2 k l) := by
  pointwise [target]
  exact Finset.sum_congr rfl fun k _ => mul_comm _ _

/-- One element of what a grid point stores is the target's element at the place it is stored to. -/
theorem point (c : Dev nD) (t : Fin cfg0.N) (y : S512x768.Idx) :
    k0_pay1 (F := Ideal) (iblk m c 0 t) (iblk m c 1 t) y
    = target (m ((c : Thread nD τ).loc main_arg0)) (m ((c : Thread nD τ).loc main_arg1)) (((cfg0.win 2).blk t).view.emb y) := by
  have ht : t.val < 6 := lt_of_lt_of_eq t.isLt N_0
  have hy0 := (y 0).isLt
  have hy1 := (y 1).isLt
  change (y 0).val < 512 at hy0
  change (y 1).val < 768 at hy1
  have e : ((cfg0.win 2).blk t).view.emb y = (ix2 ⟨t.val % 2 * 512 + (y 0).val, by omega⟩ ⟨t.val / 2 * 768 + (y 1).val, by omega⟩ : S1024x2304.Idx) := by
    idx_bounds y
    blk_ext [places t]
  rw [e]
  refine ((congrArg _ (eq_ix2 y)).trans (stored_at (iblk m c 0 t) (iblk m c 1 t) (y 0) (y 1))).trans
    (Eq.trans (Finset.sum_congr rfl fun k _ => ?_) (target_at _ _ ⟨t.val % 2 * 512 + (y 0).val, by omega⟩ ⟨t.val / 2 * 768 + (y 1).val, by omega⟩).symm)
  blk_point [iblk, V, places t]

/-- The blocks written back tile the result array. -/
theorem tiles : (cfg0.win 2).Covers := by decide +kernel

/-- What a grid point leaves in the result's staging buffer. -/
theorem left_at (c : Dev nD) (t : Fin cfg0.N) :
    (dats m 0 c).after 2 t = k0_pay1 (F := Ideal) (iblk m c 0 t) (iblk m c 1 t) := by
  rw [after0_2]; frame_out

/-- The result array after the run is the target. -/
theorem final (c : Dev nD) : (dats m 0 c).arrAt 2 (cfgs 0).N
    = target (m ((c : Thread nD τ).loc main_arg0)) (m ((c : Thread nD τ).loc main_arg1)) := by
  refine (dats m 0 c).arrAt_eq_of_covers 2 _ tiles fun t _ y => ?_
  blk_simp
  rw [left_at]
  exact point m c t y

end Cert.QkvW

/-- The kernel and the reference end with equal results. -/
theorem Cert.QkvW.algebraic : Cert.algebraic_Kernel7Ideal_Reference7Ideal := by
  pair_intro
  · run_from Cert.Kernel7Ideal.Gen.run_main m g
  · run_from Cert.Reference7Ideal.Value.run m' g'
    exact (Cert.QkvW.final m _).symm

end
-- ==== Proof.WoAX.lean ====
/-
  The gradient of the dilated mixer's output product with respect to its left operand: each grid point multiplies a tile of rows of the
  cotangent by a tile of rows of the weight, and the reference multiplies the whole arrays. Both are the same sums.
-/
module

public import proofs.«01_k».proof.Defs
public import proofs.«01_k».proof.Proof.Gen.Kernel8Ideal.Value
public import proofs.«01_k».proof.Proof.Gen.Reference8Ideal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.WoAX

open Cert.Kernel8Ideal Cert.Kernel8Ideal.Gen

variable (m : (ℓ : Loc nD τ sig) → Buf (Elt Ideal) ℓ)

/-- What the reference returns, as a function of the operands. -/
def target (d : FVec Ideal S2048x1024 .bf16) (w : FVec Ideal S768x1024 .bf16) : FVec Ideal S2048x768 .f32 :=
  Host.dotGeneral Cert.Reference8Ideal.dot_S2048x1024_S768x1024_S2048x768_1_1_0_0_n_n none
    (extf .f32 d Cert.Reference8Ideal.Gen.bitsLt_bf16_f32) (extf .f32 w Cert.Reference8Ideal.Gen.bitsLt_bf16_f32)

/-- Where each window's block lies at grid point `t`. -/
theorem places : ∀ t : Fin cfg0.N, win0_0.index t = ![t.val, 0] ∧ win0_1.index t = ![0, 0]
    ∧ win0_2.index t = ![t.val, 0] :=
  (by decide +kernel : ∀ t : Fin grid0.N, _)

/-- The stored block, read at an index. -/
theorem stored_at (x : FVec Ideal S1024x1024 .bf16) (w : FVec Ideal S768x1024 .bf16) (r : Fin 1024) (l : Fin 768) :
    k0_pay1 (F := Ideal) x w (ix2 r l) = ∑ k : Fin 1024, x (ix2 r k) * w (ix2 l k) := by
  pointwise [k0_pay1]

/-- The target, read at an index. -/
theorem target_at (d : FVec Ideal S2048x1024 .bf16) (w : FVec Ideal S768x1024 .bf16) (r : Fin 2048) (l : Fin 768) :
    target d w (ix2 r l) = ∑ k : Fin 1024, d (ix2 r k) * w (ix2 l k) := by
  pointwise [target]

/-- One element of what a grid point stores is the target's element at the place it is stored to. -/
theorem point (c : Dev nD) (t : Fin cfg0.N) (y : S1024x768.Idx) :
    k0_pay1 (F := Ideal) (iblk m c 0 t) (iblk m c 1 t) y
    = target (m ((c : Thread nD τ).loc main_arg0)) (m ((c : Thread nD τ).loc main_arg1)) (((cfg0.win 2).blk t).view.emb y) := by
  have ht : t.val < 2 := lt_of_lt_of_eq t.isLt N_0
  have hy0 := (y 0).isLt
  have hy1 := (y 1).isLt
  change (y 0).val < 1024 at hy0
  change (y 1).val < 768 at hy1
  have e : ((cfg0.win 2).blk t).view.emb y = (ix2 ⟨t.val * 1024 + (y 0).val, by omega⟩ (y 1) : S2048x768.Idx) := by
    idx_bounds y
    blk_ext [places t]
  rw [e]
  refine ((congrArg _ (eq_ix2 y)).trans (stored_at (iblk m c 0 t) (iblk m c 1 t) (y 0) (y 1))).trans
    (Eq.trans (Finset.sum_congr rfl fun k _ => ?_) (target_at _ _ ⟨t.val * 1024 + (y 0).val, by omega⟩ (y 1)).symm)
  blk_point [iblk, V, places t]

/-- The blocks written back tile the result array. -/
theorem tiles : (cfg0.win 2).Covers := by decide +kernel

/-- What a grid point leaves in the result's staging buffer. -/
theorem left_at (c : Dev nD) (t : Fin cfg0.N) :
    (dats m 0 c).after 2 t = k0_pay1 (F := Ideal) (iblk m c 0 t) (iblk m c 1 t) := by
  rw [after0_2]; frame_out

/-- The result array after the run is the target. -/
theorem final (c : Dev nD) : (dats m 0 c).arrAt 2 (cfgs 0).N
    = target (m ((c : Thread nD τ).loc main_arg0)) (m ((c : Thread nD τ).loc main_arg1)) := by
  refine (dats m 0 c).arrAt_eq_of_covers 2 _ tiles fun t _ y => ?_
  blk_simp
  rw [left_at]
  exact point m c t y

end Cert.WoAX

/-- The kernel and the reference end with equal results. -/
theorem Cert.WoAX.algebraic : Cert.algebraic_Kernel8Ideal_Reference8Ideal := by
  pair_intro
  · run_from Cert.Kernel8Ideal.Gen.run_main m g
  · run_from Cert.Reference8Ideal.Value.run m' g'
    exact (Cert.WoAX.final m _).symm

end
-- ==== Proof.WoAW.lean ====
/-
  The gradient of the dilated mixer's output product with respect to its weight: each grid point multiplies a tile of transposed columns of the
  operand by a tile of columns of the cotangent, and the reference multiplies the whole arrays. Both are the same sums.
-/
module

public import proofs.«01_k».proof.Defs
public import proofs.«01_k».proof.Proof.Gen.Kernel9Ideal.Value
public import proofs.«01_k».proof.Proof.Gen.Reference9Ideal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.WoAW

open Cert.Kernel9Ideal Cert.Kernel9Ideal.Gen

variable (m : (ℓ : Loc nD τ sig) → Buf (Elt Ideal) ℓ)

/-- What the reference returns, as a function of the operands. -/
def target (x : FVec Ideal S2048x768 .bf16) (d : FVec Ideal S2048x1024 .bf16) : FVec Ideal S768x1024 .bf16 :=
  truncf .bf16 (transpose Cert.Reference9Ideal.S768x1024 [1, 0]
    (Host.dotGeneral Cert.Reference9Ideal.dot_S2048x1024_S2048x768_S1024x768_0_0_1_1_n_n none (extf .f32 d Cert.Reference9Ideal.Gen.bitsLt_bf16_f32)
      (extf .f32 x Cert.Reference9Ideal.Gen.bitsLt_bf16_f32)) Cert.Reference9Ideal.Gen.transposes_S1024x768_S768x1024_1_0) Cert.Reference9Ideal.Gen.bitsLt_bf16_f32

/-- Where each window's block lies at grid point `t`. -/
theorem places : ∀ t : Fin cfg0.N, win0_0.index t = ![0, 0] ∧ win0_1.index t = ![0, t.val]
    ∧ win0_2.index t = ![0, t.val] :=
  (by decide +kernel : ∀ t : Fin grid0.N, _)

/-- The stored block, read at an index. -/
theorem stored_at (x : FVec Ideal S2048x768 .bf16) (w : FVec Ideal S2048x512 .bf16) (r : Fin 768) (l : Fin 512) :
    k0_pay1 (F := Ideal) x w (ix2 r l) = ∑ k : Fin 2048, x (ix2 k r) * w (ix2 k l) := by
  pointwise [k0_pay1]

/-- The target, read at an index. -/
theorem target_at (x : FVec Ideal S2048x768 .bf16) (d : FVec Ideal S2048x1024 .bf16) (r : Fin 768) (l : Fin 1024) :
    target x d (ix2 r l) = ∑ k : Fin 2048, x (ix2 k r) * d (ix2 k l) := by
  pointwise [target]
  exact Finset.sum_congr rfl fun k _ => mul_comm _ _

/-- One element of what a grid point stores is the target's element at the place it is stored to. -/
theorem point (c : Dev nD) (t : Fin cfg0.N) (y : S768x512.Idx) :
    k0_pay1 (F := Ideal) (iblk m c 0 t) (iblk m c 1 t) y
    = target (m ((c : Thread nD τ).loc main_arg0)) (m ((c : Thread nD τ).loc main_arg1)) (((cfg0.win 2).blk t).view.emb y) := by
  have ht : t.val < 2 := lt_of_lt_of_eq t.isLt N_0
  have hy0 := (y 0).isLt
  have hy1 := (y 1).isLt
  change (y 0).val < 768 at hy0
  change (y 1).val < 512 at hy1
  have e : ((cfg0.win 2).blk t).view.emb y = (ix2 (y 0) ⟨t.val * 512 + (y 1).val, by omega⟩ : S768x1024.Idx) := by
    idx_bounds y
    blk_ext [places t]
  rw [e]
  refine ((congrArg _ (eq_ix2 y)).trans (stored_at (iblk m c 0 t) (iblk m c 1 t) (y 0) (y 1))).trans
    (Eq.trans (Finset.sum_congr rfl fun k _ => ?_) (target_at _ _ (y 0) ⟨t.val * 512 + (y 1).val, by omega⟩).symm)
  blk_point [iblk, V, places t]

/-- The blocks written back tile the result array. -/
theorem tiles : (cfg0.win 2).Covers := by decide +kernel

/-- What a grid point leaves in the result's staging buffer. -/
theorem left_at (c : Dev nD) (t : Fin cfg0.N) :
    (dats m 0 c).after 2 t = k0_pay1 (F := Ideal) (iblk m c 0 t) (iblk m c 1 t) := by
  rw [after0_2]; frame_out

/-- The result array after the run is the target. -/
theorem final (c : Dev nD) : (dats m 0 c).arrAt 2 (cfgs 0).N
    = target (m ((c : Thread nD τ).loc main_arg0)) (m ((c : Thread nD τ).loc main_arg1)) := by
  refine (dats m 0 c).arrAt_eq_of_covers 2 _ tiles fun t _ y => ?_
  blk_simp
  rw [left_at]
  exact point m c t y

end Cert.WoAW

/-- The kernel and the reference end with equal results. -/
theorem Cert.WoAW.algebraic : Cert.algebraic_Kernel9Ideal_Reference9Ideal := by
  pair_intro
  · run_from Cert.Kernel9Ideal.Gen.run_main m g
  · run_from Cert.Reference9Ideal.Value.run m' g'
    exact (Cert.WoAW.final m _).symm

end
-- ==== Proof.WoBX.lean ====
/-
  The gradient of the forgetting mixer's output product with respect to its left operand: each grid point multiplies a tile of rows of the
  cotangent by a tile of rows of the weight, and the reference multiplies the whole arrays. Both are the same sums.
-/
module

public import proofs.«01_k».proof.Defs
public import proofs.«01_k».proof.Proof.Gen.Kernel10Ideal.Value
public import proofs.«01_k».proof.Proof.Gen.Reference10Ideal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.WoBX

open Cert.Kernel10Ideal Cert.Kernel10Ideal.Gen

variable (m : (ℓ : Loc nD τ sig) → Buf (Elt Ideal) ℓ)

/-- What the reference returns, as a function of the operands. -/
def target (d : FVec Ideal S2048x1024 .bf16) (w : FVec Ideal S1024x1024 .bf16) : FVec Ideal S2048x1024 .bf16 :=
  truncf .bf16 (Host.dotGeneral Cert.Reference10Ideal.dot_S2048x1024_S1024x1024_S2048x1024_1_1_0_0_n_n none
    (extf .f32 d Cert.Reference10Ideal.Gen.bitsLt_bf16_f32) (extf .f32 w Cert.Reference10Ideal.Gen.bitsLt_bf16_f32)) Cert.Reference10Ideal.Gen.bitsLt_bf16_f32

/-- Where each window's block lies at grid point `t`. -/
theorem places : ∀ t : Fin cfg0.N, win0_0.index t = ![t.val % 2, 0] ∧ win0_1.index t = ![t.val / 2, 0]
    ∧ win0_2.index t = ![t.val % 2, t.val / 2] :=
  (by decide +kernel : ∀ t : Fin grid0.N, _)

/-- The stored block, read at an index. -/
theorem stored_at (x : FVec Ideal S1024x1024 .bf16) (w : FVec Ideal S512x1024 .bf16) (r : Fin 1024) (l : Fin 512) :
    k0_pay1 (F := Ideal) x w (ix2 r l) = ∑ k : Fin 1024, x (ix2 r k) * w (ix2 l k) := by
  pointwise [k0_pay1]

/-- The target, read at an index. -/
theorem target_at (d : FVec Ideal S2048x1024 .bf16) (w : FVec Ideal S1024x1024 .bf16) (r : Fin 2048) (l : Fin 1024) :
    target d w (ix2 r l) = ∑ k : Fin 1024, d (ix2 r k) * w (ix2 l k) := by
  pointwise [target]

/-- One element of what a grid point stores is the target's element at the place it is stored to. -/
theorem point (c : Dev nD) (t : Fin cfg0.N) (y : S1024x512.Idx) :
    k0_pay1 (F := Ideal) (iblk m c 0 t) (iblk m c 1 t) y
    = target (m ((c : Thread nD τ).loc main_arg0)) (m ((c : Thread nD τ).loc main_arg1)) (((cfg0.win 2).blk t).view.emb y) := by
  have ht : t.val < 4 := lt_of_lt_of_eq t.isLt N_0
  have hy0 := (y 0).isLt
  have hy1 := (y 1).isLt
  change (y 0).val < 1024 at hy0
  change (y 1).val < 512 at hy1
  have e : ((cfg0.win 2).blk t).view.emb y = (ix2 ⟨t.val % 2 * 1024 + (y 0).val, by omega⟩ ⟨t.val / 2 * 512 + (y 1).val, by omega⟩ : S2048x1024.Idx) := by
    idx_bounds y
    blk_ext [places t]
  rw [e]
  refine ((congrArg _ (eq_ix2 y)).trans (stored_at (iblk m c 0 t) (iblk m c 1 t) (y 0) (y 1))).trans
    (Eq.trans (Finset.sum_congr rfl fun k _ => ?_) (target_at _ _ ⟨t.val % 2 * 1024 + (y 0).val, by omega⟩ ⟨t.val / 2 * 512 + (y 1).val, by omega⟩).symm)
  blk_point [iblk, V, places t]

/-- The blocks written back tile the result array. -/
theorem tiles : (cfg0.win 2).Covers := by decide +kernel

/-- What a grid point leaves in the result's staging buffer. -/
theorem left_at (c : Dev nD) (t : Fin cfg0.N) :
    (dats m 0 c).after 2 t = k0_pay1 (F := Ideal) (iblk m c 0 t) (iblk m c 1 t) := by
  rw [after0_2]; frame_out

/-- The result array after the run is the target. -/
theorem final (c : Dev nD) : (dats m 0 c).arrAt 2 (cfgs 0).N
    = target (m ((c : Thread nD τ).loc main_arg0)) (m ((c : Thread nD τ).loc main_arg1)) := by
  refine (dats m 0 c).arrAt_eq_of_covers 2 _ tiles fun t _ y => ?_
  blk_simp
  rw [left_at]
  exact point m c t y

end Cert.WoBX

/-- The kernel and the reference end with equal results. -/
theorem Cert.WoBX.algebraic : Cert.algebraic_Kernel10Ideal_Reference10Ideal := by
  pair_intro
  · run_from Cert.Kernel10Ideal.Gen.run_main m g
  · run_from Cert.Reference10Ideal.Value.run m' g'
    exact (Cert.WoBX.final m _).symm

end
-- ==== Proof.WqBX.lean ====
/-
  The gradient of the forgetting mixer's query product with respect to its left operand: each grid point multiplies a tile of rows of the
  cotangent by a tile of rows of the weight, and the reference multiplies the whole arrays. Both are the same sums.
-/
module

public import proofs.«01_k».proof.Defs
public import proofs.«01_k».proof.Proof.Gen.Kernel11Ideal.Value
public import proofs.«01_k».proof.Proof.Gen.Reference11Ideal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.WqBX

open Cert.Kernel11Ideal Cert.Kernel11Ideal.Gen

variable (m : (ℓ : Loc nD τ sig) → Buf (Elt Ideal) ℓ)

/-- What the reference returns, as a function of the operands. -/
def target (d : FVec Ideal S2048x1024 .bf16) (w : FVec Ideal S1024x1024 .bf16) : FVec Ideal S2048x1024 .f32 :=
  Host.dotGeneral Cert.Reference11Ideal.dot_S2048x1024_S1024x1024_S2048x1024_1_1_0_0_n_n none
    (extf .f32 d Cert.Reference11Ideal.Gen.bitsLt_bf16_f32) (extf .f32 w Cert.Reference11Ideal.Gen.bitsLt_bf16_f32)

/-- Where each window's block lies at grid point `t`. -/
theorem places : ∀ t : Fin cfg0.N, win0_0.index t = ![t.val % 2, 0] ∧ win0_1.index t = ![t.val / 2, 0]
    ∧ win0_2.index t = ![t.val % 2, t.val / 2] :=
  (by decide +kernel : ∀ t : Fin grid0.N, _)

/-- The stored block, read at an index. -/
theorem stored_at (x : FVec Ideal S1024x1024 .bf16) (w : FVec Ideal S512x1024 .bf16) (r : Fin 1024) (l : Fin 512) :
    k0_pay1 (F := Ideal) x w (ix2 r l) = ∑ k : Fin 1024, x (ix2 r k) * w (ix2 l k) := by
  pointwise [k0_pay1]

/-- The target, read at an index. -/
theorem target_at (d : FVec Ideal S2048x1024 .bf16) (w : FVec Ideal S1024x1024 .bf16) (r : Fin 2048) (l : Fin 1024) :
    target d w (ix2 r l) = ∑ k : Fin 1024, d (ix2 r k) * w (ix2 l k) := by
  pointwise [target]

/-- One element of what a grid point stores is the target's element at the place it is stored to. -/
theorem point (c : Dev nD) (t : Fin cfg0.N) (y : S1024x512.Idx) :
    k0_pay1 (F := Ideal) (iblk m c 0 t) (iblk m c 1 t) y
    = target (m ((c : Thread nD τ).loc main_arg0)) (m ((c : Thread nD τ).loc main_arg1)) (((cfg0.win 2).blk t).view.emb y) := by
  have ht : t.val < 4 := lt_of_lt_of_eq t.isLt N_0
  have hy0 := (y 0).isLt
  have hy1 := (y 1).isLt
  change (y 0).val < 1024 at hy0
  change (y 1).val < 512 at hy1
  have e : ((cfg0.win 2).blk t).view.emb y = (ix2 ⟨t.val % 2 * 1024 + (y 0).val, by omega⟩ ⟨t.val / 2 * 512 + (y 1).val, by omega⟩ : S2048x1024.Idx) := by
    idx_bounds y
    blk_ext [places t]
  rw [e]
  refine ((congrArg _ (eq_ix2 y)).trans (stored_at (iblk m c 0 t) (iblk m c 1 t) (y 0) (y 1))).trans
    (Eq.trans (Finset.sum_congr rfl fun k _ => ?_) (target_at _ _ ⟨t.val % 2 * 1024 + (y 0).val, by omega⟩ ⟨t.val / 2 * 512 + (y 1).val, by omega⟩).symm)
  blk_point [iblk, V, places t]

/-- The blocks written back tile the result array. -/
theorem tiles : (cfg0.win 2).Covers := by decide +kernel

/-- What a grid point leaves in the result's staging buffer. -/
theorem left_at (c : Dev nD) (t : Fin cfg0.N) :
    (dats m 0 c).after 2 t = k0_pay1 (F := Ideal) (iblk m c 0 t) (iblk m c 1 t) := by
  rw [after0_2]; frame_out

/-- The result array after the run is the target. -/
theorem final (c : Dev nD) : (dats m 0 c).arrAt 2 (cfgs 0).N
    = target (m ((c : Thread nD τ).loc main_arg0)) (m ((c : Thread nD τ).loc main_arg1)) := by
  refine (dats m 0 c).arrAt_eq_of_covers 2 _ tiles fun t _ y => ?_
  blk_simp
  rw [left_at]
  exact point m c t y

end Cert.WqBX

/-- The kernel and the reference end with equal results. -/
theorem Cert.WqBX.algebraic : Cert.algebraic_Kernel11Ideal_Reference11Ideal := by
  pair_intro
  · run_from Cert.Kernel11Ideal.Gen.run_main m g
  · run_from Cert.Reference11Ideal.Value.run m' g'
    exact (Cert.WqBX.final m _).symm

end
-- ==== Proof.WqBW.lean ====
/-
  The gradient of the forgetting mixer's query product with respect to its weight: each grid point multiplies a tile of transposed columns of the
  operand by a tile of columns of the cotangent, and the reference multiplies the whole arrays. Both are the same sums.
-/
module

public import proofs.«01_k».proof.Defs
public import proofs.«01_k».proof.Proof.Gen.Kernel12Ideal.Value
public import proofs.«01_k».proof.Proof.Gen.Reference12Ideal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.WqBW

open Cert.Kernel12Ideal Cert.Kernel12Ideal.Gen

variable (m : (ℓ : Loc nD τ sig) → Buf (Elt Ideal) ℓ)

/-- What the reference returns, as a function of the operands. -/
def target (x : FVec Ideal S2048x1024 .bf16) (d : FVec Ideal S2048x1024 .bf16) : FVec Ideal S1024x1024 .bf16 :=
  truncf .bf16 (transpose Cert.Reference12Ideal.S1024x1024 [1, 0]
    (Host.dotGeneral Cert.Reference12Ideal.dot_S2048x1024_S2048x1024_S1024x1024_0_0_1_1_n_n none (extf .f32 d Cert.Reference12Ideal.Gen.bitsLt_bf16_f32)
      (extf .f32 x Cert.Reference12Ideal.Gen.bitsLt_bf16_f32)) Cert.Reference12Ideal.Gen.transposes_S1024x1024_S1024x1024_1_0) Cert.Reference12Ideal.Gen.bitsLt_bf16_f32

/-- Where each window's block lies at grid point `t`. -/
theorem places : ∀ t : Fin cfg0.N, win0_0.index t = ![0, t.val % 2] ∧ win0_1.index t = ![0, t.val / 2]
    ∧ win0_2.index t = ![t.val % 2, t.val / 2] :=
  (by decide +kernel : ∀ t : Fin grid0.N, _)

/-- The stored block, read at an index. -/
theorem stored_at (x : FVec Ideal S2048x512 .bf16) (w : FVec Ideal S2048x512 .bf16) (r : Fin 512) (l : Fin 512) :
    k0_pay1 (F := Ideal) x w (ix2 r l) = ∑ k : Fin 2048, x (ix2 k r) * w (ix2 k l) := by
  pointwise [k0_pay1]

/-- The target, read at an index. -/
theorem target_at (x : FVec Ideal S2048x1024 .bf16) (d : FVec Ideal S2048x1024 .bf16) (r : Fin 1024) (l : Fin 1024) :
    target x d (ix2 r l) = ∑ k : Fin 2048, x (ix2 k r) * d (ix2 k l) := by
  pointwise [target]
  exact Finset.sum_congr rfl fun k _ => mul_comm _ _

/-- One element of what a grid point stores is the target's element at the place it is stored to. -/
theorem point (c : Dev nD) (t : Fin cfg0.N) (y : S512x512.Idx) :
    k0_pay1 (F := Ideal) (iblk m c 0 t) (iblk m c 1 t) y
    = target (m ((c : Thread nD τ).loc main_arg0)) (m ((c : Thread nD τ).loc main_arg1)) (((cfg0.win 2).blk t).view.emb y) := by
  have ht : t.val < 4 := lt_of_lt_of_eq t.isLt N_0
  have hy0 := (y 0).isLt
  have hy1 := (y 1).isLt
  change (y 0).val < 512 at hy0
  change (y 1).val < 512 at hy1
  have e : ((cfg0.win 2).blk t).view.emb y = (ix2 ⟨t.val % 2 * 512 + (y 0).val, by omega⟩ ⟨t.val / 2 * 512 + (y 1).val, by omega⟩ : S1024x1024.Idx) := by
    idx_bounds y
    blk_ext [places t]
  rw [e]
  refine ((congrArg _ (eq_ix2 y)).trans (stored_at (iblk m c 0 t) (iblk m c 1 t) (y 0) (y 1))).trans
    (Eq.trans (Finset.sum_congr rfl fun k _ => ?_) (target_at _ _ ⟨t.val % 2 * 512 + (y 0).val, by omega⟩ ⟨t.val / 2 * 512 + (y 1).val, by omega⟩).symm)
  blk_point [iblk, V, places t]

/-- The blocks written back tile the result array. -/
theorem tiles : (cfg0.win 2).Covers := by decide +kernel

/-- What a grid point leaves in the result's staging buffer. -/
theorem left_at (c : Dev nD) (t : Fin cfg0.N) :
    (dats m 0 c).after 2 t = k0_pay1 (F := Ideal) (iblk m c 0 t) (iblk m c 1 t) := by
  rw [after0_2]; frame_out

/-- The result array after the run is the target. -/
theorem final (c : Dev nD) : (dats m 0 c).arrAt 2 (cfgs 0).N
    = target (m ((c : Thread nD τ).loc main_arg0)) (m ((c : Thread nD τ).loc main_arg1)) := by
  refine (dats m 0 c).arrAt_eq_of_covers 2 _ tiles fun t _ y => ?_
  blk_simp
  rw [left_at]
  exact point m c t y

end Cert.WqBW

/-- The kernel and the reference end with equal results. -/
theorem Cert.WqBW.algebraic : Cert.algebraic_Kernel12Ideal_Reference12Ideal := by
  pair_intro
  · run_from Cert.Kernel12Ideal.Gen.run_main m g
  · run_from Cert.Reference12Ideal.Value.run m' g'
    exact (Cert.WqBW.final m _).symm

end
-- ==== Proof.KvfX.lean ====
/-
  The gradient of the shared key, value and gate product with respect to its left operand: each grid point multiplies a tile of rows of the
  cotangent by a tile of rows of the weight, and the reference multiplies the whole arrays. Both are the same sums.
-/
module

public import proofs.«01_k».proof.Defs
public import proofs.«01_k».proof.Proof.Gen.Kernel13Ideal.Value
public import proofs.«01_k».proof.Proof.Gen.Reference13Ideal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KvfX

open Cert.Kernel13Ideal Cert.Kernel13Ideal.Gen

variable (m : (ℓ : Loc nD τ sig) → Buf (Elt Ideal) ℓ)

/-- What the reference returns, as a function of the operands. -/
def target (d : FVec Ideal S2048x2304 .bf16) (w : FVec Ideal S1024x2304 .bf16) : FVec Ideal S2048x1024 .f32 :=
  Host.dotGeneral Cert.Reference13Ideal.dot_S2048x2304_S1024x2304_S2048x1024_1_1_0_0_n_n none
    (extf .f32 d Cert.Reference13Ideal.Gen.bitsLt_bf16_f32) (extf .f32 w Cert.Reference13Ideal.Gen.bitsLt_bf16_f32)

/-- Where each window's block lies at grid point `t`. -/
theorem places : ∀ t : Fin cfg0.N, win0_0.index t = ![t.val % 2, 0] ∧ win0_1.index t = ![t.val / 2, 0]
    ∧ win0_2.index t = ![t.val % 2, t.val / 2] :=
  (by decide +kernel : ∀ t : Fin grid0.N, _)

/-- The stored block, read at an index. -/
theorem stored_at (x : FVec Ideal S1024x2304 .bf16) (w : FVec Ideal S512x2304 .bf16) (r : Fin 1024) (l : Fin 512) :
    k0_pay1 (F := Ideal) x w (ix2 r l) = ∑ k : Fin 2304, x (ix2 r k) * w (ix2 l k) := by
  pointwise [k0_pay1]

/-- The target, read at an index. -/
theorem target_at (d : FVec Ideal S2048x2304 .bf16) (w : FVec Ideal S1024x2304 .bf16) (r : Fin 2048) (l : Fin 1024) :
    target d w (ix2 r l) = ∑ k : Fin 2304, d (ix2 r k) * w (ix2 l k) := by
  pointwise [target]

/-- One element of what a grid point stores is the target's element at the place it is stored to. -/
theorem point (c : Dev nD) (t : Fin cfg0.N) (y : S1024x512.Idx) :
    k0_pay1 (F := Ideal) (iblk m c 0 t) (iblk m c 1 t) y
    = target (m ((c : Thread nD τ).loc main_arg0)) (m ((c : Thread nD τ).loc main_arg1)) (((cfg0.win 2).blk t).view.emb y) := by
  have ht : t.val < 4 := lt_of_lt_of_eq t.isLt N_0
  have hy0 := (y 0).isLt
  have hy1 := (y 1).isLt
  change (y 0).val < 1024 at hy0
  change (y 1).val < 512 at hy1
  have e : ((cfg0.win 2).blk t).view.emb y = (ix2 ⟨t.val % 2 * 1024 + (y 0).val, by omega⟩ ⟨t.val / 2 * 512 + (y 1).val, by omega⟩ : S2048x1024.Idx) := by
    idx_bounds y
    blk_ext [places t]
  rw [e]
  refine ((congrArg _ (eq_ix2 y)).trans (stored_at (iblk m c 0 t) (iblk m c 1 t) (y 0) (y 1))).trans
    (Eq.trans (Finset.sum_congr rfl fun k _ => ?_) (target_at _ _ ⟨t.val % 2 * 1024 + (y 0).val, by omega⟩ ⟨t.val / 2 * 512 + (y 1).val, by omega⟩).symm)
  blk_point [iblk, V, places t]

/-- The blocks written back tile the result array. -/
theorem tiles : (cfg0.win 2).Covers := by decide +kernel

/-- What a grid point leaves in the result's staging buffer. -/
theorem left_at (c : Dev nD) (t : Fin cfg0.N) :
    (dats m 0 c).after 2 t = k0_pay1 (F := Ideal) (iblk m c 0 t) (iblk m c 1 t) := by
  rw [after0_2]; frame_out

/-- The result array after the run is the target. -/
theorem final (c : Dev nD) : (dats m 0 c).arrAt 2 (cfgs 0).N
    = target (m ((c : Thread nD τ).loc main_arg0)) (m ((c : Thread nD τ).loc main_arg1)) := by
  refine (dats m 0 c).arrAt_eq_of_covers 2 _ tiles fun t _ y => ?_
  blk_simp
  rw [left_at]
  exact point m c t y

end Cert.KvfX

/-- The kernel and the reference end with equal results. -/
theorem Cert.KvfX.algebraic : Cert.algebraic_Kernel13Ideal_Reference13Ideal := by
  pair_intro
  · run_from Cert.Kernel13Ideal.Gen.run_main m g
  · run_from Cert.Reference13Ideal.Value.run m' g'
    exact (Cert.KvfX.final m _).symm

end
-- ==== Proof.KvfW.lean ====
/-
  The gradient of the shared key, value and gate product with respect to its weight: each grid point multiplies a tile of transposed columns of the
  operand by a tile of columns of the cotangent, and the reference multiplies the whole arrays. Both are the same sums.
-/
module

public import proofs.«01_k».proof.Defs
public import proofs.«01_k».proof.Proof.Gen.Kernel14Ideal.Value
public import proofs.«01_k».proof.Proof.Gen.Reference14Ideal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KvfW

open Cert.Kernel14Ideal Cert.Kernel14Ideal.Gen

variable (m : (ℓ : Loc nD τ sig) → Buf (Elt Ideal) ℓ)

/-- What the reference returns, as a function of the operands. -/
def target (x : FVec Ideal S2048x1024 .bf16) (d : FVec Ideal S2048x2304 .bf16) : FVec Ideal S1024x2304 .bf16 :=
  truncf .bf16 (transpose Cert.Reference14Ideal.S1024x2304 [1, 0]
    (Host.dotGeneral Cert.Reference14Ideal.dot_S2048x2304_S2048x1024_S2304x1024_0_0_1_1_n_n none (extf .f32 d Cert.Reference14Ideal.Gen.bitsLt_bf16_f32)
      (extf .f32 x Cert.Reference14Ideal.Gen.bitsLt_bf16_f32)) Cert.Reference14Ideal.Gen.transposes_S2304x1024_S1024x2304_1_0) Cert.Reference14Ideal.Gen.bitsLt_bf16_f32

/-- Where each window's block lies at grid point `t`. -/
theorem places : ∀ t : Fin cfg0.N, win0_0.index t = ![0, t.val % 2] ∧ win0_1.index t = ![0, t.val / 2]
    ∧ win0_2.index t = ![t.val % 2, t.val / 2] :=
  (by decide +kernel : ∀ t : Fin grid0.N, _)

/-- The stored block, read at an index. -/
theorem stored_at (x : FVec Ideal S2048x512 .bf16) (w : FVec Ideal S2048x768 .bf16) (r : Fin 512) (l : Fin 768) :
    k0_pay1 (F := Ideal) x w (ix2 r l) = ∑ k : Fin 2048, x (ix2 k r) * w (ix2 k l) := by
  pointwise [k0_pay1]

/-- The target, read at an index. -/
theorem target_at (x : FVec Ideal S2048x1024 .bf16) (d : FVec Ideal S2048x2304 .bf16) (r : Fin 1024) (l : Fin 2304) :
    target x d (ix2 r l) = ∑ k : Fin 2048, x (ix2 k r) * d (ix2 k l) := by
  pointwise [target]
  exact Finset.sum_congr rfl fun k _ => mul_comm _ _

/-- One element of what a grid point stores is the target's element at the place it is stored to. -/
theorem point (c : Dev nD) (t : Fin cfg0.N) (y : S512x768.Idx) :
    k0_pay1 (F := Ideal) (iblk m c 0 t) (iblk m c 1 t) y
    = target (m ((c : Thread nD τ).loc main_arg0)) (m ((c : Thread nD τ).loc main_arg1)) (((cfg0.win 2).blk t).view.emb y) := by
  have ht : t.val < 6 := lt_of_lt_of_eq t.isLt N_0
  have hy0 := (y 0).isLt
  have hy1 := (y 1).isLt
  change (y 0).val < 512 at hy0
  change (y 1).val < 768 at hy1
  have e : ((cfg0.win 2).blk t).view.emb y = (ix2 ⟨t.val % 2 * 512 + (y 0).val, by omega⟩ ⟨t.val / 2 * 768 + (y 1).val, by omega⟩ : S1024x2304.Idx) := by
    idx_bounds y
    blk_ext [places t]
  rw [e]
  refine ((congrArg _ (eq_ix2 y)).trans (stored_at (iblk m c 0 t) (iblk m c 1 t) (y 0) (y 1))).trans
    (Eq.trans (Finset.sum_congr rfl fun k _ => ?_) (target_at _ _ ⟨t.val % 2 * 512 + (y 0).val, by omega⟩ ⟨t.val / 2 * 768 + (y 1).val, by omega⟩).symm)
  blk_point [iblk, V, places t]

/-- The blocks written back tile the result array. -/
theorem tiles : (cfg0.win 2).Covers := by decide +kernel

/-- What a grid point leaves in the result's staging buffer. -/
theorem left_at (c : Dev nD) (t : Fin cfg0.N) :
    (dats m 0 c).after 2 t = k0_pay1 (F := Ideal) (iblk m c 0 t) (iblk m c 1 t) := by
  rw [after0_2]; frame_out

/-- The result array after the run is the target. -/
theorem final (c : Dev nD) : (dats m 0 c).arrAt 2 (cfgs 0).N
    = target (m ((c : Thread nD τ).loc main_arg0)) (m ((c : Thread nD τ).loc main_arg1)) := by
  refine (dats m 0 c).arrAt_eq_of_covers 2 _ tiles fun t _ y => ?_
  blk_simp
  rw [left_at]
  exact point m c t y

end Cert.KvfW

/-- The kernel and the reference end with equal results. -/
theorem Cert.KvfW.algebraic : Cert.algebraic_Kernel14Ideal_Reference14Ideal := by
  pair_intro
  · run_from Cert.Kernel14Ideal.Gen.run_main m g
  · run_from Cert.Reference14Ideal.Value.run m' g'
    exact (Cert.KvfW.final m _).symm

end
-- ==== Proof.Up.lean ====
/-
  The first feed-forward product: each grid point multiplies the whole operand by one slab of the weight; the
  reference puts the slabs side by side, multiplies once and cuts the product. Both are the same sums.
-/
module

public import proofs.«01_k».proof.Defs
public import proofs.«01_k».proof.Proof.Gen.Kernel15Ideal.Value
public import proofs.«01_k».proof.Proof.Gen.Reference15Ideal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Up

open Cert.Kernel15Ideal Cert.Kernel15Ideal.Gen

variable (m : (ℓ : Loc nD τ sig) → Buf (Elt Ideal) ℓ)

/-- What the reference returns, as a function of the operands. -/
def target (x : FVec Ideal S2048x1024 .bf16) (w : FVec Ideal S8x1024x704 .bf16) : FVec Ideal S8x2048x704 .f32 :=
  transpose Cert.Reference15Ideal.S8x2048x704 [1, 0, 2] (shapeCast _
    (Host.dotGeneral Cert.Reference15Ideal.dot_S2048x1024_S1024x5632_S2048x5632_1_0_0_1_n_n none (extf .f32 x Cert.Reference15Ideal.Gen.bitsLt_bf16_f32)
      (extf .f32 (shapeCast _ (transpose Cert.Reference15Ideal.S1024x8x704 [1, 0, 2] w Cert.Reference15Ideal.Gen.transposes_S8x1024x704_S1024x8x704_1_0_2)
        Cert.Reference15Ideal.Gen.shapeCasts_S1024x8x704_S1024x5632) Cert.Reference15Ideal.Gen.bitsLt_bf16_f32))
      Cert.Reference15Ideal.Gen.shapeCasts_S2048x5632_S2048x8x704) Cert.Reference15Ideal.Gen.transposes_S2048x8x704_S8x2048x704_1_0_2

/-- Where each window's block lies at grid point `t`. -/
theorem places : ∀ t : Fin cfg0.N, win0_0.index t = ![0, 0] ∧ win0_1.index t = ![t.val, 0, 0]
    ∧ win0_2.index t = ![t.val, 0, 0] :=
  (by decide +kernel : ∀ t : Fin grid0.N, _)

/-- The stored block, read at an index. -/
theorem stored_at (x : FVec Ideal S2048x1024 .bf16) (w : FVec Ideal S1x1024x704 .bf16) (z : Fin 1) (r : Fin 2048) (l : Fin 704) :
    k0_pay1 (F := Ideal) x w (ix3 z r l) = ∑ k : Fin 1024, x (ix2 r k) * w (ix3 0 k l) := by
  pointwise [k0_pay1]

/-- The target, read at an index. -/
theorem target_at (x : FVec Ideal S2048x1024 .bf16) (w : FVec Ideal S8x1024x704 .bf16) (s : Fin 8) (r : Fin 2048) (l : Fin 704) :
    target x w (ix3 s r l) = ∑ k : Fin 1024, x (ix2 r k) * w (ix3 s k l) := by
  pointwise [target]

/-- One element of what a grid point stores is the target's element at the place it is stored to. -/
theorem point (c : Dev nD) (t : Fin cfg0.N) (y : S1x2048x704.Idx) :
    k0_pay1 (F := Ideal) (iblk m c 0 t) (iblk m c 1 t) y
    = target (m ((c : Thread nD τ).loc main_arg0)) (m ((c : Thread nD τ).loc main_arg1)) (((cfg0.win 2).blk t).view.emb y) := by
  have ht : t.val < 8 := lt_of_lt_of_eq t.isLt N_0
  have e : ((cfg0.win 2).blk t).view.emb y = (ix3 ⟨t.val, ht⟩ (y 1) (y 2) : S8x2048x704.Idx) := by
    idx_bounds y
    blk_ext [places t]
  rw [e]
  refine ((congrArg _ (eq_ix3 y)).trans (stored_at (iblk m c 0 t) (iblk m c 1 t) (y 0) (y 1) (y 2))).trans
    (Eq.trans (Finset.sum_congr rfl fun k _ => ?_) (target_at _ _ ⟨t.val, ht⟩ (y 1) (y 2)).symm)
  blk_point [iblk, V, places t]

/-- The blocks written back tile the result array. -/
theorem tiles : (cfg0.win 2).Covers := by decide +kernel

/-- What a grid point leaves in the result's staging buffer. -/
theorem left_at (c : Dev nD) (t : Fin cfg0.N) :
    (dats m 0 c).after 2 t = k0_pay1 (F := Ideal) (iblk m c 0 t) (iblk m c 1 t) := by
  rw [after0_2]; frame_out

/-- The result array after the run is the target. -/
theorem final (c : Dev nD) : (dats m 0 c).arrAt 2 (cfgs 0).N
    = target (m ((c : Thread nD τ).loc main_arg0)) (m ((c : Thread nD τ).loc main_arg1)) := by
  refine (dats m 0 c).arrAt_eq_of_covers 2 _ tiles fun t _ y => ?_
  blk_simp
  rw [left_at]
  exact point m c t y

end Cert.Up

/-- The kernel and the reference end with equal results. -/
theorem Cert.Up.algebraic : Cert.algebraic_Kernel15Ideal_Reference15Ideal := by
  pair_intro
  · run_from Cert.Kernel15Ideal.Gen.run_main m g
  · run_from Cert.Reference15Ideal.Value.run m' g'
    exact (Cert.Up.final m _).symm

end
-- ==== Proof.Down.lean ====
/-
  The second feed-forward product: the kernel adds up, in a carried scratch, the products of the four slabs of `u` with
  the slabs of the weight, and copies the scratch out at the last of them; the reference puts the slabs side by side
  and multiplies once. Both are the sum over the `4 * 704` rows of the weight.
-/
module

public import proofs.«01_k».proof.Defs
public import proofs.«01_k».proof.Proof.Gen.Kernel16Ideal.Value
public import proofs.«01_k».proof.Proof.Gen.Reference16Ideal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Down

open Cert.Kernel16Ideal Cert.Kernel16Ideal.Gen

variable (m : (ℓ : Loc nD τ sig) → Buf (Elt Ideal) ℓ)

/-- What the reference returns, as a function of `u` and the weight. -/
def target (u : FVec Ideal S4x2048x704 .bf16) (w : FVec Ideal S2816x1024 .bf16) : FVec Ideal S2048x1024 .f32 :=
  Host.dotGeneral Cert.Reference16Ideal.dot_S2048x2816_S2816x1024_S2048x1024_1_0_0_1_n_n none
    (extf .f32 (shapeCast _ (transpose Cert.Reference16Ideal.S2048x4x704 [1, 0, 2] u Cert.Reference16Ideal.Gen.transposes_S4x2048x704_S2048x4x704_1_0_2)
      Cert.Reference16Ideal.Gen.shapeCasts_S2048x4x704_S2048x2816) Cert.Reference16Ideal.Gen.bitsLt_bf16_f32)
    (extf .f32 w Cert.Reference16Ideal.Gen.bitsLt_bf16_f32)

/-- Where each window's block lies at grid point `t`. -/
theorem places : ∀ t : Fin cfg0.N, win0_0.index t = ![t.val % 4, t.val / 4, 0] ∧ win0_1.index t = ![t.val % 4, 0, 0]
    ∧ win0_2.index t = ![t.val / 4, 0] :=
  (by decide +kernel : ∀ t : Fin grid0.N, _)

/-- The product of two slabs, read at an index. -/
theorem part_at (x : FVec Ideal S1x1024x704 .bf16) (w : FVec Ideal S1x704x1024 .bf16) (r : Fin 1024) (l : Fin 1024) :
    k0_pay1 (F := Ideal) x w (ix2 r l) = ∑ k : Fin 704, x (ix3 0 r k) * w (ix3 0 k l) := by
  pointwise [k0_pay1]

/-- The first slab's product, as stored. -/
theorem first_eq (x : FVec Ideal S1x1024x704 .bf16) (w : FVec Ideal S1x704x1024 .bf16) (j : S1024x1024.Idx) :
    k0_pay2 (F := Ideal) x w j = 0 + k0_pay1 (F := Ideal) x w j := by
  idx_vars j
  pointwise [k0_pay2]

/-- A later slab's product is added to what the scratch held. -/
theorem later_eq (x : FVec Ideal S1x1024x704 .bf16) (w : FVec Ideal S1x704x1024 .bf16) (z : FVec Ideal S1024x1024 .f32)
    (j : S1024x1024.Idx) :
    k0_pay3 (F := Ideal) x w z j = z j + k0_pay1 (F := Ideal) x w j := by
  idx_vars j
  pointwise [k0_pay3]

/-- The target, read at an index. -/
theorem target_at (u : FVec Ideal S4x2048x704 .bf16) (w : FVec Ideal S2816x1024 .bf16) (r : Fin 2048) (l : Fin 1024) :
    target u w (ix2 r l) = ∑ q : Fin 2816, u (ix3 ⟨q.val / 704, by omega⟩ r ⟨q.val % 704, by omega⟩) * w (ix2 q l) := by
  pointwise [target]

/-- The blocks written back tile the result array. -/
theorem tiles : (cfg0.win 2).Covers := by decide +kernel

/-- At a point that writes back, the output buffer holds what the scratch holds. -/
theorem copied (c : Dev nD) (t : Fin cfg0.N) (h : t.val % 4 = 3) :
    (outsAt0 m c t.val t.isLt).1 = (outsAt0 m c t.val t.isLt).2 := by
  rw [outsAt0_C m c t (by omega) (by omega) h]
  frame_out

/-- The scratch at the end of a run of four points is the sum of their products. -/
theorem summed (c : Dev nD) (t : Fin cfg0.N) (h : t.val % 4 = 4 - 1) (j : S1024x1024.Idx) :
    (outsAt0 m c t.val t.isLt).2 j
    = 0 + ∑ s : Fin 4, k0_pay1 (F := Ideal) (iblk m c 0 ⟨4 * (t.val / 4) + s.val, Pipeline.run_point_lt_of_flush t h s⟩)
        (iblk m c 1 ⟨4 * (t.val / 4) + s.val, Pipeline.run_point_lt_of_flush t h s⟩) j := by
  refine Pipeline.eq_sum_fin_of_reset_step_apply_of_flush (fun n h => (outsAt0 m c n h).2) 4 (fun _ => 0)
    (fun p j => k0_pay1 (F := Ideal) (iblk m c 0 p) (iblk m c 1 p) j) (fun p hp i => ?_) (fun p hp i => ?_) t h j
  · show (outsAt0 m c p.val p.isLt).2 i = _
    rw [outsAt0_A m c p hp (by omega) (by omega)]
    frame_out
    exact first_eq _ _ i
  · show (outsAt0 m c p.val p.isLt).2 i = _
    by_cases hl : p.val % 4 = 3
    · rw [outsAt0_C m c p hp (by omega) hl]
      frame_out
      refine (later_eq _ _ _ i).trans (congrArg (· + _) ?_)
      exact congrFun (Memref.IsWhole.read_unread (m := scM0_0) _ _) i
    · rw [outsAt0_B m c p hp (by omega) hl]
      frame_out
      refine (later_eq _ _ _ i).trans (congrArg (· + _) ?_)
      exact congrFun (Memref.IsWhole.read_unread (m := scM0_0) _ _) i

/-- One element of what a run of points leaves is the target's element at the place it is stored to. -/
theorem point (c : Dev nD) (t : Fin cfg0.N) (h : t.val % 4 = 4 - 1) (y : S1024x1024.Idx) :
    (∑ s : Fin 4, k0_pay1 (F := Ideal) (iblk m c 0 ⟨4 * (t.val / 4) + s.val, Pipeline.run_point_lt_of_flush t h s⟩)
        (iblk m c 1 ⟨4 * (t.val / 4) + s.val, Pipeline.run_point_lt_of_flush t h s⟩) y)
    = target (m ((c : Thread nD τ).loc main_arg0)) (m ((c : Thread nD τ).loc main_arg1)) (((cfg0.win 2).blk t).view.emb y) := by
  have ht : t.val < 8 := lt_of_lt_of_eq t.isLt N_0
  have hy0 : (y 0).val < 1024 := (y 0).isLt
  have e : ((cfg0.win 2).blk t).view.emb y = (ix2 ⟨t.val / 4 * 1024 + (y 0).val, by omega⟩ (y 1) : S2048x1024.Idx) := by
    idx_bounds y
    blk_ext [places t]
  rw [e]
  refine Eq.trans (Finset.sum_congr rfl fun s _ => (congrArg _ (eq_ix2 y)).trans (part_at _ _ (y 0) (y 1)))
    (Eq.trans ?_ (target_at _ _ _ (y 1)).symm)
  refine Fin.sum_mul_add_congr fun s k hl => ?_
  have hs : s.val < 4 := s.isLt
  have hk : k.val < 704 := k.isLt
  blk_point [iblk, V, places t, places ⟨_, Pipeline.run_point_lt_of_flush t h s⟩]

/-- The result array after the run is the target. -/
theorem final (c : Dev nD) : (dats m 0 c).arrAt 2 (cfgs 0).N
    = target (m ((c : Thread nD τ).loc main_arg0)) (m ((c : Thread nD τ).loc main_arg1)) := by
  refine (dats m 0 c).arrAt_eq_of_covers 2 _ tiles fun t hf y => ?_
  have h : t.val % 4 = 3 := (flush0_2 t).mp hf
  blk_simp
  rw [after0_2, copied m c t h]
  exact (summed m c t h y).trans ((zero_add _).trans (point m c t h y))

end Cert.Down

/-- The kernel and the reference end with equal results. -/
theorem Cert.Down.algebraic : Cert.algebraic_Kernel16Ideal_Reference16Ideal := by
  pair_intro
  · run_from Cert.Kernel16Ideal.Gen.run_main m g
  · run_from Cert.Reference16Ideal.Value.run m' g'
    exact (Cert.Down.final m _).symm

end
-- ==== Proof.Qkv.lean ====
/-
  The dilated mixer's input product: each grid point multiplies a tile of rows of the operand by a tile of columns of the
  weight, and the reference multiplies the whole arrays. Both are the same sums.
-/
module

public import proofs.«01_k».proof.Defs
public import proofs.«01_k».proof.Proof.Gen.Kernel17Ideal.Value
public import proofs.«01_k».proof.Proof.Gen.Reference17Ideal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Qkv

open Cert.Kernel17Ideal Cert.Kernel17Ideal.Gen

variable (m : (ℓ : Loc nD τ sig) → Buf (Elt Ideal) ℓ)

/-- What the reference returns, as a function of the operands. -/
def target (x : FVec Ideal S2048x1024 .bf16) (w : FVec Ideal S1024x2304 .bf16) : FVec Ideal S2048x2304 .f32 :=
  Host.dotGeneral Cert.Reference17Ideal.dot_S2048x1024_S1024x2304_S2048x2304_1_0_0_1_n_n none
    (extf .f32 x Cert.Reference17Ideal.Gen.bitsLt_bf16_f32) (extf .f32 w Cert.Reference17Ideal.Gen.bitsLt_bf16_f32)

/-- Where each window's block lies at grid point `t`. -/
theorem places : ∀ t : Fin cfg0.N, win0_0.index t = ![0, 0] ∧ win0_1.index t = ![0, t.val]
    ∧ win0_2.index t = ![0, t.val] :=
  (by decide +kernel : ∀ t : Fin grid0.N, _)

/-- The stored block, read at an index. -/
theorem stored_at (x : FVec Ideal S2048x1024 .bf16) (w : FVec Ideal S1024x768 .bf16) (r : Fin 2048) (l : Fin 768) :
    k0_pay1 (F := Ideal) x w (ix2 r l) = ∑ k : Fin 1024, x (ix2 r k) * w (ix2 k l) := by
  pointwise [k0_pay1]

/-- The target, read at an index. -/
theorem target_at (x : FVec Ideal S2048x1024 .bf16) (w : FVec Ideal S1024x2304 .bf16) (r : Fin 2048) (l : Fin 2304) :
    target x w (ix2 r l) = ∑ k : Fin 1024, x (ix2 r k) * w (ix2 k l) := by
  pointwise [target]

/-- One element of what a grid point stores is the target's element at the place it is stored to. -/
theorem point (c : Dev nD) (t : Fin cfg0.N) (y : S2048x768.Idx) :
    k0_pay1 (F := Ideal) (iblk m c 0 t) (iblk m c 1 t) y
    = target (m ((c : Thread nD τ).loc main_arg0)) (m ((c : Thread nD τ).loc main_arg1)) (((cfg0.win 2).blk t).view.emb y) := by
  have ht : t.val < 3 := lt_of_lt_of_eq t.isLt N_0
  have hy0 := (y 0).isLt
  have hy1 := (y 1).isLt
  change (y 0).val < 2048 at hy0
  change (y 1).val < 768 at hy1
  have e : ((cfg0.win 2).blk t).view.emb y = (ix2 (y 0) ⟨t.val * 768 + (y 1).val, by omega⟩ : S2048x2304.Idx) := by
    idx_bounds y
    blk_ext [places t]
  rw [e]
  refine ((congrArg _ (eq_ix2 y)).trans (stored_at (iblk m c 0 t) (iblk m c 1 t) (y 0) (y 1))).trans
    (Eq.trans (Finset.sum_congr rfl fun k _ => ?_) (target_at _ _ (y 0) ⟨t.val * 768 + (y 1).val, by omega⟩).symm)
  blk_point [iblk, V, places t]

/-- The blocks written back tile the result array. -/
theorem tiles : (cfg0.win 2).Covers := by decide +kernel

/-- What a grid point leaves in the result's staging buffer. -/
theorem left_at (c : Dev nD) (t : Fin cfg0.N) :
    (dats m 0 c).after 2 t = k0_pay1 (F := Ideal) (iblk m c 0 t) (iblk m c 1 t) := by
  rw [after0_2]; frame_out

/-- The result array after the run is the target. -/
theorem final (c : Dev nD) : (dats m 0 c).arrAt 2 (cfgs 0).N
    = target (m ((c : Thread nD τ).loc main_arg0)) (m ((c : Thread nD τ).loc main_arg1)) := by
  refine (dats m 0 c).arrAt_eq_of_covers 2 _ tiles fun t _ y => ?_
  blk_simp
  rw [left_at]
  exact point m c t y

end Cert.Qkv

/-- The kernel and the reference end with equal results. -/
theorem Cert.Qkv.algebraic : Cert.algebraic_Kernel17Ideal_Reference17Ideal := by
  pair_intro
  · run_from Cert.Kernel17Ideal.Gen.run_main m g
  · run_from Cert.Reference17Ideal.Value.run m' g'
    exact (Cert.Qkv.final m _).symm

end
-- ==== Proof.WoA.lean ====
/-
  The dilated mixer's output product: each grid point multiplies a tile of rows of the operand by a tile of columns of the
  weight, and the reference multiplies the whole arrays. Both are the same sums.
-/
module

public import proofs.«01_k».proof.Defs
public import proofs.«01_k».proof.Proof.Gen.Kernel18Ideal.Value
public import proofs.«01_k».proof.Proof.Gen.Reference18Ideal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.WoA

open Cert.Kernel18Ideal Cert.Kernel18Ideal.Gen

variable (m : (ℓ : Loc nD τ sig) → Buf (Elt Ideal) ℓ)

/-- What the reference returns, as a function of the operands. -/
def target (x : FVec Ideal S2048x768 .bf16) (w : FVec Ideal S768x1024 .bf16) : FVec Ideal S2048x1024 .f32 :=
  Host.dotGeneral Cert.Reference18Ideal.dot_S2048x768_S768x1024_S2048x1024_1_0_0_1_n_n none
    (extf .f32 x Cert.Reference18Ideal.Gen.bitsLt_bf16_f32) (extf .f32 w Cert.Reference18Ideal.Gen.bitsLt_bf16_f32)

/-- Where each window's block lies at grid point `t`. -/
theorem places : ∀ t : Fin cfg0.N, win0_0.index t = ![t.val % 2, 0] ∧ win0_1.index t = ![0, t.val / 2]
    ∧ win0_2.index t = ![t.val % 2, t.val / 2] :=
  (by decide +kernel : ∀ t : Fin grid0.N, _)

/-- The stored block, read at an index. -/
theorem stored_at (x : FVec Ideal S1024x768 .bf16) (w : FVec Ideal S768x512 .bf16) (r : Fin 1024) (l : Fin 512) :
    k0_pay1 (F := Ideal) x w (ix2 r l) = ∑ k : Fin 768, x (ix2 r k) * w (ix2 k l) := by
  pointwise [k0_pay1]

/-- The target, read at an index. -/
theorem target_at (x : FVec Ideal S2048x768 .bf16) (w : FVec Ideal S768x1024 .bf16) (r : Fin 2048) (l : Fin 1024) :
    target x w (ix2 r l) = ∑ k : Fin 768, x (ix2 r k) * w (ix2 k l) := by
  pointwise [target]

/-- One element of what a grid point stores is the target's element at the place it is stored to. -/
theorem point (c : Dev nD) (t : Fin cfg0.N) (y : S1024x512.Idx) :
    k0_pay1 (F := Ideal) (iblk m c 0 t) (iblk m c 1 t) y
    = target (m ((c : Thread nD τ).loc main_arg0)) (m ((c : Thread nD τ).loc main_arg1)) (((cfg0.win 2).blk t).view.emb y) := by
  have ht : t.val < 4 := lt_of_lt_of_eq t.isLt N_0
  have hy0 := (y 0).isLt
  have hy1 := (y 1).isLt
  change (y 0).val < 1024 at hy0
  change (y 1).val < 512 at hy1
  have e : ((cfg0.win 2).blk t).view.emb y = (ix2 ⟨t.val % 2 * 1024 + (y 0).val, by omega⟩ ⟨t.val / 2 * 512 + (y 1).val, by omega⟩ : S2048x1024.Idx) := by
    idx_bounds y
    blk_ext [places t]
  rw [e]
  refine ((congrArg _ (eq_ix2 y)).trans (stored_at (iblk m c 0 t) (iblk m c 1 t) (y 0) (y 1))).trans
    (Eq.trans (Finset.sum_congr rfl fun k _ => ?_) (target_at _ _ ⟨t.val % 2 * 1024 + (y 0).val, by omega⟩ ⟨t.val / 2 * 512 + (y 1).val, by omega⟩).symm)
  blk_point [iblk, V, places t]

/-- The blocks written back tile the result array. -/
theorem tiles : (cfg0.win 2).Covers := by decide +kernel

/-- What a grid point leaves in the result's staging buffer. -/
theorem left_at (c : Dev nD) (t : Fin cfg0.N) :
    (dats m 0 c).after 2 t = k0_pay1 (F := Ideal) (iblk m c 0 t) (iblk m c 1 t) := by
  rw [after0_2]; frame_out

/-- The result array after the run is the target. -/
theorem final (c : Dev nD) : (dats m 0 c).arrAt 2 (cfgs 0).N
    = target (m ((c : Thread nD τ).loc main_arg0)) (m ((c : Thread nD τ).loc main_arg1)) := by
  refine (dats m 0 c).arrAt_eq_of_covers 2 _ tiles fun t _ y => ?_
  blk_simp
  rw [left_at]
  exact point m c t y

end Cert.WoA

/-- The kernel and the reference end with equal results. -/
theorem Cert.WoA.algebraic : Cert.algebraic_Kernel18Ideal_Reference18Ideal := by
  pair_intro
  · run_from Cert.Kernel18Ideal.Gen.run_main m g
  · run_from Cert.Reference18Ideal.Value.run m' g'
    exact (Cert.WoA.final m _).symm

end
-- ==== Proof.WqB.lean ====
/-
  The forgetting mixer's query product: each grid point multiplies a tile of rows of the operand by a tile of columns of the
  weight, and the reference multiplies the whole arrays. Both are the same sums.
-/
module

public import proofs.«01_k».proof.Defs
public import proofs.«01_k».proof.Proof.Gen.Kernel19Ideal.Value
public import proofs.«01_k».proof.Proof.Gen.Reference19Ideal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.WqB

open Cert.Kernel19Ideal Cert.Kernel19Ideal.Gen

variable (m : (ℓ : Loc nD τ sig) → Buf (Elt Ideal) ℓ)

/-- What the reference returns, as a function of the operands. -/
def target (x : FVec Ideal S2048x1024 .bf16) (w : FVec Ideal S1024x1024 .bf16) : FVec Ideal S2048x1024 .bf16 :=
  truncf .bf16 (Host.dotGeneral Cert.Reference19Ideal.dot_S2048x1024_S1024x1024_S2048x1024_1_0_0_1_n_n none
    (extf .f32 x Cert.Reference19Ideal.Gen.bitsLt_bf16_f32) (extf .f32 w Cert.Reference19Ideal.Gen.bitsLt_bf16_f32)) Cert.Reference19Ideal.Gen.bitsLt_bf16_f32

/-- Where each window's block lies at grid point `t`. -/
theorem places : ∀ t : Fin cfg0.N, win0_0.index t = ![t.val % 2, 0] ∧ win0_1.index t = ![0, t.val / 2]
    ∧ win0_2.index t = ![t.val % 2, t.val / 2] :=
  (by decide +kernel : ∀ t : Fin grid0.N, _)

/-- The stored block, read at an index. -/
theorem stored_at (x : FVec Ideal S1024x1024 .bf16) (w : FVec Ideal S1024x512 .bf16) (r : Fin 1024) (l : Fin 512) :
    k0_pay1 (F := Ideal) x w (ix2 r l) = ∑ k : Fin 1024, x (ix2 r k) * w (ix2 k l) := by
  pointwise [k0_pay1]

/-- The target, read at an index. -/
theorem target_at (x : FVec Ideal S2048x1024 .bf16) (w : FVec Ideal S1024x1024 .bf16) (r : Fin 2048) (l : Fin 1024) :
    target x w (ix2 r l) = ∑ k : Fin 1024, x (ix2 r k) * w (ix2 k l) := by
  pointwise [target]

/-- One element of what a grid point stores is the target's element at the place it is stored to. -/
theorem point (c : Dev nD) (t : Fin cfg0.N) (y : S1024x512.Idx) :
    k0_pay1 (F := Ideal) (iblk m c 0 t) (iblk m c 1 t) y
    = target (m ((c : Thread nD τ).loc main_arg0)) (m ((c : Thread nD τ).loc main_arg1)) (((cfg0.win 2).blk t).view.emb y) := by
  have ht : t.val < 4 := lt_of_lt_of_eq t.isLt N_0
  have hy0 := (y 0).isLt
  have hy1 := (y 1).isLt
  change (y 0).val < 1024 at hy0
  change (y 1).val < 512 at hy1
  have e : ((cfg0.win 2).blk t).view.emb y = (ix2 ⟨t.val % 2 * 1024 + (y 0).val, by omega⟩ ⟨t.val / 2 * 512 + (y 1).val, by omega⟩ : S2048x1024.Idx) := by
    idx_bounds y
    blk_ext [places t]
  rw [e]
  refine ((congrArg _ (eq_ix2 y)).trans (stored_at (iblk m c 0 t) (iblk m c 1 t) (y 0) (y 1))).trans
    (Eq.trans (Finset.sum_congr rfl fun k _ => ?_) (target_at _ _ ⟨t.val % 2 * 1024 + (y 0).val, by omega⟩ ⟨t.val / 2 * 512 + (y 1).val, by omega⟩).symm)
  blk_point [iblk, V, places t]

/-- The blocks written back tile the result array. -/
theorem tiles : (cfg0.win 2).Covers := by decide +kernel

/-- What a grid point leaves in the result's staging buffer. -/
theorem left_at (c : Dev nD) (t : Fin cfg0.N) :
    (dats m 0 c).after 2 t = k0_pay1 (F := Ideal) (iblk m c 0 t) (iblk m c 1 t) := by
  rw [after0_2]; frame_out

/-- The result array after the run is the target. -/
theorem final (c : Dev nD) : (dats m 0 c).arrAt 2 (cfgs 0).N
    = target (m ((c : Thread nD τ).loc main_arg0)) (m ((c : Thread nD τ).loc main_arg1)) := by
  refine (dats m 0 c).arrAt_eq_of_covers 2 _ tiles fun t _ y => ?_
  blk_simp
  rw [left_at]
  exact point m c t y

end Cert.WqB

/-- The kernel and the reference end with equal results. -/
theorem Cert.WqB.algebraic : Cert.algebraic_Kernel19Ideal_Reference19Ideal := by
  pair_intro
  · run_from Cert.Kernel19Ideal.Gen.run_main m g
  · run_from Cert.Reference19Ideal.Value.run m' g'
    exact (Cert.WqB.final m _).symm

end
-- ==== Proof.WoB.lean ====
/-
  The forgetting mixer's output product: each grid point multiplies a tile of rows of the operand by a tile of columns of the
  weight, and the reference multiplies the whole arrays. Both are the same sums.
-/
module

public import proofs.«01_k».proof.Defs
public import proofs.«01_k».proof.Proof.Gen.Kernel20Ideal.Value
public import proofs.«01_k».proof.Proof.Gen.Reference20Ideal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.WoB

open Cert.Kernel20Ideal Cert.Kernel20Ideal.Gen

variable (m : (ℓ : Loc nD τ sig) → Buf (Elt Ideal) ℓ)

/-- What the reference returns, as a function of the operands. -/
def target (x : FVec Ideal S2048x1024 .bf16) (w : FVec Ideal S1024x1024 .bf16) : FVec Ideal S2048x1024 .f32 :=
  Host.dotGeneral Cert.Reference20Ideal.dot_S2048x1024_S1024x1024_S2048x1024_1_0_0_1_n_n none
    (extf .f32 x Cert.Reference20Ideal.Gen.bitsLt_bf16_f32) (extf .f32 w Cert.Reference20Ideal.Gen.bitsLt_bf16_f32)

/-- Where each window's block lies at grid point `t`. -/
theorem places : ∀ t : Fin cfg0.N, win0_0.index t = ![t.val % 2, 0] ∧ win0_1.index t = ![0, t.val / 2]
    ∧ win0_2.index t = ![t.val % 2, t.val / 2] :=
  (by decide +kernel : ∀ t : Fin grid0.N, _)

/-- The stored block, read at an index. -/
theorem stored_at (x : FVec Ideal S1024x1024 .bf16) (w : FVec Ideal S1024x512 .bf16) (r : Fin 1024) (l : Fin 512) :
    k0_pay1 (F := Ideal) x w (ix2 r l) = ∑ k : Fin 1024, x (ix2 r k) * w (ix2 k l) := by
  pointwise [k0_pay1]

/-- The target, read at an index. -/
theorem target_at (x : FVec Ideal S2048x1024 .bf16) (w : FVec Ideal S1024x1024 .bf16) (r : Fin 2048) (l : Fin 1024) :
    target x w (ix2 r l) = ∑ k : Fin 1024, x (ix2 r k) * w (ix2 k l) := by
  pointwise [target]

/-- One element of what a grid point stores is the target's element at the place it is stored to. -/
theorem point (c : Dev nD) (t : Fin cfg0.N) (y : S1024x512.Idx) :
    k0_pay1 (F := Ideal) (iblk m c 0 t) (iblk m c 1 t) y
    = target (m ((c : Thread nD τ).loc main_arg0)) (m ((c : Thread nD τ).loc main_arg1)) (((cfg0.win 2).blk t).view.emb y) := by
  have ht : t.val < 4 := lt_of_lt_of_eq t.isLt N_0
  have hy0 := (y 0).isLt
  have hy1 := (y 1).isLt
  change (y 0).val < 1024 at hy0
  change (y 1).val < 512 at hy1
  have e : ((cfg0.win 2).blk t).view.emb y = (ix2 ⟨t.val % 2 * 1024 + (y 0).val, by omega⟩ ⟨t.val / 2 * 512 + (y 1).val, by omega⟩ : S2048x1024.Idx) := by
    idx_bounds y
    blk_ext [places t]
  rw [e]
  refine ((congrArg _ (eq_ix2 y)).trans (stored_at (iblk m c 0 t) (iblk m c 1 t) (y 0) (y 1))).trans
    (Eq.trans (Finset.sum_congr rfl fun k _ => ?_) (target_at _ _ ⟨t.val % 2 * 1024 + (y 0).val, by omega⟩ ⟨t.val / 2 * 512 + (y 1).val, by omega⟩).symm)
  blk_point [iblk, V, places t]

/-- The blocks written back tile the result array. -/
theorem tiles : (cfg0.win 2).Covers := by decide +kernel

/-- What a grid point leaves in the result's staging buffer. -/
theorem left_at (c : Dev nD) (t : Fin cfg0.N) :
    (dats m 0 c).after 2 t = k0_pay1 (F := Ideal) (iblk m c 0 t) (iblk m c 1 t) := by
  rw [after0_2]; frame_out

/-- The result array after the run is the target. -/
theorem final (c : Dev nD) : (dats m 0 c).arrAt 2 (cfgs 0).N
    = target (m ((c : Thread nD τ).loc main_arg0)) (m ((c : Thread nD τ).loc main_arg1)) := by
  refine (dats m 0 c).arrAt_eq_of_covers 2 _ tiles fun t _ y => ?_
  blk_simp
  rw [left_at]
  exact point m c t y

end Cert.WoB

/-- The kernel and the reference end with equal results. -/
theorem Cert.WoB.algebraic : Cert.algebraic_Kernel20Ideal_Reference20Ideal := by
  pair_intro
  · run_from Cert.Kernel20Ideal.Gen.run_main m g
  · run_from Cert.Reference20Ideal.Value.run m' g'
    exact (Cert.WoB.final m _).symm

end
-- ==== Proof.Kvf.lean ====
/-
  The shared key, value and gate product: each grid point multiplies a tile of rows of the operand by a tile of columns of the
  weight, and the reference multiplies the whole arrays. Both are the same sums.
-/
module

public import proofs.«01_k».proof.Defs
public import proofs.«01_k».proof.Proof.Gen.Kernel21Ideal.Value
public import proofs.«01_k».proof.Proof.Gen.Reference21Ideal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kvf

open Cert.Kernel21Ideal Cert.Kernel21Ideal.Gen

variable (m : (ℓ : Loc nD τ sig) → Buf (Elt Ideal) ℓ)

/-- What the reference returns, as a function of the operands. -/
def target (x : FVec Ideal S2048x1024 .bf16) (w : FVec Ideal S1024x2304 .bf16) : FVec Ideal S2048x2304 .f32 :=
  Host.dotGeneral Cert.Reference21Ideal.dot_S2048x1024_S1024x2304_S2048x2304_1_0_0_1_n_n none
    (extf .f32 x Cert.Reference21Ideal.Gen.bitsLt_bf16_f32) (extf .f32 w Cert.Reference21Ideal.Gen.bitsLt_bf16_f32)

/-- Where each window's block lies at grid point `t`. -/
theorem places : ∀ t : Fin cfg0.N, win0_0.index t = ![t.val % 2, 0] ∧ win0_1.index t = ![0, t.val / 2]
    ∧ win0_2.index t = ![t.val % 2, t.val / 2] :=
  (by decide +kernel : ∀ t : Fin grid0.N, _)

/-- The stored block, read at an index. -/
theorem stored_at (x : FVec Ideal S1024x1024 .bf16) (w : FVec Ideal S1024x768 .bf16) (r : Fin 1024) (l : Fin 768) :
    k0_pay1 (F := Ideal) x w (ix2 r l) = ∑ k : Fin 1024, x (ix2 r k) * w (ix2 k l) := by
  pointwise [k0_pay1]

/-- The target, read at an index. -/
theorem target_at (x : FVec Ideal S2048x1024 .bf16) (w : FVec Ideal S1024x2304 .bf16) (r : Fin 2048) (l : Fin 2304) :
    target x w (ix2 r l) = ∑ k : Fin 1024, x (ix2 r k) * w (ix2 k l) := by
  pointwise [target]

/-- One element of what a grid point stores is the target's element at the place it is stored to. -/
theorem point (c : Dev nD) (t : Fin cfg0.N) (y : S1024x768.Idx) :
    k0_pay1 (F := Ideal) (iblk m c 0 t) (iblk m c 1 t) y
    = target (m ((c : Thread nD τ).loc main_arg0)) (m ((c : Thread nD τ).loc main_arg1)) (((cfg0.win 2).blk t).view.emb y) := by
  have ht : t.val < 6 := lt_of_lt_of_eq t.isLt N_0
  have hy0 := (y 0).isLt
  have hy1 := (y 1).isLt
  change (y 0).val < 1024 at hy0
  change (y 1).val < 768 at hy1
  have e : ((cfg0.win 2).blk t).view.emb y = (ix2 ⟨t.val % 2 * 1024 + (y 0).val, by omega⟩ ⟨t.val / 2 * 768 + (y 1).val, by omega⟩ : S2048x2304.Idx) := by
    idx_bounds y
    blk_ext [places t]
  rw [e]
  refine ((congrArg _ (eq_ix2 y)).trans (stored_at (iblk m c 0 t) (iblk m c 1 t) (y 0) (y 1))).trans
    (Eq.trans (Finset.sum_congr rfl fun k _ => ?_) (target_at _ _ ⟨t.val % 2 * 1024 + (y 0).val, by omega⟩ ⟨t.val / 2 * 768 + (y 1).val, by omega⟩).symm)
  blk_point [iblk, V, places t]

/-- The blocks written back tile the result array. -/
theorem tiles : (cfg0.win 2).Covers := by decide +kernel

/-- What a grid point leaves in the result's staging buffer. -/
theorem left_at (c : Dev nD) (t : Fin cfg0.N) :
    (dats m 0 c).after 2 t = k0_pay1 (F := Ideal) (iblk m c 0 t) (iblk m c 1 t) := by
  rw [after0_2]; frame_out

/-- The result array after the run is the target. -/
theorem final (c : Dev nD) : (dats m 0 c).arrAt 2 (cfgs 0).N
    = target (m ((c : Thread nD τ).loc main_arg0)) (m ((c : Thread nD τ).loc main_arg1)) := by
  refine (dats m 0 c).arrAt_eq_of_covers 2 _ tiles fun t _ y => ?_
  blk_simp
  rw [left_at]
  exact point m c t y

end Cert.Kvf

/-- The kernel and the reference end with equal results. -/
theorem Cert.Kvf.algebraic : Cert.algebraic_Kernel21Ideal_Reference21Ideal := by
  pair_intro
  · run_from Cert.Kernel21Ideal.Gen.run_main m g
  · run_from Cert.Reference21Ideal.Value.run m' g'
    exact (Cert.Kvf.final m _).symm

end
-- ==== Proof.AdamKvf.lean ====
/-
  The optimiser's step of the shared key, value and gate weights: each grid point adds up the eight parts of a tile of
  the gradient and applies the update element by element, as the reference does to the whole arrays.
-/
module

public import proofs.«01_k».proof.Defs
public import proofs.«01_k».proof.Proof.Gen.Kernel22Ideal.Value
public import proofs.«01_k».proof.Proof.Gen.Reference22Ideal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AdamKvf

open Cert.Kernel22Ideal Cert.Kernel22Ideal.Gen

variable (m : (ℓ : Loc nD τ sig) → Buf (Elt Ideal) ℓ)

/-- A constant's value. -/
abbrev lit (b : BitVec 32) : Ideal .f32 := FloatOps.ofBits .f32 b

/-- The first moment's update of one element. -/
def newM (g mo : Ideal .f32) : Ideal .f32 :=
  FloatOps.addf (FloatOps.mulf (lit 0x3F666666#32) mo) (FloatOps.mulf (lit 0x3DCCCCCD#32) g)

/-- The second moment's update of one element. -/
def newV (g v : Ideal .f32) : Ideal .f32 :=
  FloatOps.addf (FloatOps.mulf (lit 0x3F7FBE77#32) v) (FloatOps.mulf (lit 0x3A83126F#32) (FloatOps.mulf g g))

/-- The weight's change, from the two updated moments. -/
def change (nm nv w : Ideal .f32) : Ideal .f32 :=
  FloatOps.mulf (lit 0xBA83126F#32) (FloatOps.addf
    (FloatOps.divf (FloatOps.divf nm (lit 0x3F26BD02#32))
      (FloatOps.addf (FloatOps.sqrt (FloatOps.divf nv (lit 0x3C231ACC#32))) (lit 0x322BCC77#32)))
    (FloatOps.mulf (lit 0x3C23D70A#32) w))

/-- The sum of the parts of the gradient, as the reference takes it. -/
def grad (p : FVec Ideal S8x1024x258 .bf16) : FVec Ideal S1024x258 .f32 :=
  Host.reduceAdd (extf .f32 p Cert.Reference22Ideal.Gen.bitsLt_bf16_f32) (constant Cert.Reference22Ideal.S_ .f32 0x00000000#32)
    Cert.Reference22Ideal.Gen.reducesTo_S8x1024x258_S1024x258_d0 Cert.Reference22Ideal.Gen.h_S_

theorem grad_at (p : FVec Ideal S8x1024x258 .bf16) (r : Fin 1024) (l : Fin 258) :
    grad p (ix2 r l) = ∑ k : Fin 8, p (ix3 k r l) := by
  pointwise [grad]

theorem pay1_eq (g mo : FVec Ideal S512x258 .f32) :
    k0_pay1 g mo (lit 0x3F666666#32) = fun y => newM (g y) (mo y) := rfl

theorem pay2_eq (g v : FVec Ideal S512x258 .f32) : k0_pay2 g v = fun y => newV (g y) (v y) := rfl

theorem pay3_eq (g mo v w : FVec Ideal S512x258 .f32) :
    k0_pay3 g mo (lit 0x3F666666#32) v w = fun y => change (newM (g y) (mo y)) (newV (g y) (v y)) (w y) := rfl

/-- Where each window's block lies at grid point `t`. -/
theorem places : ∀ t : Fin cfg0.N, win0_0.index t = ![0, t.val, 0] ∧ win0_1.index t = ![t.val, 0]
    ∧ win0_2.index t = ![t.val, 0] ∧ win0_3.index t = ![t.val, 0] ∧ win0_4.index t = ![t.val, 0]
    ∧ win0_5.index t = ![t.val, 0] ∧ win0_6.index t = ![t.val, 0] ∧ win0_7.index t = ![t.val, 0] :=
  (by decide +kernel : ∀ t : Fin grid0.N, _)

/-- The parts of a tile of the gradient, added up. -/
theorem pay4_at (p0 p1 p2 p3 p4 p5 p6 p7 : FVec Ideal S1x512x258 .bf16) (r : Fin 512) (l : Fin 258) :
    k0_pay4 (F := Ideal) p0 p1 p2 p3 p4 p5 p6 p7 (ix2 r l)
    = p0 (ix3 0 r l) + p1 (ix3 0 r l) + p2 (ix3 0 r l) + p3 (ix3 0 r l) + p4 (ix3 0 r l) + p5 (ix3 0 r l)
      + p6 (ix3 0 r l) + p7 (ix3 0 r l) := by
  pointwise [k0_pay4]

/-- The place of a tile's element in the whole array. -/
def at_ (t : Fin cfg0.N) (y : S512x258.Idx) : S1024x258.Idx :=
  ix2 ⟨t.val * 512 + (y 0).val, by
    have ht : t.val < 2 := lt_of_lt_of_eq t.isLt N_0
    have h : (y 0).val < 512 := (y 0).isLt
    omega⟩ (y 1)

theorem emb4 (t : Fin cfg0.N) (y : S512x258.Idx) : ((cfg0.win 4).blk t).view.emb y = at_ t y := by
  idx_bounds y
  blk_ext [places t, at_]
theorem emb5 (t : Fin cfg0.N) (y : S512x258.Idx) : ((cfg0.win 5).blk t).view.emb y = at_ t y := by
  idx_bounds y
  blk_ext [places t, at_]
theorem emb6 (t : Fin cfg0.N) (y : S512x258.Idx) : ((cfg0.win 6).blk t).view.emb y = at_ t y := by
  idx_bounds y
  blk_ext [places t, at_]
theorem emb7 (t : Fin cfg0.N) (y : S512x258.Idx) : ((cfg0.win 7).blk t).view.emb y = at_ t y := by
  idx_bounds y
  blk_ext [places t, at_]

theorem blk1 (c : Dev nD) (t : Fin cfg0.N) (y : S512x258.Idx) :
    iblk m c 1 t y = m ((c : Thread nD τ).loc main_arg1) (at_ t y) := by
  idx_bounds y
  blk_point [iblk, V, places t, at_]
theorem blk2 (c : Dev nD) (t : Fin cfg0.N) (y : S512x258.Idx) :
    iblk m c 2 t y = m ((c : Thread nD τ).loc main_arg2) (at_ t y) := by
  idx_bounds y
  blk_point [iblk, V, places t, at_]
theorem blk3 (c : Dev nD) (t : Fin cfg0.N) (y : S512x258.Idx) :
    iblk m c 3 t y = m ((c : Thread nD τ).loc main_arg3) (at_ t y) := by
  idx_bounds y
  blk_point [iblk, V, places t, at_]

/-- The tile of the gradient at a grid point. -/
def tile (c : Dev nD) (t : Fin cfg0.N) : FVec Ideal S512x258 .f32 :=
  k0_pay5 (F := Ideal) (iblk m c 0 t) (iblk m c 1 t) (iblk m c 2 t) (iblk m c 3 t)

theorem tile_at (c : Dev nD) (t : Fin cfg0.N) (y : S512x258.Idx) :
    tile m c t y = grad (m ((c : Thread nD τ).loc main_arg0)) (at_ t y) := by
  have ht : t.val < 2 := lt_of_lt_of_eq t.isLt N_0
  refine ((congrArg _ (eq_ix2 y)).trans (pay4_at _ _ _ _ _ _ _ _ (y 0) (y 1))).trans
    (Eq.trans ?_ (grad_at _ _ _).symm)
  rw [Fin.sum_univ_eight]
  have hy0 : (y 0).val < 512 := (y 0).isLt
  blk_point [iblk, V, places t]

theorem left4 (c : Dev nD) (t : Fin cfg0.N) : (dats m 0 c).after 4 t = tile m c t := by
  rw [after0_4]; frame_out; rfl
theorem left6 (c : Dev nD) (t : Fin cfg0.N) : (dats m 0 c).after 6 t
    = k0_pay1 (tile m c t) (iblk m c 2 t) (lit 0x3F666666#32) := by
  rw [after0_6]; frame_out; rfl
theorem left7 (c : Dev nD) (t : Fin cfg0.N) : (dats m 0 c).after 7 t
    = k0_pay2 (tile m c t) (iblk m c 3 t) := by
  rw [after0_7]; frame_out; rfl
theorem left5 (c : Dev nD) (t : Fin cfg0.N) : (dats m 0 c).after 5 t
    = k0_pay3 (tile m c t) (iblk m c 2 t) (lit 0x3F666666#32) (iblk m c 3 t) (iblk m c 1 t) := by
  rw [after0_5]; frame_out; rfl

/-- The blocks written back tile each result array. -/
theorem tiles4 : (cfg0.win 4).Covers := by decide +kernel
theorem tiles5 : (cfg0.win 5).Covers := by decide +kernel
theorem tiles6 : (cfg0.win 6).Covers := by decide +kernel
theorem tiles7 : (cfg0.win 7).Covers := by decide +kernel

theorem final4 (c : Dev nD) : (dats m 0 c).arrAt 4 (cfgs 0).N = grad (m ((c : Thread nD τ).loc main_arg0)) := by
  refine (dats m 0 c).arrAt_eq_of_covers 4 _ tiles4 fun t _ y => ?_
  blk_simp
  rw [left4]
  exact (tile_at m c t y).trans (congrArg _ (emb4 t y).symm)

theorem final6 (c : Dev nD) : (dats m 0 c).arrAt 6 (cfgs 0).N
    = fun y => newM (grad (m ((c : Thread nD τ).loc main_arg0)) y) (m ((c : Thread nD τ).loc main_arg2) y) := by
  refine (dats m 0 c).arrAt_eq_of_covers 6 _ tiles6 fun t _ y => ?_
  blk_simp
  rw [left6, pay1_eq]
  show newM (tile m c t y) (iblk m c 2 t y) = _
  rw [tile_at, blk2, emb6]

theorem final7 (c : Dev nD) : (dats m 0 c).arrAt 7 (cfgs 0).N
    = fun y => newV (grad (m ((c : Thread nD τ).loc main_arg0)) y) (m ((c : Thread nD τ).loc main_arg3) y) := by
  refine (dats m 0 c).arrAt_eq_of_covers 7 _ tiles7 fun t _ y => ?_
  blk_simp
  rw [left7, pay2_eq]
  show newV (tile m c t y) (iblk m c 3 t y) = _
  rw [tile_at, blk3, emb7]

theorem final5 (c : Dev nD) : (dats m 0 c).arrAt 5 (cfgs 0).N
    = fun y => change (newM (grad (m ((c : Thread nD τ).loc main_arg0)) y) (m ((c : Thread nD τ).loc main_arg2) y))
        (newV (grad (m ((c : Thread nD τ).loc main_arg0)) y) (m ((c : Thread nD τ).loc main_arg3) y))
        (m ((c : Thread nD τ).loc main_arg1) y) := by
  refine (dats m 0 c).arrAt_eq_of_covers 5 _ tiles5 fun t _ y => ?_
  blk_simp
  rw [left5, pay3_eq]
  show change (newM (tile m c t y) (iblk m c 2 t y)) (newV (tile m c t y) (iblk m c 3 t y)) (iblk m c 1 t y) = _
  rw [tile_at, blk1, blk2, blk3, emb5]

/-- A constant spread over the whole array, as the reference writes it. -/
abbrev spread (b : BitVec 32) : FVec Ideal S1024x258 .f32 :=
  broadcastInDim S1024x258 ![] Cert.Reference22Ideal.Gen.bcast_S_S1024x258 (constant Cert.Reference22Ideal.S_ .f32 b)

theorem ref_m (g mo : FVec Ideal S1024x258 .f32) :
    addf (mulf (spread 0x3F666666#32) mo) (mulf (spread 0x3DCCCCCD#32) g) = fun y => newM (g y) (mo y) := rfl

theorem ref_v (g v : FVec Ideal S1024x258 .f32) :
    addf (mulf (spread 0x3F7FBE77#32) v) (mulf (spread 0x3A83126F#32) (mulf g g)) = fun y => newV (g y) (v y) := rfl

theorem ref_d (nm nv w : FVec Ideal S1024x258 .f32) :
    mulf (spread 0xBA83126F#32) (addf
      (Host.divf (Host.divf nm (spread 0x3F26BD02#32))
        (addf (Host.sqrt (Host.divf nv (spread 0x3C231ACC#32))) (spread 0x322BCC77#32)))
      (mulf (spread 0x3C23D70A#32) w)) = fun y => change (nm y) (nv y) (w y) := rfl

end Cert.AdamKvf

set_option maxHeartbeats 4000000 in
/-- The kernel and the reference end with equal results. -/
theorem Cert.AdamKvf.algebraic : Cert.algebraic_Kernel22Ideal_Reference22Ideal := by
  pair_intro
  · run_from Cert.Kernel22Ideal.Gen.run_main m g
  · run_from Cert.Reference22Ideal.Value.run m' g'
    · exact (Cert.AdamKvf.final4 m c).symm
    · exact (Cert.AdamKvf.ref_d _ _ _).trans (Cert.AdamKvf.final5 m c).symm
    · exact (Cert.AdamKvf.ref_m _ _).trans (Cert.AdamKvf.final6 m c).symm
    · exact (Cert.AdamKvf.ref_v _ _).trans (Cert.AdamKvf.final7 m c).symm

end
-- ==== Proof.AdamPack.lean ====
/-
  The small weights' elements laid one after another in the rows of one array: the kernel's way (the arrays joined, then
  padded) and the reference's (zeros joined behind them) are the same, and an update of single elements that keeps zero
  commutes with it.
-/
module

public import proofs.«01_k».proof.Defs
public import proofs.«01_k».proof.Proof.Gen.Kernel23Ideal
public import proofs.«01_k».proof.Proof.Gen.Reference23Ideal
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.AdamPack

open Cert.Reference23Ideal Cert.Reference23Ideal.Gen

/-- The five arrays joined, zeros behind them. -/
def flat (a : FVec Ideal S2048 .f32) (b : FVec Ideal S1024 .f32) (c : FVec Ideal S16 .f32) (d : FVec Ideal S8448 .f32)
    (e : FVec Ideal S22528 .f32) : FVec Ideal S40960 .f32 :=
  concatenate S40960 0 [⟨S2048, a⟩, ⟨S1024, b⟩, ⟨S16, c⟩, ⟨S8448, d⟩, ⟨S22528, e⟩,
    ⟨S6896, broadcastInDim S6896 ![] bcast_S_S6896 (constant (F := Ideal) S_ .f32 0x00000000#32)⟩]
    concatenates_S2048_S1024_S16_S8448_S22528_S6896_S40960_d0

/-- The rows of one array that hold the five arrays' elements. -/
def rows (a : FVec Ideal S4x4x128 .f32) (b : FVec Ideal S1024 .f32) (c : FVec Ideal S16 .f32)
    (d : FVec Ideal S4x3x704 .f32) (e : FVec Ideal S4x5632 .f32) : FVec Ideal S320x128 .f32 :=
  shapeCast S320x128 (flat (shapeCast S2048 a shapeCasts_S4x4x128_S2048) b c (shapeCast S8448 d shapeCasts_S4x3x704_S8448)
    (shapeCast S22528 e shapeCasts_S4x5632_S22528)) shapeCasts_S40960_S320x128

theorem zero_lit : (FloatOps.ofBits .f32 0x00000000#32 : Ideal .f32) = (0 : EReal) := by
  simp [Ideal.ofBits, Ideal.ieee]

theorem zero_int : (FloatOps.sitofp .f32 (0#32) : Ideal .f32) = (0 : EReal) := by
  show (((0#32 : BitVec 32).toInt : ℝ) : EReal) = 0
  simp

/-- An update of single elements that keeps zero, of the joined arrays. -/
theorem flat_map (f : Ideal .f32 → Ideal .f32 → Ideal .f32 → Ideal .f32 → Ideal .f32)
    (hf : f (0 : EReal) (0 : EReal) (0 : EReal) (0 : EReal) = (0 : EReal))
    (a₁ a₂ a₃ a₄ : FVec Ideal S2048 .f32) (b₁ b₂ b₃ b₄ : FVec Ideal S1024 .f32) (c₁ c₂ c₃ c₄ : FVec Ideal S16 .f32)
    (d₁ d₂ d₃ d₄ : FVec Ideal S8448 .f32) (e₁ e₂ e₃ e₄ : FVec Ideal S22528 .f32) (j : S40960.Idx) :
    f (flat a₁ b₁ c₁ d₁ e₁ j) (flat a₂ b₂ c₂ d₂ e₂ j) (flat a₃ b₃ c₃ d₃ e₃ j) (flat a₄ b₄ c₄ d₄ e₄ j)
    = flat (fun y => f (a₁ y) (a₂ y) (a₃ y) (a₄ y)) (fun y => f (b₁ y) (b₂ y) (b₃ y) (b₄ y))
        (fun y => f (c₁ y) (c₂ y) (c₃ y) (c₄ y)) (fun y => f (d₁ y) (d₂ y) (d₃ y) (d₄ y))
        (fun y => f (e₁ y) (e₂ y) (e₃ y) (e₄ y)) j := by
  idx_vars j
  pointwise [flat]
  split_ifs <;> first | rfl | exact hf

/-- And of the rows. -/
theorem rows_map (f : Ideal .f32 → Ideal .f32 → Ideal .f32 → Ideal .f32 → Ideal .f32)
    (hf : f (0 : EReal) (0 : EReal) (0 : EReal) (0 : EReal) = (0 : EReal))
    (a₁ a₂ a₃ a₄ : FVec Ideal S4x4x128 .f32) (b₁ b₂ b₃ b₄ : FVec Ideal S1024 .f32) (c₁ c₂ c₃ c₄ : FVec Ideal S16 .f32)
    (d₁ d₂ d₃ d₄ : FVec Ideal S4x3x704 .f32) (e₁ e₂ e₃ e₄ : FVec Ideal S4x5632 .f32) :
    (fun y => f (rows a₁ b₁ c₁ d₁ e₁ y) (rows a₂ b₂ c₂ d₂ e₂ y) (rows a₃ b₃ c₃ d₃ e₃ y) (rows a₄ b₄ c₄ d₄ e₄ y))
    = rows (fun y => f (a₁ y) (a₂ y) (a₃ y) (a₄ y)) (fun y => f (b₁ y) (b₂ y) (b₃ y) (b₄ y))
        (fun y => f (c₁ y) (c₂ y) (c₃ y) (c₄ y)) (fun y => f (d₁ y) (d₂ y) (d₃ y) (d₄ y))
        (fun y => f (e₁ y) (e₂ y) (e₃ y) (e₄ y)) :=
  funext fun y => flat_map f hf _ _ _ _ _ _ _ _ _ _ _ _ _ _ _ _ _ _ _ _ _

/-- The kernel's way of laying the arrays out. -/
def packed (a : FVec Ideal S4x4x128 .f32) (b : FVec Ideal S1024 .f32) (c : FVec Ideal S16 .f32)
    (d : FVec Ideal S4x3x704 .f32) (e : FVec Ideal S4x5632 .f32) : FVec Ideal S320x128 .f32 :=
  shapeCast S320x128 (pad S40960 ![0] ![6896] ![0]
    (concatenate Cert.Kernel23Ideal.S34064 0 [⟨S2048, shapeCast S2048 a shapeCasts_S4x4x128_S2048⟩, ⟨S1024, b⟩, ⟨S16, c⟩,
      ⟨S8448, shapeCast S8448 d shapeCasts_S4x3x704_S8448⟩, ⟨S22528, shapeCast S22528 e shapeCasts_S4x5632_S22528⟩]
      Cert.Kernel23Ideal.Gen.concatenates_S2048_S1024_S16_S8448_S22528_S34064_d0)
    (sitofp (F := Ideal) .f32 (constantI S_ 32 0#32)) Cert.Kernel23Ideal.Gen.pads_S34064_S40960_068960
    Cert.Kernel23Ideal.Gen.h_S_) shapeCasts_S40960_S320x128

theorem flat_eq (a : FVec Ideal S2048 .f32) (b : FVec Ideal S1024 .f32) (c : FVec Ideal S16 .f32) (d : FVec Ideal S8448 .f32)
    (e : FVec Ideal S22528 .f32) :
    pad S40960 ![0] ![6896] ![0]
      (concatenate Cert.Kernel23Ideal.S34064 0 [⟨S2048, a⟩, ⟨S1024, b⟩, ⟨S16, c⟩, ⟨S8448, d⟩, ⟨S22528, e⟩]
        Cert.Kernel23Ideal.Gen.concatenates_S2048_S1024_S16_S8448_S22528_S34064_d0)
      (sitofp (F := Ideal) .f32 (constantI S_ 32 0#32)) Cert.Kernel23Ideal.Gen.pads_S34064_S40960_068960
      Cert.Kernel23Ideal.Gen.h_S_ = flat a b c d e := by
  funext j
  idx_vars j
  pointwise [flat]
  split_ifs <;> try (first | omega | with_reducible rfl)
  · have h : j0.val - 2048 - 1024 - 16 - 8448 < 22528 := by omega
    first | rw [dif_pos h] | simp only [h, dif_pos] | (split; rfl; contradiction)
  · exact zero_int

theorem packed_eq (a : FVec Ideal S4x4x128 .f32) (b : FVec Ideal S1024 .f32) (c : FVec Ideal S16 .f32)
    (d : FVec Ideal S4x3x704 .f32) (e : FVec Ideal S4x5632 .f32) : packed a b c d e = rows a b c d e :=
  congrArg (fun z => shapeCast S320x128 z shapeCasts_S40960_S320x128) (flat_eq _ _ _ _ _)

end Cert.AdamPack

end
-- ==== Proof.AdamSmall.lean ====
/-
  The optimiser's step of the five small weights, whose elements lie one after another in the rows of one array: each
  grid point updates a tile of those rows element by element, as the reference does to each weight by itself.
-/
module

public import proofs.«01_k».proof.Defs
public import proofs.«01_k».proof.Proof.Gen.Kernel23Ideal.Value
public import proofs.«01_k».proof.Proof.Gen.Reference23Ideal.Run
public import proofs.«01_k».proof.Proof.AdamPack
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AdamSmall

open Cert.Kernel23Ideal Cert.Kernel23Ideal.Gen
open Cert.AdamPack (flat rows packed packed_eq rows_map)

variable (m : (ℓ : Loc nD τ sig) → Buf (Elt Ideal) ℓ)

/-- A constant's value. -/
abbrev lit (b : BitVec 32) : Ideal .f32 := FloatOps.ofBits .f32 b

/-- The first moment's update of one element. -/
def newM (g mo : Ideal .f32) : Ideal .f32 :=
  FloatOps.addf (FloatOps.mulf (lit 0x3F666666#32) mo) (FloatOps.mulf (lit 0x3DCCCCCD#32) g)

/-- The second moment's update of one element. -/
def newV (g v : Ideal .f32) : Ideal .f32 :=
  FloatOps.addf (FloatOps.mulf (lit 0x3F7FBE77#32) v) (FloatOps.mulf (lit 0x3A83126F#32) (FloatOps.mulf g g))

/-- The weight's change, from the two updated moments. -/
def change (nm nv w : Ideal .f32) : Ideal .f32 :=
  FloatOps.mulf (lit 0xBA83126F#32) (FloatOps.addf
    (FloatOps.divf (FloatOps.divf nm (lit 0x3F26BD02#32))
      (FloatOps.addf (FloatOps.sqrt (FloatOps.divf nv (lit 0x3C231ACC#32))) (lit 0x322BCC77#32)))
    (FloatOps.mulf (lit 0x3C23D70A#32) w))

/-- Where nothing is stored, nothing changes. -/
theorem newM_zero : newM (0 : EReal) (0 : EReal) = (0 : EReal) := by
  show (lit 0x3F666666#32 : EReal) * 0 + (lit 0x3DCCCCCD#32 : EReal) * 0 = 0
  simp
theorem newV_zero : newV (0 : EReal) (0 : EReal) = (0 : EReal) := by
  show (lit 0x3F7FBE77#32 : EReal) * 0 + (lit 0x3A83126F#32 : EReal) * (0 * 0) = 0
  simp
theorem lit_c1 : (lit 0x3F26BD02#32 : EReal) ≠ 0 := by
  simp [Ideal.ofBits, Ideal.ieee, -EReal.coe_mul]
theorem lit_c2 : (lit 0x3C231ACC#32 : EReal) ≠ 0 := by
  simp [Ideal.ofBits, Ideal.ieee, -EReal.coe_mul]
theorem lit_eps : (lit 0x322BCC77#32 : EReal) ≠ 0 := by
  simp [Ideal.ofBits, Ideal.ieee, -EReal.coe_mul]
theorem div_zero_left (b : EReal) (h : b ≠ 0) : Ideal.div 0 b = 0 := by
  simp [Ideal.div, h]
theorem sqrt_zero : Ideal.sqrt 0 = 0 := by
  simpa using Ideal.sqrt_coe 0
theorem change_zero : change (0 : EReal) (0 : EReal) (0 : EReal) = (0 : EReal) := by
  show (lit 0xBA83126F#32 : EReal) * (Ideal.div (Ideal.div 0 (lit 0x3F26BD02#32))
    (Ideal.sqrt (Ideal.div 0 (lit 0x3C231ACC#32)) + lit 0x322BCC77#32) + (lit 0x3C23D70A#32 : EReal) * 0) = 0
  rw [div_zero_left _ lit_c1, div_zero_left _ lit_c2, sqrt_zero, zero_add, div_zero_left _ lit_eps, mul_zero, zero_add,
    mul_zero]

theorem pay2_at (p : FVec Ideal S1x64x128 .f32) (r : Fin 64) (l : Fin 128) :
    k0_pay2 (F := Ideal) p (ix2 r l) = p (ix3 0 r l) := by
  pointwise [k0_pay2]

theorem pay3_at (p : FVec Ideal S1x64x128 .f32) (mo : FVec Ideal S64x128 .f32) (y : S64x128.Idx) :
    k0_pay3 p mo y = newM (k0_pay2 p y) (mo y) := by
  have e : shapeCast S64x128 mo shapeCasts_S64x128_S64x128 = mo := shapeCast_self _ _
  show newM (k0_pay2 p y) (shapeCast S64x128 mo shapeCasts_S64x128_S64x128 y) = _
  rw [e]

theorem pay4_at (p : FVec Ideal S1x64x128 .f32) (v : FVec Ideal S64x128 .f32) (y : S64x128.Idx) :
    k0_pay4 p v y = newV (k0_pay2 p y) (v y) := by
  have e : shapeCast S64x128 v shapeCasts_S64x128_S64x128 = v := shapeCast_self _ _
  show newV (k0_pay2 p y) (shapeCast S64x128 v shapeCasts_S64x128_S64x128 y) = _
  rw [e]

theorem pay5_at (p : FVec Ideal S1x64x128 .f32) (mo v w : FVec Ideal S64x128 .f32) (y : S64x128.Idx) :
    k0_pay1 (k0_pay5 p mo v w) y = change (newM (k0_pay2 p y) (mo y)) (newV (k0_pay2 p y) (v y)) (w y) := by
  have e : shapeCast S64x128 w shapeCasts_S64x128_S64x128 = w := shapeCast_self _ _
  show change (k0_pay3 p mo y) (k0_pay4 p v y) (shapeCast S64x128 w shapeCasts_S64x128_S64x128 y) = _
  rw [e, pay3_at, pay4_at]

/-- Where each window's block lies at grid point `t`. -/
theorem places : ∀ t : Fin cfg0.N, win0_0.index t = ![0, t.val, 0] ∧ win0_1.index t = ![t.val, 0]
    ∧ win0_2.index t = ![t.val, 0] ∧ win0_3.index t = ![t.val, 0] ∧ win0_4.index t = ![t.val, 0]
    ∧ win0_5.index t = ![t.val, 0] ∧ win0_6.index t = ![t.val, 0] ∧ win0_7.index t = ![t.val, 0] :=
  (by decide +kernel : ∀ t : Fin grid0.N, _)

/-- The place of a tile's element in the whole array. -/
def at_ (t : Fin cfg0.N) (y : S64x128.Idx) : S320x128.Idx :=
  ix2 ⟨t.val * 64 + (y 0).val, by
    have ht : t.val < 5 := lt_of_lt_of_eq t.isLt N_0
    have h : (y 0).val < 64 := (y 0).isLt
    omega⟩ (y 1)

theorem emb4 (t : Fin cfg0.N) (y : S64x128.Idx) : ((cfg0.win 4).blk t).view.emb y = at_ t y := by
  idx_bounds y
  blk_ext [places t, at_]
theorem emb5 (t : Fin cfg0.N) (y : S64x128.Idx) : ((cfg0.win 5).blk t).view.emb y = at_ t y := by
  idx_bounds y
  blk_ext [places t, at_]
theorem emb6 (t : Fin cfg0.N) (y : S64x128.Idx) : ((cfg0.win 6).blk t).view.emb y = at_ t y := by
  idx_bounds y
  blk_ext [places t, at_]
theorem emb7 (t : Fin cfg0.N) (y : S64x128.Idx) : ((cfg0.win 7).blk t).view.emb y = at_ t y := by
  idx_bounds y
  blk_ext [places t, at_]

/-- The five arrays of one kind, laid out, by the first one's place among the arguments. -/
def gAll (c : Dev nD) : FVec Ideal S320x128 .f32 :=
  packed (m ((c : Thread nD τ).loc main_arg0)) (m ((c : Thread nD τ).loc main_arg1)) (m ((c : Thread nD τ).loc main_arg2))
    (m ((c : Thread nD τ).loc main_arg3)) (m ((c : Thread nD τ).loc main_arg4))
def wAll (c : Dev nD) : FVec Ideal S320x128 .f32 :=
  packed (m ((c : Thread nD τ).loc main_arg5)) (m ((c : Thread nD τ).loc main_arg6)) (m ((c : Thread nD τ).loc main_arg7))
    (m ((c : Thread nD τ).loc main_arg8)) (m ((c : Thread nD τ).loc main_arg9))
def mAll (c : Dev nD) : FVec Ideal S320x128 .f32 :=
  packed (m ((c : Thread nD τ).loc main_arg10)) (m ((c : Thread nD τ).loc main_arg11)) (m ((c : Thread nD τ).loc main_arg12))
    (m ((c : Thread nD τ).loc main_arg13)) (m ((c : Thread nD τ).loc main_arg14))
def vAll (c : Dev nD) : FVec Ideal S320x128 .f32 :=
  packed (m ((c : Thread nD τ).loc main_arg15)) (m ((c : Thread nD τ).loc main_arg16)) (m ((c : Thread nD τ).loc main_arg17))
    (m ((c : Thread nD τ).loc main_arg18)) (m ((c : Thread nD τ).loc main_arg19))

theorem host_g (c : Dev nD) : V m c main_v6
    = broadcastInDim S1x320x128 ![1, 2] bcast_S320x128_S1x320x128_1_2 (gAll m c) := by
  unfold_abbrev_sides
  after_results
  rfl
theorem host_w (c : Dev nD) : V m c main_v12 = wAll m c := by
  entry_read
  rfl
theorem host_m (c : Dev nD) : V m c main_v18 = mAll m c := by
  entry_read
  rfl
theorem host_v (c : Dev nD) : V m c main_v24 = vAll m c := by
  entry_read
  rfl

theorem blk1 (c : Dev nD) (t : Fin cfg0.N) (y : S64x128.Idx) : iblk m c 1 t y = wAll m c (at_ t y) := by
  rw [← host_w]
  idx_bounds y
  blk_point [iblk, places t, at_]
theorem blk2 (c : Dev nD) (t : Fin cfg0.N) (y : S64x128.Idx) : iblk m c 2 t y = mAll m c (at_ t y) := by
  rw [← host_m]
  idx_bounds y
  blk_point [iblk, places t, at_]
theorem blk3 (c : Dev nD) (t : Fin cfg0.N) (y : S64x128.Idx) : iblk m c 3 t y = vAll m c (at_ t y) := by
  rw [← host_v]
  idx_bounds y
  blk_point [iblk, places t, at_]

theorem blk0 (c : Dev nD) (t : Fin cfg0.N) (r : Fin 64) (l : Fin 128) :
    iblk m c 0 t (ix3 0 r l) = V m c main_v6 (ix3 0 (at_ t (ix2 r l) 0) l) := by
  have hr : r.val < 64 := r.isLt
  blk_point [iblk, places t, at_]

theorem spread_at (x : FVec Ideal S320x128 .f32) (r : Fin 320) (l : Fin 128) :
    broadcastInDim S1x320x128 ![1, 2] bcast_S320x128_S1x320x128_1_2 x (ix3 0 r l) = x (ix2 r l) := by
  pointwise []

theorem tile_at (c : Dev nD) (t : Fin cfg0.N) (y : S64x128.Idx) :
    k0_pay2 (F := Ideal) (iblk m c 0 t) y = gAll m c (at_ t y) := by
  refine ((congrArg _ (eq_ix2 y)).trans (pay2_at _ (y 0) (y 1))).trans ((blk0 m c t (y 0) (y 1)).trans ?_)
  rw [host_g]
  exact spread_at _ _ _

theorem left4 (c : Dev nD) (t : Fin cfg0.N) : (dats m 0 c).after 4 t = k0_pay2 (F := Ideal) (iblk m c 0 t) := by
  rw [after0_4]; frame_out
theorem left6 (c : Dev nD) (t : Fin cfg0.N) : (dats m 0 c).after 6 t
    = k0_pay3 (F := Ideal) (iblk m c 0 t) (iblk m c 2 t) := by
  rw [after0_6]; frame_out
theorem left7 (c : Dev nD) (t : Fin cfg0.N) : (dats m 0 c).after 7 t
    = k0_pay4 (F := Ideal) (iblk m c 0 t) (iblk m c 3 t) := by
  rw [after0_7]; frame_out
theorem left5 (c : Dev nD) (t : Fin cfg0.N) : (dats m 0 c).after 5 t
    = k0_pay1 (F := Ideal) (k0_pay5 (iblk m c 0 t) (iblk m c 2 t) (iblk m c 3 t) (iblk m c 1 t)) := by
  rw [after0_5]; frame_out

/-- The blocks written back tile each result array. -/
theorem tiles4 : (cfg0.win 4).Covers := by decide +kernel
theorem tiles5 : (cfg0.win 5).Covers := by decide +kernel
theorem tiles6 : (cfg0.win 6).Covers := by decide +kernel
theorem tiles7 : (cfg0.win 7).Covers := by decide +kernel

theorem final4 (c : Dev nD) : (dats m 0 c).arrAt 4 (cfgs 0).N = gAll m c := by
  refine (dats m 0 c).arrAt_eq_of_covers 4 _ tiles4 fun t _ y => ?_
  blk_simp
  rw [left4]
  exact (tile_at m c t y).trans (congrArg _ (emb4 t y).symm)

theorem final6 (c : Dev nD) : (dats m 0 c).arrAt 6 (cfgs 0).N = fun y => newM (gAll m c y) (mAll m c y) := by
  refine (dats m 0 c).arrAt_eq_of_covers 6 _ tiles6 fun t _ y => ?_
  blk_simp
  rw [left6]
  refine (pay3_at _ _ y).trans ?_
  rw [tile_at, blk2, emb6]

theorem final7 (c : Dev nD) : (dats m 0 c).arrAt 7 (cfgs 0).N = fun y => newV (gAll m c y) (vAll m c y) := by
  refine (dats m 0 c).arrAt_eq_of_covers 7 _ tiles7 fun t _ y => ?_
  blk_simp
  rw [left7]
  refine (pay4_at _ _ y).trans ?_
  rw [tile_at, blk3, emb7]

theorem final5 (c : Dev nD) : (dats m 0 c).arrAt 5 (cfgs 0).N
    = fun y => change (newM (gAll m c y) (mAll m c y)) (newV (gAll m c y) (vAll m c y)) (wAll m c y) := by
  refine (dats m 0 c).arrAt_eq_of_covers 5 _ tiles5 fun t _ y => ?_
  blk_simp
  rw [left5]
  refine (pay5_at _ _ _ _ y).trans ?_
  rw [tile_at, blk1, blk2, blk3, emb5]

/-- The updates of a whole weight. -/
def upM {s : Shape} (g mo : FVec Ideal s .f32) : FVec Ideal s .f32 := fun y => newM (g y) (mo y)
def upV {s : Shape} (g v : FVec Ideal s .f32) : FVec Ideal s .f32 := fun y => newV (g y) (v y)
def upD {s : Shape} (g w mo v : FVec Ideal s .f32) : FVec Ideal s .f32 :=
  fun y => change (newM (g y) (mo y)) (newV (g y) (v y)) (w y)

/-- Each result array, as the five weights' own results laid out. -/
theorem end4 (c : Dev nD) : (dats m 0 c).arrAt 4 (cfgs 0).N
    = rows (m ((c : Thread nD τ).loc main_arg0))
        (m ((c : Thread nD τ).loc main_arg1))
        (m ((c : Thread nD τ).loc main_arg2))
        (m ((c : Thread nD τ).loc main_arg3))
        (m ((c : Thread nD τ).loc main_arg4)) :=
  (final4 m c).trans (packed_eq _ _ _ _ _)
theorem end5 (c : Dev nD) : (dats m 0 c).arrAt 5 (cfgs 0).N
    = rows (upD (m ((c : Thread nD τ).loc main_arg0)) (m ((c : Thread nD τ).loc main_arg5)) (m ((c : Thread nD τ).loc main_arg10)) (m ((c : Thread nD τ).loc main_arg15)))
        (upD (m ((c : Thread nD τ).loc main_arg1)) (m ((c : Thread nD τ).loc main_arg6)) (m ((c : Thread nD τ).loc main_arg11)) (m ((c : Thread nD τ).loc main_arg16)))
        (upD (m ((c : Thread nD τ).loc main_arg2)) (m ((c : Thread nD τ).loc main_arg7)) (m ((c : Thread nD τ).loc main_arg12)) (m ((c : Thread nD τ).loc main_arg17)))
        (upD (m ((c : Thread nD τ).loc main_arg3)) (m ((c : Thread nD τ).loc main_arg8)) (m ((c : Thread nD τ).loc main_arg13)) (m ((c : Thread nD τ).loc main_arg18)))
        (upD (m ((c : Thread nD τ).loc main_arg4)) (m ((c : Thread nD τ).loc main_arg9)) (m ((c : Thread nD τ).loc main_arg14)) (m ((c : Thread nD τ).loc main_arg19))) := by
  refine (final5 m c).trans ?_
  simp only [gAll, wAll, mAll, vAll, packed_eq]
  exact rows_map (fun g w mo v => change (newM g mo) (newV g v) w) (by rw [newM_zero, newV_zero, change_zero])
    (m ((c : Thread nD τ).loc main_arg0)) (m ((c : Thread nD τ).loc main_arg5)) (m ((c : Thread nD τ).loc main_arg10)) (m ((c : Thread nD τ).loc main_arg15))
    (m ((c : Thread nD τ).loc main_arg1)) (m ((c : Thread nD τ).loc main_arg6)) (m ((c : Thread nD τ).loc main_arg11)) (m ((c : Thread nD τ).loc main_arg16))
    (m ((c : Thread nD τ).loc main_arg2)) (m ((c : Thread nD τ).loc main_arg7)) (m ((c : Thread nD τ).loc main_arg12)) (m ((c : Thread nD τ).loc main_arg17))
    (m ((c : Thread nD τ).loc main_arg3)) (m ((c : Thread nD τ).loc main_arg8)) (m ((c : Thread nD τ).loc main_arg13)) (m ((c : Thread nD τ).loc main_arg18))
    (m ((c : Thread nD τ).loc main_arg4)) (m ((c : Thread nD τ).loc main_arg9)) (m ((c : Thread nD τ).loc main_arg14)) (m ((c : Thread nD τ).loc main_arg19))
theorem end6 (c : Dev nD) : (dats m 0 c).arrAt 6 (cfgs 0).N
    = rows (upM (m ((c : Thread nD τ).loc main_arg0)) (m ((c : Thread nD τ).loc main_arg10)))
        (upM (m ((c : Thread nD τ).loc main_arg1)) (m ((c : Thread nD τ).loc main_arg11)))
        (upM (m ((c : Thread nD τ).loc main_arg2)) (m ((c : Thread nD τ).loc main_arg12)))
        (upM (m ((c : Thread nD τ).loc main_arg3)) (m ((c : Thread nD τ).loc main_arg13)))
        (upM (m ((c : Thread nD τ).loc main_arg4)) (m ((c : Thread nD τ).loc main_arg14))) := by
  refine (final6 m c).trans ?_
  simp only [gAll, mAll, packed_eq]
  exact rows_map (fun g w mo v => newM g mo) newM_zero
    (m ((c : Thread nD τ).loc main_arg0)) (m ((c : Thread nD τ).loc main_arg5)) (m ((c : Thread nD τ).loc main_arg10)) (m ((c : Thread nD τ).loc main_arg15))
    (m ((c : Thread nD τ).loc main_arg1)) (m ((c : Thread nD τ).loc main_arg6)) (m ((c : Thread nD τ).loc main_arg11)) (m ((c : Thread nD τ).loc main_arg16))
    (m ((c : Thread nD τ).loc main_arg2)) (m ((c : Thread nD τ).loc main_arg7)) (m ((c : Thread nD τ).loc main_arg12)) (m ((c : Thread nD τ).loc main_arg17))
    (m ((c : Thread nD τ).loc main_arg3)) (m ((c : Thread nD τ).loc main_arg8)) (m ((c : Thread nD τ).loc main_arg13)) (m ((c : Thread nD τ).loc main_arg18))
    (m ((c : Thread nD τ).loc main_arg4)) (m ((c : Thread nD τ).loc main_arg9)) (m ((c : Thread nD τ).loc main_arg14)) (m ((c : Thread nD τ).loc main_arg19))
theorem end7 (c : Dev nD) : (dats m 0 c).arrAt 7 (cfgs 0).N
    = rows (upV (m ((c : Thread nD τ).loc main_arg0)) (m ((c : Thread nD τ).loc main_arg15)))
        (upV (m ((c : Thread nD τ).loc main_arg1)) (m ((c : Thread nD τ).loc main_arg16)))
        (upV (m ((c : Thread nD τ).loc main_arg2)) (m ((c : Thread nD τ).loc main_arg17)))
        (upV (m ((c : Thread nD τ).loc main_arg3)) (m ((c : Thread nD τ).loc main_arg18)))
        (upV (m ((c : Thread nD τ).loc main_arg4)) (m ((c : Thread nD τ).loc main_arg19))) := by
  refine (final7 m c).trans ?_
  simp only [gAll, vAll, packed_eq]
  exact rows_map (fun g w mo v => newV g v) newV_zero
    (m ((c : Thread nD τ).loc main_arg0)) (m ((c : Thread nD τ).loc main_arg5)) (m ((c : Thread nD τ).loc main_arg10)) (m ((c : Thread nD τ).loc main_arg15))
    (m ((c : Thread nD τ).loc main_arg1)) (m ((c : Thread nD τ).loc main_arg6)) (m ((c : Thread nD τ).loc main_arg11)) (m ((c : Thread nD τ).loc main_arg16))
    (m ((c : Thread nD τ).loc main_arg2)) (m ((c : Thread nD τ).loc main_arg7)) (m ((c : Thread nD τ).loc main_arg12)) (m ((c : Thread nD τ).loc main_arg17))
    (m ((c : Thread nD τ).loc main_arg3)) (m ((c : Thread nD τ).loc main_arg8)) (m ((c : Thread nD τ).loc main_arg13)) (m ((c : Thread nD τ).loc main_arg18))
    (m ((c : Thread nD τ).loc main_arg4)) (m ((c : Thread nD τ).loc main_arg9)) (m ((c : Thread nD τ).loc main_arg14)) (m ((c : Thread nD τ).loc main_arg19))

end Cert.AdamSmall

set_option maxHeartbeats 4000000 in
/-- The kernel and the reference end with equal results. -/
theorem Cert.AdamSmall.algebraic : Cert.algebraic_Kernel23Ideal_Reference23Ideal := by
  pair_intro
  · run_from Cert.Kernel23Ideal.Gen.run_main m g
    all_goals first
      | with_reducible exact Cert.Kernel23Ideal.Gen.V_main_arg0 m c
      | with_reducible exact Cert.Kernel23Ideal.Gen.V_main_arg1 m c
      | with_reducible exact Cert.Kernel23Ideal.Gen.V_main_arg2 m c
      | with_reducible exact Cert.Kernel23Ideal.Gen.V_main_arg3 m c
      | with_reducible exact Cert.Kernel23Ideal.Gen.V_main_arg4 m c
      | with_reducible exact Cert.Kernel23Ideal.Gen.V_main_arg5 m c
      | with_reducible exact Cert.Kernel23Ideal.Gen.V_main_arg6 m c
      | with_reducible exact Cert.Kernel23Ideal.Gen.V_main_arg7 m c
      | with_reducible exact Cert.Kernel23Ideal.Gen.V_main_arg8 m c
      | with_reducible exact Cert.Kernel23Ideal.Gen.V_main_arg9 m c
      | with_reducible exact Cert.Kernel23Ideal.Gen.V_main_arg10 m c
      | with_reducible exact Cert.Kernel23Ideal.Gen.V_main_arg11 m c
      | with_reducible exact Cert.Kernel23Ideal.Gen.V_main_arg12 m c
      | with_reducible exact Cert.Kernel23Ideal.Gen.V_main_arg13 m c
      | with_reducible exact Cert.Kernel23Ideal.Gen.V_main_arg14 m c
      | with_reducible exact Cert.Kernel23Ideal.Gen.V_main_arg15 m c
      | with_reducible exact Cert.Kernel23Ideal.Gen.V_main_arg16 m c
      | with_reducible exact Cert.Kernel23Ideal.Gen.V_main_arg17 m c
      | with_reducible exact Cert.Kernel23Ideal.Gen.V_main_arg18 m c
      | with_reducible exact Cert.Kernel23Ideal.Gen.V_main_arg19 m c
      | exact Cert.Kernel23Ideal.Gen.V_main_arg0 m c
      | exact Cert.Kernel23Ideal.Gen.V_main_arg1 m c
      | exact Cert.Kernel23Ideal.Gen.V_main_arg2 m c
      | exact Cert.Kernel23Ideal.Gen.V_main_arg3 m c
      | exact Cert.Kernel23Ideal.Gen.V_main_arg4 m c
      | exact Cert.Kernel23Ideal.Gen.V_main_arg5 m c
      | exact Cert.Kernel23Ideal.Gen.V_main_arg6 m c
      | exact Cert.Kernel23Ideal.Gen.V_main_arg7 m c
      | exact Cert.Kernel23Ideal.Gen.V_main_arg8 m c
      | exact Cert.Kernel23Ideal.Gen.V_main_arg9 m c
      | exact Cert.Kernel23Ideal.Gen.V_main_arg10 m c
      | exact Cert.Kernel23Ideal.Gen.V_main_arg11 m c
      | exact Cert.Kernel23Ideal.Gen.V_main_arg12 m c
      | exact Cert.Kernel23Ideal.Gen.V_main_arg13 m c
      | exact Cert.Kernel23Ideal.Gen.V_main_arg14 m c
      | exact Cert.Kernel23Ideal.Gen.V_main_arg15 m c
      | exact Cert.Kernel23Ideal.Gen.V_main_arg16 m c
      | exact Cert.Kernel23Ideal.Gen.V_main_arg17 m c
      | exact Cert.Kernel23Ideal.Gen.V_main_arg18 m c
      | exact Cert.Kernel23Ideal.Gen.V_main_arg19 m c
  · run_from Cert.Reference23Ideal.Value.run m' g'
    all_goals obtain ⟨h0, h1, h2, h3, h4, h5, h6, h7, h8, h9, h10, h11, h12, h13, h14, h15, h16, h17, h18, h19⟩ := hagree c
    · rw [Cert.AdamSmall.end4, ← h0, ← h1, ← h2, ← h3, ← h4]; rfl
    · rw [Cert.AdamSmall.end5, ← h0, ← h1, ← h2, ← h3, ← h4, ← h5, ← h6, ← h7, ← h8, ← h9, ← h10, ← h11, ← h12, ← h13, ← h14, ← h15, ← h16, ← h17, ← h18, ← h19]; rfl
    · rw [Cert.AdamSmall.end6, ← h0, ← h1, ← h2, ← h3, ← h4, ← h10, ← h11, ← h12, ← h13, ← h14]; rfl
    · rw [Cert.AdamSmall.end7, ← h0, ← h1, ← h2, ← h3, ← h4, ← h15, ← h16, ← h17, ← h18, ← h19]; rfl

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Reference12Ideal
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Reference13Ideal
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Reference14Ideal
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Reference15Ideal
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Reference16Ideal
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Reference17Ideal
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Reference18Ideal
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Reference19Ideal
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Reference20Ideal
public import proofs.«01_k».proof.Proof.Gen.Kernel21
public import proofs.«01_k».proof.Proof.Gen.Kernel21.Skeleton
public import proofs.«01_k».proof.Proof.Gen.Kernel21.Launch
public import proofs.«01_k».proof.Proof.Gen.Kernel21.Points
public import proofs.«01_k».proof.Proof.Gen.Kernel21.Frame
public import proofs.«01_k».proof.Proof.Gen.Kernel21Ideal
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Kernel21Ideal.Frame
public import proofs.«01_k».proof.Proof.Gen.Reference21Ideal
public import proofs.«01_k».proof.Proof.Gen.Kernel22
public import proofs.«01_k».proof.Proof.Gen.Kernel22.Skeleton
public import proofs.«01_k».proof.Proof.Gen.Kernel22.Launch
public import proofs.«01_k».proof.Proof.Gen.Kernel22.Points
public import proofs.«01_k».proof.Proof.Gen.Kernel22.Frame
public import proofs.«01_k».proof.Proof.Gen.Kernel22Ideal
public import proofs.«01_k».proof.Proof.Gen.Kernel22Ideal.Skeleton
public import proofs.«01_k».proof.Proof.Gen.Kernel22Ideal.Launch
public import proofs.«01_k».proof.Proof.Gen.Kernel22Ideal.Points
public import proofs.«01_k».proof.Proof.Gen.Kernel22Ideal.Frame
public import proofs.«01_k».proof.Proof.Gen.Reference22Ideal
public import proofs.«01_k».proof.Proof.Gen.Kernel23
public import proofs.«01_k».proof.Proof.Gen.Kernel23.Skeleton
public import proofs.«01_k».proof.Proof.Gen.Kernel23.Launch
public import proofs.«01_k».proof.Proof.Gen.Kernel23.Points
public import proofs.«01_k».proof.Proof.Gen.Kernel23.Frame
public import proofs.«01_k».proof.Proof.Gen.Kernel23Ideal
public import proofs.«01_k».proof.Proof.Gen.Kernel23Ideal.Skeleton
public import proofs.«01_k».proof.Proof.Gen.Kernel23Ideal.Launch
public import proofs.«01_k».proof.Proof.Gen.Kernel23Ideal.Points
public import proofs.«01_k».proof.Proof.Gen.Kernel23Ideal.Frame
public import proofs.«01_k».proof.Proof.Gen.Reference23Ideal
public import proofs.«01_k».proof.Proof.Gen.Pre_finite
public import proofs.«01_k».proof.Proof.ConvFinal
public import proofs.«01_k».proof.Proof.DownX
public import proofs.«01_k».proof.Proof.DownW
public import proofs.«01_k».proof.Proof.UpX
public import proofs.«01_k».proof.Proof.UpW
public import proofs.«01_k».proof.Proof.QkvX
public import proofs.«01_k».proof.Proof.QkvW
public import proofs.«01_k».proof.Proof.WoAX
public import proofs.«01_k».proof.Proof.WoAW
public import proofs.«01_k».proof.Proof.WoBX
public import proofs.«01_k».proof.Proof.WqBX
public import proofs.«01_k».proof.Proof.WqBW
public import proofs.«01_k».proof.Proof.KvfX
public import proofs.«01_k».proof.Proof.KvfW
public import proofs.«01_k».proof.Proof.Up
public import proofs.«01_k».proof.Proof.Down
public import proofs.«01_k».proof.Proof.Qkv
public import proofs.«01_k».proof.Proof.WoA
public import proofs.«01_k».proof.Proof.WqB
public import proofs.«01_k».proof.Proof.WoB
public import proofs.«01_k».proof.Proof.Kvf
public import proofs.«01_k».proof.Proof.AdamKvf
public import proofs.«01_k».proof.Proof.AdamSmall
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem Cert.Kernel

theorem frame_ReferenceIdeal : Cert.quiescent_ReferenceIdeal := by
  intro m g _
  exact (θ_run Cert.ReferenceIdeal.defs _ _).mono (fun r h => ⟨fun c => (h c).2.2.2,
    Idealize.ShloMosaic.sem_eq_zero_of_no_sems (by decide) r.2⟩) (Cert.ReferenceIdeal.Value.run m g)

theorem frame_Reference2Ideal : Cert.quiescent_Reference2Ideal := by
  intro m g _
  exact (θ_run Cert.Reference2Ideal.defs _ _).mono (fun r h => ⟨fun c => (h c).2,
    Idealize.ShloMosaic.sem_eq_zero_of_no_sems (by decide) r.2⟩) (Cert.Reference2Ideal.Value.run m g)

theorem frame_Reference3Ideal : Cert.quiescent_Reference3Ideal := by
  intro m g _
  exact (θ_run Cert.Reference3Ideal.defs _ _).mono (fun r h => ⟨fun c => (h c).2,
    Idealize.ShloMosaic.sem_eq_zero_of_no_sems (by decide) r.2⟩) (Cert.Reference3Ideal.Value.run m g)

theorem frame_Reference4Ideal : Cert.quiescent_Reference4Ideal := by
  intro m g _
  exact (θ_run Cert.Reference4Ideal.defs _ _).mono (fun r h => ⟨fun c => (h c).2,
    Idealize.ShloMosaic.sem_eq_zero_of_no_sems (by decide) r.2⟩) (Cert.Reference4Ideal.Value.run m g)

theorem frame_Reference5Ideal : Cert.quiescent_Reference5Ideal := by
  intro m g _
  exact (θ_run Cert.Reference5Ideal.defs _ _).mono (fun r h => ⟨fun c => (h c).2,
    Idealize.ShloMosaic.sem_eq_zero_of_no_sems (by decide) r.2⟩) (Cert.Reference5Ideal.Value.run m g)

theorem frame_Reference6Ideal : Cert.quiescent_Reference6Ideal := by
  intro m g _
  exact (θ_run Cert.Reference6Ideal.defs _ _).mono (fun r h => ⟨fun c => (h c).2,
    Idealize.ShloMosaic.sem_eq_zero_of_no_sems (by decide) r.2⟩) (Cert.Reference6Ideal.Value.run m g)

theorem frame_Reference7Ideal : Cert.quiescent_Reference7Ideal := by
  intro m g _
  exact (θ_run Cert.Reference7Ideal.defs _ _).mono (fun r h => ⟨fun c => (h c).2,
    Idealize.ShloMosaic.sem_eq_zero_of_no_sems (by decide) r.2⟩) (Cert.Reference7Ideal.Value.run m g)

theorem frame_Reference8Ideal : Cert.quiescent_Reference8Ideal := by
  intro m g _
  exact (θ_run Cert.Reference8Ideal.defs _ _).mono (fun r h => ⟨fun c => (h c).2,
    Idealize.ShloMosaic.sem_eq_zero_of_no_sems (by decide) r.2⟩) (Cert.Reference8Ideal.Value.run m g)

theorem frame_Reference9Ideal : Cert.quiescent_Reference9Ideal := by
  intro m g _
  exact (θ_run Cert.Reference9Ideal.defs _ _).mono (fun r h => ⟨fun c => (h c).2,
    Idealize.ShloMosaic.sem_eq_zero_of_no_sems (by decide) r.2⟩) (Cert.Reference9Ideal.Value.run m g)

theorem frame_Reference10Ideal : Cert.quiescent_Reference10Ideal := by
  intro m g _
  exact (θ_run Cert.Reference10Ideal.defs _ _).mono (fun r h => ⟨fun c => (h c).2,
    Idealize.ShloMosaic.sem_eq_zero_of_no_sems (by decide) r.2⟩) (Cert.Reference10Ideal.Value.run m g)

theorem frame_Reference11Ideal : Cert.quiescent_Reference11Ideal := by
  intro m g _
  exact (θ_run Cert.Reference11Ideal.defs _ _).mono (fun r h => ⟨fun c => (h c).2,
    Idealize.ShloMosaic.sem_eq_zero_of_no_sems (by decide) r.2⟩) (Cert.Reference11Ideal.Value.run m g)

theorem frame_Reference12Ideal : Cert.quiescent_Reference12Ideal := by
  intro m g _
  exact (θ_run Cert.Reference12Ideal.defs _ _).mono (fun r h => ⟨fun c => (h c).2,
    Idealize.ShloMosaic.sem_eq_zero_of_no_sems (by decide) r.2⟩) (Cert.Reference12Ideal.Value.run m g)

theorem frame_Reference13Ideal : Cert.quiescent_Reference13Ideal := by
  intro m g _
  exact (θ_run Cert.Reference13Ideal.defs _ _).mono (fun r h => ⟨fun c => (h c).2,
    Idealize.ShloMosaic.sem_eq_zero_of_no_sems (by decide) r.2⟩) (Cert.Reference13Ideal.Value.run m g)

theorem frame_Reference14Ideal : Cert.quiescent_Reference14Ideal := by
  intro m g _
  exact (θ_run Cert.Reference14Ideal.defs _ _).mono (fun r h => ⟨fun c => (h c).2,
    Idealize.ShloMosaic.sem_eq_zero_of_no_sems (by decide) r.2⟩) (Cert.Reference14Ideal.Value.run m g)

theorem frame_Reference15Ideal : Cert.quiescent_Reference15Ideal := by
  intro m g _
  exact (θ_run Cert.Reference15Ideal.defs _ _).mono (fun r h => ⟨fun c => (h c).2,
    Idealize.ShloMosaic.sem_eq_zero_of_no_sems (by decide) r.2⟩) (Cert.Reference15Ideal.Value.run m g)

theorem frame_Reference16Ideal : Cert.quiescent_Reference16Ideal := by
  intro m g _
  exact (θ_run Cert.Reference16Ideal.defs _ _).mono (fun r h => ⟨fun c => (h c).2,
    Idealize.ShloMosaic.sem_eq_zero_of_no_sems (by decide) r.2⟩) (Cert.Reference16Ideal.Value.run m g)

theorem frame_Reference17Ideal : Cert.quiescent_Reference17Ideal := by
  intro m g _
  exact (θ_run Cert.Reference17Ideal.defs _ _).mono (fun r h => ⟨fun c => (h c).2,
    Idealize.ShloMosaic.sem_eq_zero_of_no_sems (by decide) r.2⟩) (Cert.Reference17Ideal.Value.run m g)

theorem frame_Reference18Ideal : Cert.quiescent_Reference18Ideal := by
  intro m g _
  exact (θ_run Cert.Reference18Ideal.defs _ _).mono (fun r h => ⟨fun c => (h c).2,
    Idealize.ShloMosaic.sem_eq_zero_of_no_sems (by decide) r.2⟩) (Cert.Reference18Ideal.Value.run m g)

theorem frame_Reference19Ideal : Cert.quiescent_Reference19Ideal := by
  intro m g _
  exact (θ_run Cert.Reference19Ideal.defs _ _).mono (fun r h => ⟨fun c => (h c).2,
    Idealize.ShloMosaic.sem_eq_zero_of_no_sems (by decide) r.2⟩) (Cert.Reference19Ideal.Value.run m g)

theorem frame_Reference20Ideal : Cert.quiescent_Reference20Ideal := by
  intro m g _
  exact (θ_run Cert.Reference20Ideal.defs _ _).mono (fun r h => ⟨fun c => (h c).2,
    Idealize.ShloMosaic.sem_eq_zero_of_no_sems (by decide) r.2⟩) (Cert.Reference20Ideal.Value.run m g)

theorem frame_Reference21Ideal : Cert.quiescent_Reference21Ideal := by
  intro m g _
  exact (θ_run Cert.Reference21Ideal.defs _ _).mono (fun r h => ⟨fun c => (h c).2,
    Idealize.ShloMosaic.sem_eq_zero_of_no_sems (by decide) r.2⟩) (Cert.Reference21Ideal.Value.run m g)

theorem frame_Reference22Ideal : Cert.quiescent_Reference22Ideal := by
  intro m g _
  exact (θ_run Cert.Reference22Ideal.defs _ _).mono (fun r h => ⟨fun c => (h c).2.2.2.2,
    Idealize.ShloMosaic.sem_eq_zero_of_no_sems (by decide) r.2⟩) (Cert.Reference22Ideal.Value.run m g)

theorem frame_Reference23Ideal : Cert.quiescent_Reference23Ideal := by
  intro m g _
  exact (θ_run Cert.Reference23Ideal.defs _ _).mono (fun r h => ⟨fun c => (h c).2.2.2.2,
    Idealize.ShloMosaic.sem_eq_zero_of_no_sems (by decide) r.2⟩) (Cert.Reference23Ideal.Value.run m g)

theorem named : Cert.preserves_Kernel_KernelIdeal := by
  constructor <;> exact IdealRules.named_const.statement _ _ _ _ _ rfl

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Kernel20.Gen.facts, Cert.Kernel20Ideal.Gen.facts, Cert.Reference20Ideal.Gen.facts, Cert.Kernel21.Gen.facts, Cert.Kernel21Ideal.Gen.facts, Cert.Reference21Ideal.Gen.facts, Cert.Kernel22.Gen.facts, Cert.Kernel22Ideal.Gen.facts, Cert.Reference22Ideal.Gen.facts, Cert.Kernel23.Gen.facts, Cert.Kernel23Ideal.Gen.facts, Cert.Reference23Ideal.Gen.facts, Cert.Pre_finite.Gen.facts,
  fun m ρ _ => Cert.Kernel.Gen.frame m ρ,
  fun m ρ _ => Cert.KernelIdeal.Gen.frame m ρ,
  fun m ρ _ => Cert.KernelIdeal.Gen.frame m ρ,
  frame_ReferenceIdeal,
  fun m ρ _ => frame_ReferenceIdeal m ρ trivial,
  fun m ρ _ => Cert.Kernel2.Gen.frame m ρ,
  fun m ρ _ => Cert.Kernel2Ideal.Gen.frame m ρ,
  frame_Reference2Ideal,
  fun m ρ _ => Cert.Kernel3.Gen.frame m ρ,
  fun m ρ _ => Cert.Kernel3Ideal.Gen.frame m ρ,
  frame_Reference3Ideal,
  fun m ρ _ => Cert.Kernel4.Gen.frame m ρ,
  fun m ρ _ => Cert.Kernel4Ideal.Gen.frame m ρ,
  frame_Reference4Ideal,
  fun m ρ _ => Cert.Kernel5.Gen.frame m ρ,
  fun m ρ _ => Cert.Kernel5Ideal.Gen.frame m ρ,
  frame_Reference5Ideal,
  fun m ρ _ => Cert.Kernel6.Gen.frame m ρ,
  fun m ρ _ => Cert.Kernel6Ideal.Gen.frame m ρ,
  frame_Reference6Ideal,
  fun m ρ _ => Cert.Kernel7.Gen.frame m ρ,
  fun m ρ _ => Cert.Kernel7Ideal.Gen.frame m ρ,
  frame_Reference7Ideal,
  fun m ρ _ => Cert.Kernel8.Gen.frame m ρ,
  fun m ρ _ => Cert.Kernel8Ideal.Gen.frame m ρ,
  frame_Reference8Ideal,
  fun m ρ _ => Cert.Kernel9.Gen.frame m ρ,
  fun m ρ _ => Cert.Kernel9Ideal.Gen.frame m ρ,
  frame_Reference9Ideal,
  fun m ρ _ => Cert.Kernel10.Gen.frame m ρ,
  fun m ρ _ => Cert.Kernel10Ideal.Gen.frame m ρ,
  frame_Reference10Ideal,
  fun m ρ _ => Cert.Kernel11.Gen.frame m ρ,
  fun m ρ _ => Cert.Kernel11Ideal.Gen.frame m ρ,
  frame_Reference11Ideal,
  fun m ρ _ => Cert.Kernel12.Gen.frame m ρ,
  fun m ρ _ => Cert.Kernel12Ideal.Gen.frame m ρ,
  frame_Reference12Ideal,
  fun m ρ _ => Cert.Kernel13.Gen.frame m ρ,
  fun m ρ _ => Cert.Kernel13Ideal.Gen.frame m ρ,
  frame_Reference13Ideal,
  fun m ρ _ => Cert.Kernel14.Gen.frame m ρ,
  fun m ρ _ => Cert.Kernel14Ideal.Gen.frame m ρ,
  frame_Reference14Ideal,
  fun m ρ _ => Cert.Kernel15.Gen.frame m ρ,
  fun m ρ _ => Cert.Kernel15Ideal.Gen.frame m ρ,
  frame_Reference15Ideal,
  fun m ρ _ => Cert.Kernel16.Gen.frame m ρ,
  fun m ρ _ => Cert.Kernel16Ideal.Gen.frame m ρ,
  frame_Reference16Ideal,
  fun m ρ _ => Cert.Kernel17.Gen.frame m ρ,
  fun m ρ _ => Cert.Kernel17Ideal.Gen.frame m ρ,
  frame_Reference17Ideal,
  fun m ρ _ => Cert.Kernel18.Gen.frame m ρ,
  fun m ρ _ => Cert.Kernel18Ideal.Gen.frame m ρ,
  frame_Reference18Ideal,
  fun m ρ _ => Cert.Kernel19.Gen.frame m ρ,
  fun m ρ _ => Cert.Kernel19Ideal.Gen.frame m ρ,
  frame_Reference19Ideal,
  fun m ρ _ => Cert.Kernel20.Gen.frame m ρ,
  fun m ρ _ => Cert.Kernel20Ideal.Gen.frame m ρ,
  frame_Reference20Ideal,
  fun m ρ _ => Cert.Kernel21.Gen.frame m ρ,
  fun m ρ _ => Cert.Kernel21Ideal.Gen.frame m ρ,
  frame_Reference21Ideal,
  fun m ρ _ => Cert.Kernel22.Gen.frame m ρ,
  fun m ρ _ => Cert.Kernel22Ideal.Gen.frame m ρ,
  frame_Reference22Ideal,
  fun m ρ _ => Cert.Kernel23.Gen.frame m ρ,
  fun m ρ _ => Cert.Kernel23Ideal.Gen.frame m ρ,
  frame_Reference23Ideal,
  named,
  Cert.Conv.algebraic,
  trivial,
  Cert.DownX.algebraic,
  trivial,
  Cert.DownW.algebraic,
  trivial,
  Cert.UpX.algebraic,
  trivial,
  Cert.UpW.algebraic,
  trivial,
  Cert.QkvX.algebraic,
  trivial,
  Cert.QkvW.algebraic,
  trivial,
  Cert.WoAX.algebraic,
  trivial,
  Cert.WoAW.algebraic,
  trivial,
  Cert.WoBX.algebraic,
  trivial,
  Cert.WqBX.algebraic,
  trivial,
  Cert.WqBW.algebraic,
  trivial,
  Cert.KvfX.algebraic,
  trivial,
  Cert.KvfW.algebraic,
  trivial,
  Cert.Up.algebraic,
  trivial,
  Cert.Down.algebraic,
  trivial,
  Cert.Qkv.algebraic,
  trivial,
  Cert.WoA.algebraic,
  trivial,
  Cert.WqB.algebraic,
  trivial,
  Cert.WoB.algebraic,
  trivial,
  Cert.Kvf.algebraic,
  trivial,
  Cert.AdamKvf.algebraic,
  trivial,
  Cert.AdamSmall.algebraic⟩

end Cert.Proof

end
